-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Silu (m : (ℓ : Loc Cert.Silu.nD Cert.Silu.τ Cert.Silu.sig) → Buf (Elt Bits) ℓ) : Prop :=
  True

def Pre_SiluIdeal (m : (ℓ : Loc Cert.SiluIdeal.nD Cert.SiluIdeal.τ Cert.SiluIdeal.sig) → Buf (Elt Ideal) ℓ) : Prop :=
  True

def Pre_SiluRefIdeal (m : (ℓ : Loc Cert.SiluRefIdeal.nD Cert.SiluRefIdeal.τ Cert.SiluRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_GateGla (m : (ℓ : Loc Cert.GateGla.nD Cert.GateGla.τ Cert.GateGla.sig) → Buf (Elt Bits) ℓ) : Prop :=
  True

def Pre_GateGlaIdeal (m : (ℓ : Loc Cert.GateGlaIdeal.nD Cert.GateGlaIdeal.τ Cert.GateGlaIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_rotary_tables [hPre_rotary_tables : Cert.Pre_rotary_tables.Facts] (m : (ℓ : Loc Cert.PrepIdeal.nD Cert.PrepIdeal.τ Cert.PrepIdeal.sig) → Buf (Elt Ideal) ℓ) : Prop :=
  ∀ c : Dev Cert.PrepIdeal.nD,
    (Cert.Pre_rotary_tables.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_rotary_tables [hPre_rotary_tables : Cert.Pre_rotary_tables.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_rotary_tables.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8))) = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Regroup (m : (ℓ : Loc Cert.Regroup.nD Cert.Regroup.τ Cert.Regroup.sig) → Buf (Elt Bits) ℓ) : Prop :=
  True

def Pre_RegroupIdeal (m : (ℓ : Loc Cert.RegroupIdeal.nD Cert.RegroupIdeal.τ Cert.RegroupIdeal.sig) → Buf (Elt Ideal) ℓ) : Prop :=
  True

def Pre_RegroupRefIdeal (m : (ℓ : Loc Cert.RegroupRefIdeal.nD Cert.RegroupRefIdeal.τ Cert.RegroupRefIdeal.sig) → Buf (Elt Ideal) ℓ) : Prop :=
  True

def Pre_Cast (m : (ℓ : Loc Cert.Cast.nD Cert.Cast.τ Cert.Cast.sig) → Buf (Elt Bits) ℓ) : Prop :=
  True

def Pre_CastIdeal (m : (ℓ : Loc Cert.CastIdeal.nD Cert.CastIdeal.τ Cert.CastIdeal.sig) → Buf (Elt Ideal) ℓ) : Prop :=
  True

def Pre_CastRefIdeal (m : (ℓ : Loc Cert.CastRefIdeal.nD Cert.CastRefIdeal.τ Cert.CastRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2))
      ∧ r.2.sem = fun _ => 0)

def quiescent_Silu [hSilu : Cert.Silu.Facts] : Prop :=
  ∀ (m : (ℓ : Loc Cert.Silu.nD Cert.Silu.τ Cert.Silu.sig) → Buf (Elt Bits) ℓ) (g : Dev Cert.Silu.nD → PrngReg), Pre_Silu m →
    θ_run (Cert.Silu.defs (F := Bits)) (onTc (τ := Cert.Silu.τ) (Cert.Silu.main (F := Bits))) ⟨m, fun _ => 0, g⟩ (fun r => (∀ c : Dev Cert.Silu.nD,
      r.2.mem ((c.tc : Thread Cert.Silu.nD Cert.Silu.τ).loc Cert.Silu.main_arg0) = m ((c.tc : Thread Cert.Silu.nD Cert.Silu.τ).loc Cert.Silu.main_arg0)
      ∧ r.2.mem ((c.tc : Thread Cert.Silu.nD Cert.Silu.τ).loc Cert.Silu.main_arg1) = m ((c.tc : Thread Cert.Silu.nD Cert.Silu.τ).loc Cert.Silu.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def quiescent_SiluRefIdeal [hSiluRefIdeal : Cert.SiluRefIdeal.Facts] : Prop :=
  ∀ (m : (ℓ : Loc Cert.SiluRefIdeal.nD Cert.SiluRefIdeal.τ Cert.SiluRefIdeal.sig) → Buf (Elt Ideal) ℓ) (g : Dev Cert.SiluRefIdeal.nD → PrngReg), Pre_SiluRefIdeal m →
    θ_run (Cert.SiluRefIdeal.defs (F := Ideal)) (onTc (τ := Cert.SiluRefIdeal.τ) (Cert.SiluRefIdeal.main (F := Ideal))) ⟨m, fun _ => 0, g⟩ (fun r => (∀ c : Dev Cert.SiluRefIdeal.nD,
      r.2.mem ((c.tc : Thread Cert.SiluRefIdeal.nD Cert.SiluRefIdeal.τ).loc Cert.SiluRefIdeal.main_arg0) = m ((c.tc : Thread Cert.SiluRefIdeal.nD Cert.SiluRefIdeal.τ).loc Cert.SiluRefIdeal.main_arg0)
      ∧ r.2.mem ((c.tc : Thread Cert.SiluRefIdeal.nD Cert.SiluRefIdeal.τ).loc Cert.SiluRefIdeal.main_arg1) = m ((c.tc : Thread Cert.SiluRefIdeal.nD Cert.SiluRefIdeal.τ).loc Cert.SiluRefIdeal.main_arg1))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_GateGla [hGateGla : Cert.GateGla.Facts] : Prop :=
  ∀ (m : (ℓ : Loc Cert.GateGla.nD Cert.GateGla.τ Cert.GateGla.sig) → Buf (Elt Bits) ℓ) (g : Dev Cert.GateGla.nD → PrngReg), Pre_GateGla m →
    θ_run (Cert.GateGla.defs (F := Bits)) (onTc (τ := Cert.GateGla.τ) (Cert.GateGla.main (F := Bits))) ⟨m, fun _ => 0, g⟩ (fun r => (∀ c : Dev Cert.GateGla.nD,
      r.2.mem ((c.tc : Thread Cert.GateGla.nD Cert.GateGla.τ).loc Cert.GateGla.main_arg0) = m ((c.tc : Thread Cert.GateGla.nD Cert.GateGla.τ).loc Cert.GateGla.main_arg0)
      ∧ r.2.mem ((c.tc : Thread Cert.GateGla.nD Cert.GateGla.τ).loc Cert.GateGla.main_arg1) = m ((c.tc : Thread Cert.GateGla.nD Cert.GateGla.τ).loc Cert.GateGla.main_arg1)
      ∧ r.2.mem ((c.tc : Thread Cert.GateGla.nD Cert.GateGla.τ).loc Cert.GateGla.main_arg2) = m ((c.tc : Thread Cert.GateGla.nD Cert.GateGla.τ).loc Cert.GateGla.main_arg2)
      ∧ r.2.mem ((c.tc : Thread Cert.GateGla.nD Cert.GateGla.τ).loc Cert.GateGla.main_arg3) = m ((c.tc : Thread Cert.GateGla.nD Cert.GateGla.τ).loc Cert.GateGla.main_arg3)
      ∧ r.2.mem ((c.tc : Thread Cert.GateGla.nD Cert.GateGla.τ).loc Cert.GateGla.main_arg4) = m ((c.tc : Thread Cert.GateGla.nD Cert.GateGla.τ).loc Cert.GateGla.main_arg4)
      ∧ r.2.mem ((c.tc : Thread Cert.GateGla.nD Cert.GateGla.τ).loc Cert.GateGla.main_arg5) = m ((c.tc : Thread Cert.GateGla.nD Cert.GateGla.τ).loc Cert.GateGla.main_arg5)
      ∧ r.2.mem ((c.tc : Thread Cert.GateGla.nD Cert.GateGla.τ).loc Cert.GateGla.main_arg6) = m ((c.tc : Thread Cert.GateGla.nD Cert.GateGla.τ).loc Cert.GateGla.main_arg6)
      ∧ r.2.mem ((c.tc : Thread Cert.GateGla.nD Cert.GateGla.τ).loc Cert.GateGla.main_arg7) = m ((c.tc : Thread Cert.GateGla.nD Cert.GateGla.τ).loc Cert.GateGla.main_arg7))
      ∧ r.2.sem = fun _ => 0)

def quiescent_GateGlaIdeal [hGateGlaIdeal : Cert.GateGlaIdeal.Facts] : Prop :=
  ∀ (m : (ℓ : Loc Cert.GateGlaIdeal.nD Cert.GateGlaIdeal.τ Cert.GateGlaIdeal.sig) → Buf (Elt Ideal) ℓ) (g : Dev Cert.GateGlaIdeal.nD → PrngReg), Pre_GateGlaIdeal m →
    θ_run (Cert.GateGlaIdeal.defs (F := Ideal)) (onTc (τ := Cert.GateGlaIdeal.τ) (Cert.GateGlaIdeal.main (F := Ideal))) ⟨m, fun _ => 0, g⟩ (fun r => (∀ c : Dev Cert.GateGlaIdeal.nD,
      r.2.mem ((c.tc : Thread Cert.GateGlaIdeal.nD Cert.GateGlaIdeal.τ).loc Cert.GateGlaIdeal.main_arg0) = m ((c.tc : Thread Cert.GateGlaIdeal.nD Cert.GateGlaIdeal.τ).loc Cert.GateGlaIdeal.main_arg0)
      ∧ r.2.mem ((c.tc : Thread Cert.GateGlaIdeal.nD Cert.GateGlaIdeal.τ).loc Cert.GateGlaIdeal.main_arg1) = m ((c.tc : Thread Cert.GateGlaIdeal.nD Cert.GateGlaIdeal.τ).loc Cert.GateGlaIdeal.main_arg1)
      ∧ r.2.mem ((c.tc : Thread Cert.GateGlaIdeal.nD Cert.GateGlaIdeal.τ).loc Cert.GateGlaIdeal.main_arg2) = m ((c.tc : Thread Cert.GateGlaIdeal.nD Cert.GateGlaIdeal.τ).loc Cert.GateGlaIdeal.main_arg2)
      ∧ r.2.mem ((c.tc : Thread Cert.GateGlaIdeal.nD Cert.GateGlaIdeal.τ).loc Cert.GateGlaIdeal.main_arg3) = m ((c.tc : Thread Cert.GateGlaIdeal.nD Cert.GateGlaIdeal.τ).loc Cert.GateGlaIdeal.main_arg3)
      ∧ r.2.mem ((c.tc : Thread Cert.GateGlaIdeal.nD Cert.GateGlaIdeal.τ).loc Cert.GateGlaIdeal.main_arg4) = m ((c.tc : Thread Cert.GateGlaIdeal.nD Cert.GateGlaIdeal.τ).loc Cert.GateGlaIdeal.main_arg4)
      ∧ r.2.mem ((c.tc : Thread Cert.GateGlaIdeal.nD Cert.GateGlaIdeal.τ).loc Cert.GateGlaIdeal.main_arg5) = m ((c.tc : Thread Cert.GateGlaIdeal.nD Cert.GateGlaIdeal.τ).loc Cert.GateGlaIdeal.main_arg5)
      ∧ r.2.mem ((c.tc : Thread Cert.GateGlaIdeal.nD Cert.GateGlaIdeal.τ).loc Cert.GateGlaIdeal.main_arg6) = m ((c.tc : Thread Cert.GateGlaIdeal.nD Cert.GateGlaIdeal.τ).loc Cert.GateGlaIdeal.main_arg6)
      ∧ r.2.mem ((c.tc : Thread Cert.GateGlaIdeal.nD Cert.GateGlaIdeal.τ).loc Cert.GateGlaIdeal.main_arg7) = m ((c.tc : Thread Cert.GateGlaIdeal.nD Cert.GateGlaIdeal.τ).loc Cert.GateGlaIdeal.main_arg7))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6)
      ∧ r.2.mem ((c.tc : Thread Cert.GateRefIdeal.nD Cert.GateRefIdeal.τ).loc Cert.GateRefIdeal.main_arg7) = m ((c.tc : Thread Cert.GateRefIdeal.nD Cert.GateRefIdeal.τ).loc Cert.GateRefIdeal.main_arg7))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepIdeal_pre_rotary_tables [hPrepIdeal : Cert.PrepIdeal.Facts] [hPre_rotary_tables : Cert.Pre_rotary_tables.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_rotary_tables m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_PrepRefIdeal_pre_rotary_tables [hPrepRefIdeal : Cert.PrepRefIdeal.Facts] [hPre_rotary_tables : Cert.Pre_rotary_tables.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_rotary_tables m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Regroup [hRegroup : Cert.Regroup.Facts] : Prop :=
  ∀ (m : (ℓ : Loc Cert.Regroup.nD Cert.Regroup.τ Cert.Regroup.sig) → Buf (Elt Bits) ℓ) (g : Dev Cert.Regroup.nD → PrngReg), Pre_Regroup m →
    θ_run (Cert.Regroup.defs (F := Bits)) (onTc (τ := Cert.Regroup.τ) (Cert.Regroup.main (F := Bits))) ⟨m, fun _ => 0, g⟩ (fun r => (∀ c : Dev Cert.Regroup.nD,
      r.2.mem ((c.tc : Thread Cert.Regroup.nD Cert.Regroup.τ).loc Cert.Regroup.main_arg0) = m ((c.tc : Thread Cert.Regroup.nD Cert.Regroup.τ).loc Cert.Regroup.main_arg0))
      ∧ r.2.sem = fun _ => 0)

def quiescent_RegroupIdeal [hRegroupIdeal : Cert.RegroupIdeal.Facts] : Prop :=
  ∀ (m : (ℓ : Loc Cert.RegroupIdeal.nD Cert.RegroupIdeal.τ Cert.RegroupIdeal.sig) → Buf (Elt Ideal) ℓ) (g : Dev Cert.RegroupIdeal.nD → PrngReg), Pre_RegroupIdeal m →
    θ_run (Cert.RegroupIdeal.defs (F := Ideal)) (onTc (τ := Cert.RegroupIdeal.τ) (Cert.RegroupIdeal.main (F := Ideal))) ⟨m, fun _ => 0, g⟩ (fun r => (∀ c : Dev Cert.RegroupIdeal.nD,
      r.2.mem ((c.tc : Thread Cert.RegroupIdeal.nD Cert.RegroupIdeal.τ).loc Cert.RegroupIdeal.main_arg0) = m ((c.tc : Thread Cert.RegroupIdeal.nD Cert.RegroupIdeal.τ).loc Cert.RegroupIdeal.main_arg0))
      ∧ r.2.sem = fun _ => 0)

def quiescent_RegroupRefIdeal [hRegroupRefIdeal : Cert.RegroupRefIdeal.Facts] : Prop :=
  ∀ (m : (ℓ : Loc Cert.RegroupRefIdeal.nD Cert.RegroupRefIdeal.τ Cert.RegroupRefIdeal.sig) → Buf (Elt Ideal) ℓ) (g : Dev Cert.RegroupRefIdeal.nD → PrngReg), Pre_RegroupRefIdeal m →
    θ_run (Cert.RegroupRefIdeal.defs (F := Ideal)) (onTc (τ := Cert.RegroupRefIdeal.τ) (Cert.RegroupRefIdeal.main (F := Ideal))) ⟨m, fun _ => 0, g⟩ (fun r => (∀ c : Dev Cert.RegroupRefIdeal.nD,
      r.2.mem ((c.tc : Thread Cert.RegroupRefIdeal.nD Cert.RegroupRefIdeal.τ).loc Cert.RegroupRefIdeal.main_arg0) = m ((c.tc : Thread Cert.RegroupRefIdeal.nD Cert.RegroupRefIdeal.τ).loc Cert.RegroupRefIdeal.main_arg0))
      ∧ r.2.sem = fun _ => 0)

def quiescent_Cast [hCast : Cert.Cast.Facts] : Prop :=
  ∀ (m : (ℓ : Loc Cert.Cast.nD Cert.Cast.τ Cert.Cast.sig) → Buf (Elt Bits) ℓ) (g : Dev Cert.Cast.nD → PrngReg), Pre_Cast m →
    θ_run (Cert.Cast.defs (F := Bits)) (onTc (τ := Cert.Cast.τ) (Cert.Cast.main (F := Bits))) ⟨m, fun _ => 0, g⟩ (fun r => (∀ c : Dev Cert.Cast.nD,
      r.2.mem ((c.tc : Thread Cert.Cast.nD Cert.Cast.τ).loc Cert.Cast.main_arg0) = m ((c.tc : Thread Cert.Cast.nD Cert.Cast.τ).loc Cert.Cast.main_arg0))
      ∧ r.2.sem = fun _ => 0)

def quiescent_CastIdeal [hCastIdeal : Cert.CastIdeal.Facts] : Prop :=
  ∀ (m : (ℓ : Loc Cert.CastIdeal.nD Cert.CastIdeal.τ Cert.CastIdeal.sig) → Buf (Elt Ideal) ℓ) (g : Dev Cert.CastIdeal.nD → PrngReg), Pre_CastIdeal m →
    θ_run (Cert.CastIdeal.defs (F := Ideal)) (onTc (τ := Cert.CastIdeal.τ) (Cert.CastIdeal.main (F := Ideal))) ⟨m, fun _ => 0, g⟩ (fun r => (∀ c : Dev Cert.CastIdeal.nD,
      r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ r.2.sem = fun _ => 0)

def quiescent_CastRefIdeal [hCastRefIdeal : Cert.CastRefIdeal.Facts] : Prop :=
  ∀ (m : (ℓ : Loc Cert.CastRefIdeal.nD Cert.CastRefIdeal.τ Cert.CastRefIdeal.sig) → Buf (Elt Ideal) ℓ) (g : Dev Cert.CastRefIdeal.nD → PrngReg), Pre_CastRefIdeal m →
    θ_run (Cert.CastRefIdeal.defs (F := Ideal)) (onTc (τ := Cert.CastRefIdeal.τ) (Cert.CastRefIdeal.main (F := Ideal))) ⟨m, fun _ => 0, g⟩ (fun r => (∀ c : Dev Cert.CastRefIdeal.nD,
      r.2.mem ((c.tc : Thread Cert.CastRefIdeal.nD Cert.CastRefIdeal.τ).loc Cert.CastRefIdeal.main_arg0) = m ((c.tc : Thread Cert.CastRefIdeal.nD Cert.CastRefIdeal.τ).loc Cert.CastRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v13) = v0 c
          ∧ r.2.mem ((c.tc : Thread Cert.NormRefIdeal.nD Cert.NormRefIdeal.τ).loc Cert.NormRefIdeal.main_v16) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2))

def preserves_Silu_SiluIdeal : Prop :=
  True

def algebraic_SiluIdeal_SiluRefIdeal [hSiluIdeal : Cert.SiluIdeal.Facts] [hSiluRefIdeal : Cert.SiluRefIdeal.Facts] : Prop :=
  ∀ (m : (ℓ : Loc Cert.SiluIdeal.nD Cert.SiluIdeal.τ Cert.SiluIdeal.sig) → Buf (Elt Ideal) ℓ) (g : Dev Cert.SiluIdeal.nD → PrngReg)
    (m' : (ℓ : Loc Cert.SiluRefIdeal.nD Cert.SiluRefIdeal.τ Cert.SiluRefIdeal.sig) → Buf (Elt Ideal) ℓ) (g' : Dev Cert.SiluRefIdeal.nD → PrngReg), Pre_SiluIdeal m →
    (∀ c : Dev Cert.SiluIdeal.nD,
      m' ((c.tc : Thread Cert.SiluRefIdeal.nD Cert.SiluRefIdeal.τ).loc Cert.SiluRefIdeal.main_arg0) = m ((c.tc : Thread Cert.SiluIdeal.nD Cert.SiluIdeal.τ).loc Cert.SiluIdeal.main_arg0)
      ∧ m' ((c.tc : Thread Cert.SiluRefIdeal.nD Cert.SiluRefIdeal.τ).loc Cert.SiluRefIdeal.main_arg1) = m ((c.tc : Thread Cert.SiluIdeal.nD Cert.SiluIdeal.τ).loc Cert.SiluIdeal.main_arg1)) →
    ∃ (v0 : (c : Dev Cert.SiluIdeal.nD) → Buf (Elt Ideal) ((c.tc : Thread Cert.SiluIdeal.nD Cert.SiluIdeal.τ).loc Cert.SiluIdeal.main_v0)),
      θ_run (Cert.SiluIdeal.defs (F := Ideal)) (onTc (τ := Cert.SiluIdeal.τ) (Cert.SiluIdeal.main (F := Ideal))) ⟨m, fun _ => 0, g⟩ (fun r => ∀ c : Dev Cert.SiluIdeal.nD,
          r.2.mem ((c.tc : Thread Cert.SiluIdeal.nD Cert.SiluIdeal.τ).loc Cert.SiluIdeal.main_v0) = v0 c
          ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
          ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ θ_run (Cert.SiluRefIdeal.defs (F := Ideal)) (onTc (τ := Cert.SiluRefIdeal.τ) (Cert.SiluRefIdeal.main (F := Ideal))) ⟨m', fun _ => 0, g'⟩ (fun r => ∀ c : Dev Cert.SiluRefIdeal.nD,
          r.2.mem ((c.tc : Thread Cert.SiluRefIdeal.nD Cert.SiluRefIdeal.τ).loc Cert.SiluRefIdeal.main_v5) = v0 c
          ∧ r.2.mem ((c.tc : Thread Cert.SiluRefIdeal.nD Cert.SiluRefIdeal.τ).loc Cert.SiluRefIdeal.main_arg0) = m' ((c.tc : Thread Cert.SiluRefIdeal.nD Cert.SiluRefIdeal.τ).loc Cert.SiluRefIdeal.main_arg0)
          ∧ r.2.mem ((c.tc : Thread Cert.SiluRefIdeal.nD Cert.SiluRefIdeal.τ).loc Cert.SiluRefIdeal.main_arg1) = m' ((c.tc : Thread Cert.SiluRefIdeal.nD Cert.SiluRefIdeal.τ).loc Cert.SiluRefIdeal.main_arg1))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v3_0)) (v1 : (c : Dev Cert.SguIdeal.nD) → Buf (Elt Ideal) ((c.tc : Thread Cert.SguIdeal.nD Cert.SguIdeal.τ).loc Cert.SguIdeal.main_v3_1)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v3_0) = v0 c
          ∧ r.2.mem ((c.tc : Thread Cert.SguIdeal.nD Cert.SguIdeal.τ).loc Cert.SguIdeal.main_v3_1) = v1 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v58) = v0 c
          ∧ r.2.mem ((c.tc : Thread Cert.SguRefIdeal.nD Cert.SguRefIdeal.τ).loc Cert.SguRefIdeal.main_v64) = v1 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_GateGla_GateGlaIdeal : Prop :=
  True

def algebraic_GateGlaIdeal_GateRefIdeal_on_merge_gates [hGateGlaIdeal : Cert.GateGlaIdeal.Facts] [hGateRefIdeal : Cert.GateRefIdeal.Facts] [hOn_merge_gates : Cert.On_merge_gates.Facts] : Prop :=
  ∀ (m : (ℓ : Loc Cert.GateGlaIdeal.nD Cert.GateGlaIdeal.τ Cert.GateGlaIdeal.sig) → Buf (Elt Ideal) ℓ) (g : Dev Cert.GateGlaIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateGlaIdeal m →
    (∀ c : Dev Cert.GateGlaIdeal.nD,
      m' ((c.tc : Thread Cert.GateRefIdeal.nD Cert.GateRefIdeal.τ).loc Cert.GateRefIdeal.main_arg0) = m ((c.tc : Thread Cert.GateGlaIdeal.nD Cert.GateGlaIdeal.τ).loc Cert.GateGlaIdeal.main_arg0)
      ∧ m' ((c.tc : Thread Cert.GateRefIdeal.nD Cert.GateRefIdeal.τ).loc Cert.GateRefIdeal.main_arg1) = m ((c.tc : Thread Cert.GateGlaIdeal.nD Cert.GateGlaIdeal.τ).loc Cert.GateGlaIdeal.main_arg1)
      ∧ m' ((c.tc : Thread Cert.GateRefIdeal.nD Cert.GateRefIdeal.τ).loc Cert.GateRefIdeal.main_arg2) = m ((c.tc : Thread Cert.GateGlaIdeal.nD Cert.GateGlaIdeal.τ).loc Cert.GateGlaIdeal.main_arg2)
      ∧ m' ((c.tc : Thread Cert.GateRefIdeal.nD Cert.GateRefIdeal.τ).loc Cert.GateRefIdeal.main_arg3) = m ((c.tc : Thread Cert.GateGlaIdeal.nD Cert.GateGlaIdeal.τ).loc Cert.GateGlaIdeal.main_arg3)
      ∧ m' ((c.tc : Thread Cert.GateRefIdeal.nD Cert.GateRefIdeal.τ).loc Cert.GateRefIdeal.main_arg4) = m ((c.tc : Thread Cert.GateGlaIdeal.nD Cert.GateGlaIdeal.τ).loc Cert.GateGlaIdeal.main_arg4)
      ∧ m' ((c.tc : Thread Cert.GateRefIdeal.nD Cert.GateRefIdeal.τ).loc Cert.GateRefIdeal.main_arg5) = m ((c.tc : Thread Cert.GateGlaIdeal.nD Cert.GateGlaIdeal.τ).loc Cert.GateGlaIdeal.main_arg5)
      ∧ m' ((c.tc : Thread Cert.GateRefIdeal.nD Cert.GateRefIdeal.τ).loc Cert.GateRefIdeal.main_arg6) = m ((c.tc : Thread Cert.GateGlaIdeal.nD Cert.GateGlaIdeal.τ).loc Cert.GateGlaIdeal.main_arg6)
      ∧ m' ((c.tc : Thread Cert.GateRefIdeal.nD Cert.GateRefIdeal.τ).loc Cert.GateRefIdeal.main_arg7) = m ((c.tc : Thread Cert.GateGlaIdeal.nD Cert.GateGlaIdeal.τ).loc Cert.GateGlaIdeal.main_arg7)) →
    ∃ (v0 : (c : Dev Cert.GateGlaIdeal.nD) → Buf (Elt Ideal) ((c.tc : Thread Cert.GateGlaIdeal.nD Cert.GateGlaIdeal.τ).loc Cert.GateGlaIdeal.main_v8_0)) (v1 : (c : Dev Cert.GateGlaIdeal.nD) → Buf (Elt Ideal) ((c.tc : Thread Cert.GateGlaIdeal.nD Cert.GateGlaIdeal.τ).loc Cert.GateGlaIdeal.main_v8_1)),
      θ_run (Cert.GateGlaIdeal.defs (F := Ideal)) (onTc (τ := Cert.GateGlaIdeal.τ) (Cert.GateGlaIdeal.main (F := Ideal))) ⟨m, fun _ => 0, g⟩ (fun r => ∀ c : Dev Cert.GateGlaIdeal.nD,
          (∀ i : (⟨2, ![32768, 6144]⟩ : Shape).Idx, (Cert.On_merge_gates.fn (F := Ideal) (m ((c.tc : Thread Cert.GateGlaIdeal.nD Cert.GateGlaIdeal.τ).loc Cert.GateGlaIdeal.main_arg0)) (m ((c.tc : Thread Cert.GateGlaIdeal.nD Cert.GateGlaIdeal.τ).loc Cert.GateGlaIdeal.main_arg1)) (m ((c.tc : Thread Cert.GateGlaIdeal.nD Cert.GateGlaIdeal.τ).loc Cert.GateGlaIdeal.main_arg2)) (m ((c.tc : Thread Cert.GateGlaIdeal.nD Cert.GateGlaIdeal.τ).loc Cert.GateGlaIdeal.main_arg3)) (m ((c.tc : Thread Cert.GateGlaIdeal.nD Cert.GateGlaIdeal.τ).loc Cert.GateGlaIdeal.main_arg4)) (m ((c.tc : Thread Cert.GateGlaIdeal.nD Cert.GateGlaIdeal.τ).loc Cert.GateGlaIdeal.main_arg5)) (m ((c.tc : Thread Cert.GateGlaIdeal.nD Cert.GateGlaIdeal.τ).loc Cert.GateGlaIdeal.main_arg6)) (m ((c.tc : Thread Cert.GateGlaIdeal.nD Cert.GateGlaIdeal.τ).loc Cert.GateGlaIdeal.main_arg7))).1 i = 1#1 → r.2.mem ((c.tc : Thread Cert.GateGlaIdeal.nD Cert.GateGlaIdeal.τ).loc Cert.GateGlaIdeal.main_v8_0) i = v0 c i)
          ∧ (∀ i : (⟨2, ![32768, 1024]⟩ : Shape).Idx, (Cert.On_merge_gates.fn (F := Ideal) (m ((c.tc : Thread Cert.GateGlaIdeal.nD Cert.GateGlaIdeal.τ).loc Cert.GateGlaIdeal.main_arg0)) (m ((c.tc : Thread Cert.GateGlaIdeal.nD Cert.GateGlaIdeal.τ).loc Cert.GateGlaIdeal.main_arg1)) (m ((c.tc : Thread Cert.GateGlaIdeal.nD Cert.GateGlaIdeal.τ).loc Cert.GateGlaIdeal.main_arg2)) (m ((c.tc : Thread Cert.GateGlaIdeal.nD Cert.GateGlaIdeal.τ).loc Cert.GateGlaIdeal.main_arg3)) (m ((c.tc : Thread Cert.GateGlaIdeal.nD Cert.GateGlaIdeal.τ).loc Cert.GateGlaIdeal.main_arg4)) (m ((c.tc : Thread Cert.GateGlaIdeal.nD Cert.GateGlaIdeal.τ).loc Cert.GateGlaIdeal.main_arg5)) (m ((c.tc : Thread Cert.GateGlaIdeal.nD Cert.GateGlaIdeal.τ).loc Cert.GateGlaIdeal.main_arg6)) (m ((c.tc : Thread Cert.GateGlaIdeal.nD Cert.GateGlaIdeal.τ).loc Cert.GateGlaIdeal.main_arg7))).2 i = 1#1 → r.2.mem ((c.tc : Thread Cert.GateGlaIdeal.nD Cert.GateGlaIdeal.τ).loc Cert.GateGlaIdeal.main_v8_1) i = v1 c i)
          ∧ r.2.mem ((c.tc : Thread Cert.GateGlaIdeal.nD Cert.GateGlaIdeal.τ).loc Cert.GateGlaIdeal.main_arg0) = m ((c.tc : Thread Cert.GateGlaIdeal.nD Cert.GateGlaIdeal.τ).loc Cert.GateGlaIdeal.main_arg0)
          ∧ r.2.mem ((c.tc : Thread Cert.GateGlaIdeal.nD Cert.GateGlaIdeal.τ).loc Cert.GateGlaIdeal.main_arg1) = m ((c.tc : Thread Cert.GateGlaIdeal.nD Cert.GateGlaIdeal.τ).loc Cert.GateGlaIdeal.main_arg1)
          ∧ r.2.mem ((c.tc : Thread Cert.GateGlaIdeal.nD Cert.GateGlaIdeal.τ).loc Cert.GateGlaIdeal.main_arg2) = m ((c.tc : Thread Cert.GateGlaIdeal.nD Cert.GateGlaIdeal.τ).loc Cert.GateGlaIdeal.main_arg2)
          ∧ r.2.mem ((c.tc : Thread Cert.GateGlaIdeal.nD Cert.GateGlaIdeal.τ).loc Cert.GateGlaIdeal.main_arg3) = m ((c.tc : Thread Cert.GateGlaIdeal.nD Cert.GateGlaIdeal.τ).loc Cert.GateGlaIdeal.main_arg3)
          ∧ r.2.mem ((c.tc : Thread Cert.GateGlaIdeal.nD Cert.GateGlaIdeal.τ).loc Cert.GateGlaIdeal.main_arg4) = m ((c.tc : Thread Cert.GateGlaIdeal.nD Cert.GateGlaIdeal.τ).loc Cert.GateGlaIdeal.main_arg4)
          ∧ r.2.mem ((c.tc : Thread Cert.GateGlaIdeal.nD Cert.GateGlaIdeal.τ).loc Cert.GateGlaIdeal.main_arg5) = m ((c.tc : Thread Cert.GateGlaIdeal.nD Cert.GateGlaIdeal.τ).loc Cert.GateGlaIdeal.main_arg5)
          ∧ r.2.mem ((c.tc : Thread Cert.GateGlaIdeal.nD Cert.GateGlaIdeal.τ).loc Cert.GateGlaIdeal.main_arg6) = m ((c.tc : Thread Cert.GateGlaIdeal.nD Cert.GateGlaIdeal.τ).loc Cert.GateGlaIdeal.main_arg6)
          ∧ r.2.mem ((c.tc : Thread Cert.GateGlaIdeal.nD Cert.GateGlaIdeal.τ).loc Cert.GateGlaIdeal.main_arg7) = m ((c.tc : Thread Cert.GateGlaIdeal.nD Cert.GateGlaIdeal.τ).loc Cert.GateGlaIdeal.main_arg7))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          (∀ i : (⟨2, ![32768, 6144]⟩ : Shape).Idx, (Cert.On_merge_gates.fn (F := Ideal) (m ((c.tc : Thread Cert.GateGlaIdeal.nD Cert.GateGlaIdeal.τ).loc Cert.GateGlaIdeal.main_arg0)) (m ((c.tc : Thread Cert.GateGlaIdeal.nD Cert.GateGlaIdeal.τ).loc Cert.GateGlaIdeal.main_arg1)) (m ((c.tc : Thread Cert.GateGlaIdeal.nD Cert.GateGlaIdeal.τ).loc Cert.GateGlaIdeal.main_arg2)) (m ((c.tc : Thread Cert.GateGlaIdeal.nD Cert.GateGlaIdeal.τ).loc Cert.GateGlaIdeal.main_arg3)) (m ((c.tc : Thread Cert.GateGlaIdeal.nD Cert.GateGlaIdeal.τ).loc Cert.GateGlaIdeal.main_arg4)) (m ((c.tc : Thread Cert.GateGlaIdeal.nD Cert.GateGlaIdeal.τ).loc Cert.GateGlaIdeal.main_arg5)) (m ((c.tc : Thread Cert.GateGlaIdeal.nD Cert.GateGlaIdeal.τ).loc Cert.GateGlaIdeal.main_arg6)) (m ((c.tc : Thread Cert.GateGlaIdeal.nD Cert.GateGlaIdeal.τ).loc Cert.GateGlaIdeal.main_arg7))).1 i = 1#1 → r.2.mem ((c.tc : Thread Cert.GateRefIdeal.nD Cert.GateRefIdeal.τ).loc Cert.GateRefIdeal.main_v10) i = v0 c i)
          ∧ (∀ i : (⟨2, ![32768, 1024]⟩ : Shape).Idx, (Cert.On_merge_gates.fn (F := Ideal) (m ((c.tc : Thread Cert.GateGlaIdeal.nD Cert.GateGlaIdeal.τ).loc Cert.GateGlaIdeal.main_arg0)) (m ((c.tc : Thread Cert.GateGlaIdeal.nD Cert.GateGlaIdeal.τ).loc Cert.GateGlaIdeal.main_arg1)) (m ((c.tc : Thread Cert.GateGlaIdeal.nD Cert.GateGlaIdeal.τ).loc Cert.GateGlaIdeal.main_arg2)) (m ((c.tc : Thread Cert.GateGlaIdeal.nD Cert.GateGlaIdeal.τ).loc Cert.GateGlaIdeal.main_arg3)) (m ((c.tc : Thread Cert.GateGlaIdeal.nD Cert.GateGlaIdeal.τ).loc Cert.GateGlaIdeal.main_arg4)) (m ((c.tc : Thread Cert.GateGlaIdeal.nD Cert.GateGlaIdeal.τ).loc Cert.GateGlaIdeal.main_arg5)) (m ((c.tc : Thread Cert.GateGlaIdeal.nD Cert.GateGlaIdeal.τ).loc Cert.GateGlaIdeal.main_arg6)) (m ((c.tc : Thread Cert.GateGlaIdeal.nD Cert.GateGlaIdeal.τ).loc Cert.GateGlaIdeal.main_arg7))).2 i = 1#1 → r.2.mem ((c.tc : Thread Cert.GateRefIdeal.nD Cert.GateRefIdeal.τ).loc Cert.GateRefIdeal.main_v11) i = v1 c i)
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6)
          ∧ r.2.mem ((c.tc : Thread Cert.GateRefIdeal.nD Cert.GateRefIdeal.τ).loc Cert.GateRefIdeal.main_arg7) = m' ((c.tc : Thread Cert.GateRefIdeal.nD Cert.GateRefIdeal.τ).loc Cert.GateRefIdeal.main_arg7))

def preserves_Prep_PrepIdeal : Prop :=
  IdealRules.named_const.Statement Cert.PrepIdeal.κ "inv_qk" .f32 0x3BAAAAAB#32 ((192⁻¹ : ℝ) : EReal)

def algebraic_PrepIdeal_PrepRefIdeal_pre_rotary_tables [hPrepIdeal : Cert.PrepIdeal.Facts] [hPrepRefIdeal : Cert.PrepRefIdeal.Facts] [hPre_rotary_tables : Cert.Pre_rotary_tables.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_rotary_tables m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)) →
    ∃ (v0 : (c : Dev Cert.PrepIdeal.nD) → Buf (Elt Ideal) ((c.tc : Thread Cert.PrepIdeal.nD Cert.PrepIdeal.τ).loc Cert.PrepIdeal.main_v27_0)) (v1 : (c : Dev Cert.PrepIdeal.nD) → Buf (Elt Ideal) ((c.tc : Thread Cert.PrepIdeal.nD Cert.PrepIdeal.τ).loc Cert.PrepIdeal.main_v27_1)) (v2 : (c : Dev Cert.PrepIdeal.nD) → Buf (Elt Ideal) ((c.tc : Thread Cert.PrepIdeal.nD Cert.PrepIdeal.τ).loc Cert.PrepIdeal.main_v27_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v27_0) = v0 c
          ∧ r.2.mem ((c.tc : Thread Cert.PrepIdeal.nD Cert.PrepIdeal.τ).loc Cert.PrepIdeal.main_v27_1) = v1 c
          ∧ r.2.mem ((c.tc : Thread Cert.PrepIdeal.nD Cert.PrepIdeal.τ).loc Cert.PrepIdeal.main_v27_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v111) = v0 c
          ∧ r.2.mem ((c.tc : Thread Cert.PrepRefIdeal.nD Cert.PrepRefIdeal.τ).loc Cert.PrepRefIdeal.main_v112) = v1 c
          ∧ r.2.mem ((c.tc : Thread Cert.PrepRefIdeal.nD Cert.PrepRefIdeal.τ).loc Cert.PrepRefIdeal.main_v113) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v24_0)) (v1 : (c : Dev Cert.RopeIdeal.nD) → Buf (Elt Ideal) ((c.tc : Thread Cert.RopeIdeal.nD Cert.RopeIdeal.τ).loc Cert.RopeIdeal.main_v24_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v24_0) = v0 c
          ∧ r.2.mem ((c.tc : Thread Cert.RopeIdeal.nD Cert.RopeIdeal.τ).loc Cert.RopeIdeal.main_v24_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v21) = v0 c
          ∧ r.2.mem ((c.tc : Thread Cert.RopeRefIdeal.nD Cert.RopeRefIdeal.τ).loc Cert.RopeRefIdeal.main_v24) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Regroup_RegroupIdeal : Prop :=
  True

def algebraic_RegroupIdeal_RegroupRefIdeal [hRegroupIdeal : Cert.RegroupIdeal.Facts] [hRegroupRefIdeal : Cert.RegroupRefIdeal.Facts] : Prop :=
  ∀ (m : (ℓ : Loc Cert.RegroupIdeal.nD Cert.RegroupIdeal.τ Cert.RegroupIdeal.sig) → Buf (Elt Ideal) ℓ) (g : Dev Cert.RegroupIdeal.nD → PrngReg)
    (m' : (ℓ : Loc Cert.RegroupRefIdeal.nD Cert.RegroupRefIdeal.τ Cert.RegroupRefIdeal.sig) → Buf (Elt Ideal) ℓ) (g' : Dev Cert.RegroupRefIdeal.nD → PrngReg), Pre_RegroupIdeal m →
    (∀ c : Dev Cert.RegroupIdeal.nD,
      m' ((c.tc : Thread Cert.RegroupRefIdeal.nD Cert.RegroupRefIdeal.τ).loc Cert.RegroupRefIdeal.main_arg0) = m ((c.tc : Thread Cert.RegroupIdeal.nD Cert.RegroupIdeal.τ).loc Cert.RegroupIdeal.main_arg0)) →
    ∃ (v0 : (c : Dev Cert.RegroupIdeal.nD) → Buf (Elt Ideal) ((c.tc : Thread Cert.RegroupIdeal.nD Cert.RegroupIdeal.τ).loc Cert.RegroupIdeal.main_v0)),
      θ_run (Cert.RegroupIdeal.defs (F := Ideal)) (onTc (τ := Cert.RegroupIdeal.τ) (Cert.RegroupIdeal.main (F := Ideal))) ⟨m, fun _ => 0, g⟩ (fun r => ∀ c : Dev Cert.RegroupIdeal.nD,
          r.2.mem ((c.tc : Thread Cert.RegroupIdeal.nD Cert.RegroupIdeal.τ).loc Cert.RegroupIdeal.main_v0) = v0 c
          ∧ r.2.mem ((c.tc : Thread Cert.RegroupIdeal.nD Cert.RegroupIdeal.τ).loc Cert.RegroupIdeal.main_arg0) = m ((c.tc : Thread Cert.RegroupIdeal.nD Cert.RegroupIdeal.τ).loc Cert.RegroupIdeal.main_arg0))
      ∧ θ_run (Cert.RegroupRefIdeal.defs (F := Ideal)) (onTc (τ := Cert.RegroupRefIdeal.τ) (Cert.RegroupRefIdeal.main (F := Ideal))) ⟨m', fun _ => 0, g'⟩ (fun r => ∀ c : Dev Cert.RegroupRefIdeal.nD,
          r.2.mem ((c.tc : Thread Cert.RegroupRefIdeal.nD Cert.RegroupRefIdeal.τ).loc Cert.RegroupRefIdeal.main_v24) = v0 c
          ∧ r.2.mem ((c.tc : Thread Cert.RegroupRefIdeal.nD Cert.RegroupRefIdeal.τ).loc Cert.RegroupRefIdeal.main_arg0) = m' ((c.tc : Thread Cert.RegroupRefIdeal.nD Cert.RegroupRefIdeal.τ).loc Cert.RegroupRefIdeal.main_arg0))

def preserves_Cast_CastIdeal : Prop :=
  True

def algebraic_CastIdeal_CastRefIdeal [hCastIdeal : Cert.CastIdeal.Facts] [hCastRefIdeal : Cert.CastRefIdeal.Facts] : Prop :=
  ∀ (m : (ℓ : Loc Cert.CastIdeal.nD Cert.CastIdeal.τ Cert.CastIdeal.sig) → Buf (Elt Ideal) ℓ) (g : Dev Cert.CastIdeal.nD → PrngReg)
    (m' : (ℓ : Loc Cert.CastRefIdeal.nD Cert.CastRefIdeal.τ Cert.CastRefIdeal.sig) → Buf (Elt Ideal) ℓ) (g' : Dev Cert.CastRefIdeal.nD → PrngReg), Pre_CastIdeal m →
    (∀ c : Dev Cert.CastIdeal.nD,
      m' ((c.tc : Thread Cert.CastRefIdeal.nD Cert.CastRefIdeal.τ).loc Cert.CastRefIdeal.main_arg0) = m ((c.tc : Thread Cert.CastIdeal.nD Cert.CastIdeal.τ).loc Cert.CastIdeal.main_arg0)) →
    ∃ (v0 : (c : Dev Cert.CastIdeal.nD) → Buf (Elt Ideal) ((c.tc : Thread Cert.CastIdeal.nD Cert.CastIdeal.τ).loc Cert.CastIdeal.main_v1)),
      θ_run (Cert.CastIdeal.defs (F := Ideal)) (onTc (τ := Cert.CastIdeal.τ) (Cert.CastIdeal.main (F := Ideal))) ⟨m, fun _ => 0, g⟩ (fun r => ∀ c : Dev Cert.CastIdeal.nD,
          r.2.mem ((c.tc : Thread Cert.CastIdeal.nD Cert.CastIdeal.τ).loc Cert.CastIdeal.main_v1) = v0 c
          ∧ r.2.mem ((c.tc : Thread Cert.CastIdeal.nD Cert.CastIdeal.τ).loc Cert.CastIdeal.main_arg0) = m ((c.tc : Thread Cert.CastIdeal.nD Cert.CastIdeal.τ).loc Cert.CastIdeal.main_arg0))
      ∧ θ_run (Cert.CastRefIdeal.defs (F := Ideal)) (onTc (τ := Cert.CastRefIdeal.τ) (Cert.CastRefIdeal.main (F := Ideal))) ⟨m', fun _ => 0, g'⟩ (fun r => ∀ c : Dev Cert.CastRefIdeal.nD,
          r.2.mem ((c.tc : Thread Cert.CastRefIdeal.nD Cert.CastRefIdeal.τ).loc Cert.CastRefIdeal.main_v1) = v0 c
          ∧ r.2.mem ((c.tc : Thread Cert.CastRefIdeal.nD Cert.CastRefIdeal.τ).loc Cert.CastRefIdeal.main_arg0) = m' ((c.tc : Thread Cert.CastRefIdeal.nD Cert.CastRefIdeal.τ).loc Cert.CastRefIdeal.main_arg0))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hNorm : Cert.Norm.Facts) (hNormIdeal : Cert.NormIdeal.Facts) (hNormRefIdeal : Cert.NormRefIdeal.Facts) (hSilu : Cert.Silu.Facts) (hSiluIdeal : Cert.SiluIdeal.Facts) (hSiluRefIdeal : Cert.SiluRefIdeal.Facts) (hSgu : Cert.Sgu.Facts) (hSguIdeal : Cert.SguIdeal.Facts) (hSguRefIdeal : Cert.SguRefIdeal.Facts) (hGateGla : Cert.GateGla.Facts) (hGateGlaIdeal : Cert.GateGlaIdeal.Facts) (hGateRefIdeal : Cert.GateRefIdeal.Facts) (hPrep : Cert.Prep.Facts) (hPrepIdeal : Cert.PrepIdeal.Facts) (hPrepRefIdeal : Cert.PrepRefIdeal.Facts) (hRope : Cert.Rope.Facts) (hRopeIdeal : Cert.RopeIdeal.Facts) (hRopeRefIdeal : Cert.RopeRefIdeal.Facts) (hRegroup : Cert.Regroup.Facts) (hRegroupIdeal : Cert.RegroupIdeal.Facts) (hRegroupRefIdeal : Cert.RegroupRefIdeal.Facts) (hCast : Cert.Cast.Facts) (hCastIdeal : Cert.CastIdeal.Facts) (hCastRefIdeal : Cert.CastRefIdeal.Facts) (hPre_finite_scores : Cert.Pre_finite_scores.Facts) (hPre_rotary_tables : Cert.Pre_rotary_tables.Facts) (hOn_merge_gates : Cert.On_merge_gates.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Norm (hNorm := hNorm)
    ∧ quiescent_NormIdeal (hNormIdeal := hNormIdeal)
    ∧ quiescent_NormRefIdeal (hNormRefIdeal := hNormRefIdeal)
    ∧ quiescent_Silu (hSilu := hSilu)
    ∧ quiescent_SiluIdeal (hSiluIdeal := hSiluIdeal)
    ∧ quiescent_SiluRefIdeal (hSiluRefIdeal := hSiluRefIdeal)
    ∧ quiescent_Sgu (hSgu := hSgu)
    ∧ quiescent_SguIdeal (hSguIdeal := hSguIdeal)
    ∧ quiescent_SguRefIdeal (hSguRefIdeal := hSguRefIdeal)
    ∧ quiescent_GateGla (hGateGla := hGateGla)
    ∧ quiescent_GateGlaIdeal (hGateGlaIdeal := hGateGlaIdeal)
    ∧ quiescent_GateRefIdeal (hGateRefIdeal := hGateRefIdeal)
    ∧ quiescent_Prep (hPrep := hPrep)
    ∧ quiescent_PrepIdeal (hPrepIdeal := hPrepIdeal)
    ∧ quiescent_PrepIdeal_pre_rotary_tables (hPrepIdeal := hPrepIdeal) (hPre_rotary_tables := hPre_rotary_tables)
    ∧ quiescent_PrepRefIdeal (hPrepRefIdeal := hPrepRefIdeal)
    ∧ quiescent_PrepRefIdeal_pre_rotary_tables (hPrepRefIdeal := hPrepRefIdeal) (hPre_rotary_tables := hPre_rotary_tables)
    ∧ quiescent_Rope (hRope := hRope)
    ∧ quiescent_RopeIdeal (hRopeIdeal := hRopeIdeal)
    ∧ quiescent_RopeRefIdeal (hRopeRefIdeal := hRopeRefIdeal)
    ∧ quiescent_Regroup (hRegroup := hRegroup)
    ∧ quiescent_RegroupIdeal (hRegroupIdeal := hRegroupIdeal)
    ∧ quiescent_RegroupRefIdeal (hRegroupRefIdeal := hRegroupRefIdeal)
    ∧ quiescent_Cast (hCast := hCast)
    ∧ quiescent_CastIdeal (hCastIdeal := hCastIdeal)
    ∧ quiescent_CastRefIdeal (hCastRefIdeal := hCastRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Norm_NormIdeal
    ∧ algebraic_NormIdeal_NormRefIdeal (hNormIdeal := hNormIdeal) (hNormRefIdeal := hNormRefIdeal)
    ∧ preserves_Silu_SiluIdeal
    ∧ algebraic_SiluIdeal_SiluRefIdeal (hSiluIdeal := hSiluIdeal) (hSiluRefIdeal := hSiluRefIdeal)
    ∧ preserves_Sgu_SguIdeal
    ∧ algebraic_SguIdeal_SguRefIdeal (hSguIdeal := hSguIdeal) (hSguRefIdeal := hSguRefIdeal)
    ∧ preserves_GateGla_GateGlaIdeal
    ∧ algebraic_GateGlaIdeal_GateRefIdeal_on_merge_gates (hGateGlaIdeal := hGateGlaIdeal) (hGateRefIdeal := hGateRefIdeal) (hOn_merge_gates := hOn_merge_gates)
    ∧ preserves_Prep_PrepIdeal
    ∧ algebraic_PrepIdeal_PrepRefIdeal_pre_rotary_tables (hPrepIdeal := hPrepIdeal) (hPrepRefIdeal := hPrepRefIdeal) (hPre_rotary_tables := hPre_rotary_tables)
    ∧ preserves_Rope_RopeIdeal
    ∧ algebraic_RopeIdeal_RopeRefIdeal (hRopeIdeal := hRopeIdeal) (hRopeRefIdeal := hRopeRefIdeal)
    ∧ preserves_Regroup_RegroupIdeal
    ∧ algebraic_RegroupIdeal_RegroupRefIdeal (hRegroupIdeal := hRegroupIdeal) (hRegroupRefIdeal := hRegroupRefIdeal)
    ∧ preserves_Cast_CastIdeal
    ∧ algebraic_CastIdeal_CastRefIdeal (hCastIdeal := hCastIdeal) (hCastRefIdeal := hCastRefIdeal)
-- ==== On_merge_gates.lean ====
abbrev S32768x2048 : Shape := ⟨2, ![32768, 2048]⟩
abbrev S2048x15360 : Shape := ⟨2, ![2048, 15360]⟩
abbrev S32768x1280 : Shape := ⟨2, ![32768, 1280]⟩
abbrev S32768x3072 : Shape := ⟨2, ![32768, 3072]⟩
abbrev S16x512 : Shape := ⟨2, ![16, 512]⟩
abbrev S512 : Shape := ⟨1, ![512]⟩
abbrev S256 : Shape := ⟨1, ![256]⟩
abbrev S_ : Shape := ⟨0, ![]⟩
abbrev S32768x6144 : Shape := ⟨2, ![32768, 6144]⟩
abbrev S32768x1024 : Shape := ⟨2, ![32768, 1024]⟩

class Facts : Prop where
  bcast_S_S32768x6144 : S_.BroadcastsInDim S32768x6144 (![] : Fin 0 → Fin S32768x6144.rank)
  bcast_S_S32768x1024 : S_.BroadcastsInDim S32768x1024 (![] : Fin 0 → Fin S32768x1024.rank)

variable [Facts]

def fn {F : FTy → Type} [FloatOps F] (main_arg0 : FVec F S32768x2048 .bf16) (main_arg1 : FVec F S2048x15360 .bf16) (main_arg2 : FVec F S32768x2048 .bf16) (main_arg3 : FVec F S32768x1280 .f32) (main_arg4 : FVec F S32768x3072 .bf16) (main_arg5 : FVec F S16x512 .f32) (main_arg6 : FVec F S512 .f32) (main_arg7 : FVec F S256 .f32) : IVec S32768x6144 1 × IVec S32768x1024 1 :=
  let main_c : IVec S_ 1 := constantI S_ 1 1#1
  let main_v0 : IVec S32768x6144 1 := broadcastInDim S32768x6144 ![] bcast_S_S32768x6144 main_c
  let main_c_0 : IVec S_ 1 := constantI S_ 1 0#1
  let main_v1 : IVec S32768x1024 1 := broadcastInDim S32768x1024 ![] bcast_S_S32768x1024 main_c_0
  (main_v0, main_v1)
-- ==== Pre_finite_scores.lean ====
abbrev S32768x2048 : Shape := ⟨2, ![32768, 2048]⟩
abbrev S32768x3072 : Shape := ⟨2, ![32768, 3072]⟩
abbrev S32768x8x256 : Shape := ⟨3, ![32768, 8, 256]⟩
abbrev S32768x8x1 : Shape := ⟨3, ![32768, 8, 1]⟩
abbrev S32768x8 : Shape := ⟨2, ![32768, 8]⟩
abbrev S_ : Shape := ⟨0, ![]⟩

class Facts : Prop where
  bitsLt_bf16_f32 : FTy.bits .bf16 < FTy.bits .f32
  shapeCasts_S32768x2048_S32768x8x256 : S32768x2048.ShapeCasts S32768x8x256
  slices_S32768x8x256_S32768x8x1_0_0_128 : S32768x8x256.Slices ![0, 0, 128] S32768x8x1
  shapeCasts_S32768x8x1_S32768x8 : S32768x8x1.ShapeCasts S32768x8
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S32768x8 : S_.BroadcastsInDim S32768x8 (![] : Fin 0 → Fin S32768x8.rank)
  reducesTo_S32768x8_S_d0_1 : S32768x8.ReducesTo [0, 1] S_

variable [Facts]

def fn_part1 {F : FTy → Type} [FloatOps F] (main_v14 : IVec S_ 1) (main_v17 : IVec S_ 1) : IVec S_ 1 :=
  let main_v18 : IVec S_ 1 := andi main_v14 main_v17
  main_v18

def fn {F : FTy → Type} [FloatOps F] (main_arg0 : FVec F S32768x2048 .bf16) (main_arg1 : FVec F S32768x2048 .bf16) (main_arg2 : FVec F S32768x2048 .bf16) (main_arg3 : FVec F S32768x3072 .bf16) : IVec S_ 1 :=
  let main_v0 : FVec F S32768x2048 .f32 := (extf .f32 · bitsLt_bf16_f32) main_arg2
  let main_v1 : FVec F S32768x8x256 .f32 := shapeCast S32768x8x256 main_v0 shapeCasts_S32768x2048_S32768x8x256
  let main_v2 : FVec F S32768x8x1 .f32 := (extractStridedSlice S32768x8x1 ![0, 0, 128] · slices_S32768x8x256_S32768x8x1_0_0_128) main_v1
  let main_v3 : FVec F S32768x8 .f32 := shapeCast S32768x8 main_v2 shapeCasts_S32768x8x1_S32768x8
  let main_v4 : FVec F S32768x2048 .f32 := (extf .f32 · bitsLt_bf16_f32) main_arg0
  let main_v5 : FVec F S32768x2048 .f32 := Host.absf main_v4
  let main_cst : FVec F S_ .f32 := constant S_ .f32 0x7F800000#32
  let main_v6 : FVec F S32768x2048 .f32 := broadcastInDim S32768x2048 ![] bcast_S_S32768x2048 main_cst
  let main_v7 : IVec S32768x2048 1 := cmpf .olt main_v5 main_v6
  let main_c : IVec S_ 1 := constantI S_ 1 1#1
  let main_v8 : IVec S_ 1 := (fun x v => Host.reduce IntOp.andi x v reducesTo_S32768x2048_S_d0_1 h_S_) main_v7 main_c
  let main_v9 : FVec F S32768x2048 .f32 := (extf .f32 · bitsLt_bf16_f32) main_arg1
  let main_v10 : FVec F S32768x2048 .f32 := Host.absf main_v9
  let main_cst_0 : FVec F S_ .f32 := constant S_ .f32 0x7F800000#32
  let main_v11 : FVec F S32768x2048 .f32 := broadcastInDim S32768x2048 ![] bcast_S_S32768x2048 main_cst_0
  let main_v12 : IVec S32768x2048 1 := cmpf .olt main_v10 main_v11
  let main_c_1 : IVec S_ 1 := constantI S_ 1 1#1
  let main_v13 : IVec S_ 1 := (fun x v => Host.reduce IntOp.andi x v reducesTo_S32768x2048_S_d0_1 h_S_) main_v12 main_c_1
  let main_v14 : IVec S_ 1 := andi main_v8 main_v13
  let main_cst_2 : FVec F S_ .f32 := constant S_ .f32 0x3F800000#32
  let main_v15 : FVec F S32768x8 .f32 := broadcastInDim S32768x8 ![] bcast_S_S32768x8 main_cst_2
  let main_v16 : IVec S32768x8 1 := cmpf .oeq main_v3 main_v15
  let main_c_3 : IVec S_ 1 := constantI S_ 1 1#1
  let main_v17 : IVec S_ 1 := (fun x v => Host.reduce IntOp.andi x v reducesTo_S32768x8_S_d0_1 h_S_) main_v16 main_c_3
  fn_part1 (F := F) main_v14 main_v17
-- ==== Pre_rotary_tables.lean ====
abbrev S32768x1280 : Shape := ⟨2, ![32768, 1280]⟩
abbrev S32768x128 : Shape := ⟨2, ![32768, 128]⟩
abbrev S512 : Shape := ⟨1, ![512]⟩
abbrev S512x1536 : Shape := ⟨2, ![512, 1536]⟩
abbrev S512x2048 : Shape := ⟨2, ![512, 2048]⟩
abbrev S192 : Shape := ⟨1, ![192]⟩
abbrev S32768x32 : Shape := ⟨2, ![32768, 32]⟩
abbrev S_ : Shape := ⟨0, ![]⟩
abbrev S32768x64 : Shape := ⟨2, ![32768, 64]⟩

class Facts : Prop where
  slices_S32768x128_S32768x32_0_0 : S32768x128.Slices ![0, 0] S32768x32
  slices_S32768x128_S32768x32_0_32 : S32768x128.Slices ![0, 32] S32768x32
  reducesTo_S32768x32_S_d0_1 : S32768x32.ReducesTo [0, 1] S_
  h_S_ : 0 < S_.numel
  slices_S32768x1280_S32768x64_0_1088 : S32768x1280.Slices ![0, 1088] S32768x64
  bcast_S_S32768x64 : S_.BroadcastsInDim S32768x64 (![] : Fin 0 → Fin S32768x64.rank)
  reducesTo_S32768x64_S_d0_1 : S32768x64.ReducesTo [0, 1] S_

variable [Facts]

def fn {F : FTy → Type} [FloatOps F] (main_arg0 : FVec F S32768x1280 .f32) (main_arg1 : FVec F S32768x128 .f32) (main_arg2 : FVec F S32768x128 .f32) (main_arg3 : FVec F S512 .f32) (main_arg4 : FVec F S512 .f32) (main_arg5 : FVec F S512x1536 .f32) (main_arg6 : FVec F S512x2048 .f32) (main_arg7 : FVec F S192 .f32) (main_arg8 : FVec F S192 .f32) : IVec S_ 1 :=
  let main_v0 : FVec F S32768x32 .f32 := (extractStridedSlice S32768x32 ![0, 0] · slices_S32768x128_S32768x32_0_0) main_arg1
  let main_v1 : FVec F S32768x32 .f32 := (extractStridedSlice S32768x32 ![0, 32] · slices_S32768x128_S32768x32_0_32) main_arg1
  let main_v2 : IVec S32768x32 1 := cmpf .oeq main_v0 main_v1
  let main_c : IVec S_ 1 := constantI S_ 1 1#1
  let main_v3 : IVec S_ 1 := (fun x v => Host.reduce IntOp.andi x v reducesTo_S32768x32_S_d0_1 h_S_) main_v2 main_c
  let main_v4 : FVec F S32768x32 .f32 := (extractStridedSlice S32768x32 ![0, 0] · slices_S32768x128_S32768x32_0_0) main_arg2
  let main_v5 : FVec F S32768x32 .f32 := (extractStridedSlice S32768x32 ![0, 32] · slices_S32768x128_S32768x32_0_32) main_arg2
  let main_v6 : FVec F S32768x32 .f32 := Host.negf main_v5
  let main_v7 : IVec S32768x32 1 := cmpf .oeq main_v4 main_v6
  let main_c_0 : IVec S_ 1 := constantI S_ 1 1#1
  let main_v8 : IVec S_ 1 := (fun x v => Host.reduce IntOp.andi x v reducesTo_S32768x32_S_d0_1 h_S_) main_v7 main_c_0
  let main_v9 : FVec F S32768x64 .f32 := (extractStridedSlice S32768x64 ![0, 1088] · slices_S32768x1280_S32768x64_0_1088) main_arg0
  let main_cst : FVec F S_ .f32 := constant S_ .f32 0x00000000#32
  let main_v10 : FVec F S32768x64 .f32 := broadcastInDim S32768x64 ![] bcast_S_S32768x64 main_cst
  let main_v11 : IVec S32768x64 1 := cmpf .oeq main_v9 main_v10
  let main_c_1 : IVec S_ 1 := constantI S_ 1 1#1
  let main_v12 : IVec S_ 1 := (fun x v => Host.reduce IntOp.andi x v reducesTo_S32768x64_S_d0_1 h_S_) main_v11 main_c_1
  let main_v13 : IVec S_ 1 := andi main_v3 main_v8
  let main_v14 : IVec S_ 1 := andi main_v13 main_v12
  main_v14
-- ==== Kernel.lean ====
abbrev S32768x2048 : Shape := ⟨2, ![32768, 2048]⟩
abbrev S32768x3072 : Shape := ⟨2, ![32768, 3072]⟩
abbrev S8x8x512x1024 : Shape := ⟨4, ![8, 8, 512, 1024]⟩
abbrev S512x512 : Shape := ⟨2, ![512, 512]⟩
abbrev S4096x512 : Shape := ⟨2, ![4096, 512]⟩
abbrev S512x256 : Shape := ⟨2, ![512, 256]⟩
abbrev S1x8x512x256 : Shape := ⟨4, ![1, 8, 512, 256]⟩
abbrev S512x128 : Shape := ⟨2, ![512, 128]⟩
abbrev S512x1 : Shape := ⟨2, ![512, 1]⟩
abbrev S1x1x512x128 : Shape := ⟨4, ![1, 1, 512, 128]⟩
abbrev S2048x256 : Shape := ⟨2, ![2048, 256]⟩
abbrev S512x2048 : Shape := ⟨2, ![512, 2048]⟩
abbrev S512x1536 : Shape := ⟨2, ![512, 1536]⟩
abbrev S1024x256 : Shape := ⟨2, ![1024, 256]⟩
abbrev S512x1024 : Shape := ⟨2, ![512, 1024]⟩
abbrev S1536x256 : Shape := ⟨2, ![1536, 256]⟩

abbrev nBuf : Space → Nat
  | .hbm => 5
  | .vmem => 14
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2048, .bf16⟩
  | .hbm, ⟨3, _⟩ => ⟨S32768x3072, .bf16⟩
  | .hbm, ⟨4, _⟩ => ⟨S8x8x512x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S1x8x512x256, .bf16⟩
  | .local _ .vmem, ⟨13, _⟩ => ⟨S1x8x512x256, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg2
  let c0_i32 : BitVec 32 := 0#32
  ![v3.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c8_i32_0 : BitVec 32 := 8#32
  let v1 : BitVec 32 := Scalar.addi v0 c8_i32_0
  let c1_i32 : BitVec 32 := 1#32
  let v2 : BitVec 32 := Scalar.subi v1 c1_i32
  let v3 : BitVec 32 := Scalar.subi v2 arg2
  let c0_i32 : BitVec 32 := 0#32
  ![v3.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S32768x2048 : Shape := ⟨2, ![32768, 2048]⟩
abbrev S32768x3072 : Shape := ⟨2, ![32768, 3072]⟩
abbrev S8x4096x8x256 : Shape := ⟨4, ![8, 4096, 8, 256]⟩
abbrev S8x4096x8x128 : Shape := ⟨4, ![8, 4096, 8, 128]⟩
abbrev S8x8x4096x4096 : Shape := ⟨4, ![8, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S8x8x512x1024 : Shape := ⟨4, ![8, 8, 512, 1024]⟩
abbrev S32768x1024 : Shape := ⟨2, ![32768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2048, .bf16⟩
  | .hbm, ⟨3, _⟩ => ⟨S32768x3072, .bf16⟩
  | .hbm, ⟨4, _⟩ => ⟨S32768x2048, .f32⟩
  | .hbm, ⟨5, _⟩ => ⟨S8x4096x8x256, .f32⟩
  | .hbm, ⟨6, _⟩ => ⟨S32768x2048, .f32⟩
  | .hbm, ⟨7, _⟩ => ⟨S8x4096x8x256, .f32⟩
  | .hbm, ⟨8, _⟩ => ⟨S32768x2048, .f32⟩
  | .hbm, ⟨9, _⟩ => ⟨S8x4096x8x256, .f32⟩
  | .hbm, ⟨10, _⟩ => ⟨S8x4096x8x128, .f32⟩
  | .hbm, ⟨11, _⟩ => ⟨S8x8x4096x4096, .f32⟩
  | .hbm, ⟨12, _⟩ => ⟨S_, .f32⟩
  | .hbm, ⟨13, _⟩ => ⟨S_, .f32⟩
  | .hbm, ⟨14, _⟩ => ⟨S8x8x4096x4096, .f32⟩
  | .hbm, ⟨15, _⟩ => ⟨S8x8x4096x4096, .f32⟩
  | .hbm, ⟨16, _⟩ => ⟨S4096, .i32⟩
  | .hbm, ⟨17, _⟩ => ⟨S4096x1, .i32⟩
  | .hbm, ⟨18, _⟩ => ⟨S4096, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S_, .f32⟩
  | .hbm, ⟨24, _⟩ => ⟨S_, .f32⟩
  | .hbm, ⟨25, _⟩ => ⟨S8x8x4096x4096, .i1⟩
  | .hbm, ⟨26, _⟩ => ⟨S8x8x4096x4096, .f32⟩
  | .hbm, ⟨27, _⟩ => ⟨S8x8x4096x4096, .f32⟩
  | .hbm, ⟨28, _⟩ => ⟨S_, .f32⟩
  | .hbm, ⟨29, _⟩ => ⟨S8x8x4096, .f32⟩
  | .hbm, ⟨30, _⟩ => ⟨S_, .f32⟩
  | .hbm, ⟨31, _⟩ => ⟨S8x8x4096, .f32⟩
  | .hbm, ⟨32, _⟩ => ⟨S8x8x4096, .f32⟩
  | .hbm, ⟨33, _⟩ => ⟨S8x8x4096x1, .f32⟩
  | .hbm, ⟨34, _⟩ => ⟨S8x8x4096x4096, .f32⟩
  | .hbm, ⟨35, _⟩ => ⟨S8x8x4096x4096, .f32⟩
  | .hbm, ⟨36, _⟩ => ⟨S8x8x4096x4096, .f32⟩
  | .hbm, ⟨37, _⟩ => ⟨S_, .f32⟩
  | .hbm, ⟨38, _⟩ => ⟨S8x8x4096, .f32⟩
  | .hbm, ⟨39, _⟩ => ⟨S8x8x4096x1, .f32⟩
  | .hbm, ⟨40, _⟩ => ⟨S8x8x4096x4096, .f32⟩
  | .hbm, ⟨41, _⟩ => ⟨S8x8x4096x4096, .f32⟩
  | .hbm, ⟨42, _⟩ => ⟨S8x8x128x4096, .f32⟩
  | .hbm, ⟨43, _⟩ => ⟨S8x4096x8x128, .f32⟩
  | .hbm, ⟨44, _⟩ => ⟨S8x8x512x1024, .f32⟩
  | .hbm, ⟨45, _⟩ => ⟨S32768x1024, .bf16⟩
  | .hbm, ⟨46, _⟩ => ⟨S32768x1024, .f32⟩
  | .hbm, ⟨47, _⟩ => ⟨S8x8x512x1024, .f32⟩
  | .hbm, ⟨48, _⟩ => ⟨S8x8x512x1024, .f32⟩
  | .hbm, ⟨49, _⟩ => ⟨S8x8x512x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Merge.lean ====
abbrev S32768x1024 : Shape := ⟨2, ![32768, 1024]⟩
abbrev S32768x6144 : Shape := ⟨2, ![32768, 6144]⟩
abbrev S2x3x1024x2048 : Shape := ⟨4, ![2, 3, 1024, 2048]⟩
abbrev S32768x2048 : Shape := ⟨2, ![32768, 2048]⟩
abbrev S512x1024 : Shape := ⟨2, ![512, 1024]⟩
abbrev S512x2048 : Shape := ⟨2, ![512, 2048]⟩
abbrev S1x3x1024x2048 : Shape := ⟨4, ![1, 3, 1024, 2048]⟩
abbrev S1x1x1024x2048 : Shape := ⟨4, ![1, 1, 1024, 2048]⟩
abbrev S1024x2048 : Shape := ⟨2, ![1024, 2048]⟩

abbrev nBuf : Space → Nat
  | .hbm => 6
  | .vmem => 15
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x6144, .bf16⟩
  | .hbm, ⟨4, _⟩ => ⟨S2x3x1024x2048, .bf16⟩
  | .hbm, ⟨5, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x2048, .bf16⟩
  | .local _ .vmem, ⟨11, _⟩ => ⟨S512x2048, .bf16⟩
  | .local _ .vmem, ⟨12, _⟩ => ⟨S1x3x1024x2048, .bf16⟩
  | .local _ .vmem, ⟨13, _⟩ => ⟨S512x2048, .bf16⟩
  | .local _ .vmem, ⟨14, _⟩ => ⟨S512x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x3x1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S32768x1024 : Shape := ⟨2, ![32768, 1024]⟩
abbrev S32768x6144 : Shape := ⟨2, ![32768, 6144]⟩
abbrev S2x3x1024x2048 : Shape := ⟨4, ![2, 3, 1024, 2048]⟩
abbrev S32768x3x2048 : Shape := ⟨3, ![32768, 3, 2048]⟩
abbrev S1x3x1024x2048 : Shape := ⟨4, ![1, 3, 1024, 2048]⟩
abbrev S3x1024x2048 : Shape := ⟨3, ![3, 1024, 2048]⟩
abbrev S32768x1x2048 : Shape := ⟨3, ![32768, 1, 2048]⟩
abbrev S32768x2048 : Shape := ⟨2, ![32768, 2048]⟩
abbrev S1x1024x2048 : Shape := ⟨3, ![1, 1024, 2048]⟩
abbrev S1024x2048 : Shape := ⟨2, ![1024, 2048]⟩

abbrev nBuf : Space → Nat
  | .hbm => 34
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x6144, .bf16⟩
  | .hbm, ⟨4, _⟩ => ⟨S2x3x1024x2048, .bf16⟩
  | .hbm, ⟨5, _⟩ => ⟨S32768x6144, .f32⟩
  | .hbm, ⟨6, _⟩ => ⟨S32768x3x2048, .f32⟩
  | .hbm, ⟨7, _⟩ => ⟨S1x3x1024x2048, .bf16⟩
  | .hbm, ⟨8, _⟩ => ⟨S3x1024x2048, .bf16⟩
  | .hbm, ⟨9, _⟩ => ⟨S3x1024x2048, .f32⟩
  | .hbm, ⟨10, _⟩ => ⟨S32768x1x2048, .f32⟩
  | .hbm, ⟨11, _⟩ => ⟨S32768x2048, .f32⟩
  | .hbm, ⟨12, _⟩ => ⟨S32768x1024, .f32⟩
  | .hbm, ⟨13, _⟩ => ⟨S1x1024x2048, .f32⟩
  | .hbm, ⟨14, _⟩ => ⟨S1024x2048, .f32⟩
  | .hbm, ⟨15, _⟩ => ⟨S32768x2048, .f32⟩
  | .hbm, ⟨16, _⟩ => ⟨S32768x2048, .f32⟩
  | .hbm, ⟨17, _⟩ => ⟨S32768x1x2048, .f32⟩
  | .hbm, ⟨18, _⟩ => ⟨S32768x2048, .f32⟩
  | .hbm, ⟨19, _⟩ => ⟨S32768x1024, .f32⟩
  | .hbm, ⟨20, _⟩ => ⟨S1x1024x2048, .f32⟩
  | .hbm, ⟨21, _⟩ => ⟨S1024x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x1x2048, .f32⟩
  | .hbm, ⟨26, _⟩ => ⟨S32768x2048, .f32⟩
  | .hbm, ⟨27, _⟩ => ⟨S32768x1024, .f32⟩
  | .hbm, ⟨28, _⟩ => ⟨S1x1024x2048, .f32⟩
  | .hbm, ⟨29, _⟩ => ⟨S1024x2048, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Out.lean ====
abbrev S32768x2048 : Shape := ⟨2, ![32768, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2x2048x2048, .bf16⟩
  | .hbm, ⟨2, _⟩ => ⟨S32768x2048, .f32⟩
  | .hbm, ⟨3, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutRefIdeal.lean ====
abbrev S32768x2048 : Shape := ⟨2, ![32768, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2x2048x2048, .bf16⟩
  | .hbm, ⟨2, _⟩ => ⟨S32768x2048, .f32⟩
  | .hbm, ⟨3, _⟩ => ⟨S32768x2048, .f32⟩
  | .hbm, ⟨4, _⟩ => ⟨S1x2048x2048, .bf16⟩
  | .hbm, ⟨5, _⟩ => ⟨S2048x2048, .bf16⟩
  | .hbm, ⟨6, _⟩ => ⟨S2048x2048, .f32⟩
  | .hbm, ⟨7, _⟩ => ⟨S32768x2048, .f32⟩
  | .hbm, ⟨8, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Norm.lean ====
abbrev S32768x2048 : Shape := ⟨2, ![32768, 2048]⟩
abbrev S2048 : Shape := ⟨1, ![2048]⟩
abbrev S2048x15360 : Shape := ⟨2, ![2048, 15360]⟩
abbrev S1x2048 : Shape := ⟨2, ![1, 2048]⟩
abbrev S32768x1280 : Shape := ⟨2, ![32768, 1280]⟩
abbrev S1024x2048 : Shape := ⟨2, ![1024, 2048]⟩
abbrev S2048x1280 : Shape := ⟨2, ![2048, 1280]⟩
abbrev S1024x1280 : Shape := ⟨2, ![1024, 1280]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x15360, .bf16⟩
  | .hbm, ⟨3, _⟩ => ⟨S1x2048, .f32⟩
  | .hbm, ⟨4, _⟩ => ⟨S32768x2048, .bf16⟩
  | .hbm, ⟨5, _⟩ => ⟨S32768x1280, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1280, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1280, .f32⟩
  | .local _ .vmem, ⟨7, _⟩ => ⟨S1024x1280, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c11_i32 : BitVec 32 := 11#32
  let c0_i32_0 : BitVec 32 := 0#32
  ![c0_i32.toNat, c11_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormRefIdeal.lean ====
abbrev S32768x2048 : Shape := ⟨2, ![32768, 2048]⟩
abbrev S2048 : Shape := ⟨1, ![2048]⟩
abbrev S2048x15360 : Shape := ⟨2, ![2048, 15360]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S2048x1280 : Shape := ⟨2, ![2048, 1280]⟩
abbrev S32768x1280 : Shape := ⟨2, ![32768, 1280]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x15360, .bf16⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x2048, .bf16⟩
  | .hbm, ⟨20, _⟩ => ⟨S2048x1280, .bf16⟩
  | .hbm, ⟨21, _⟩ => ⟨S2048x1280, .f32⟩
  | .hbm, ⟨22, _⟩ => ⟨S32768x1280, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Silu.lean ====
abbrev S32768x2048 : Shape := ⟨2, ![32768, 2048]⟩
abbrev S2048x15360 : Shape := ⟨2, ![2048, 15360]⟩
abbrev S32768x3072 : Shape := ⟨2, ![32768, 3072]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x15360, .bf16⟩
  | .hbm, ⟨2, _⟩ => ⟨S32768x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SiluRefIdeal.lean ====
abbrev S32768x2048 : Shape := ⟨2, ![32768, 2048]⟩
abbrev S2048x15360 : Shape := ⟨2, ![2048, 15360]⟩
abbrev S2048x3072 : Shape := ⟨2, ![2048, 3072]⟩
abbrev S32768x3072 : Shape := ⟨2, ![32768, 3072]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x15360, .bf16⟩
  | .hbm, ⟨2, _⟩ => ⟨S32768x2048, .f32⟩
  | .hbm, ⟨3, _⟩ => ⟨S2048x3072, .bf16⟩
  | .hbm, ⟨4, _⟩ => ⟨S2048x3072, .f32⟩
  | .hbm, ⟨5, _⟩ => ⟨S32768x3072, .f32⟩
  | .hbm, ⟨6, _⟩ => ⟨S32768x3072, .f32⟩
  | .hbm, ⟨7, _⟩ => ⟨S32768x3072, .f32⟩
  | .hbm, ⟨8, _⟩ => ⟨S_, .f32⟩
  | .hbm, ⟨9, _⟩ => ⟨S32768x3072, .f32⟩
  | .hbm, ⟨10, _⟩ => ⟨S32768x3072, .f32⟩
  | .hbm, ⟨11, _⟩ => ⟨S_, .f32⟩
  | .hbm, ⟨12, _⟩ => ⟨S32768x3072, .f32⟩
  | .hbm, ⟨13, _⟩ => ⟨S32768x3072, .f32⟩
  | .hbm, ⟨14, _⟩ => ⟨S32768x3072, .f32⟩
  | .hbm, ⟨15, _⟩ => ⟨S32768x3072, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩

abbrev nD : Nat := 1
abbrev τ : Topo := Topo.v7x

variable {F : FTy → Type} [FloatOps F]
-- ==== Sgu.lean ====
abbrev S32768x2048 : Shape := ⟨2, ![32768, 2048]⟩
abbrev S2048x15360 : Shape := ⟨2, ![2048, 15360]⟩
abbrev S32768x3072 : Shape := ⟨2, ![32768, 3072]⟩
abbrev S1024 : Shape := ⟨1, ![1024]⟩
abbrev S8x128x128 : Shape := ⟨3, ![8, 128, 128]⟩
abbrev S8x128 : Shape := ⟨2, ![8, 128]⟩
abbrev S8x128x1 : Shape := ⟨3, ![8, 128, 1]⟩
abbrev S1x1024 : Shape := ⟨2, ![1, 1024]⟩
abbrev S32768x1024 : Shape := ⟨2, ![32768, 1024]⟩
abbrev S512x2048 : Shape := ⟨2, ![512, 2048]⟩
abbrev S2048x2048 : Shape := ⟨2, ![2048, 2048]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩

abbrev nBuf : Space → Nat
  | .hbm => 11
  | .vmem => 13
  | .smem => 0
  | _ => 0

abbrev bufTy : (tb : Table) → Fin (tcTables nBuf tb) → BufTy
  | .hbm, ⟨0, _⟩ => ⟨S32768x2048, .bf16⟩
  | .hbm, ⟨1, _⟩ => ⟨S2048x15360, .bf16⟩
  | .hbm, ⟨2, _⟩ => ⟨S32768x3072, .bf16⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S8x128x1, .f32⟩
  | .hbm, ⟨7, _⟩ => ⟨S8x128x128, .f32⟩
  | .hbm, ⟨8, _⟩ => ⟨S1x1024, .f32⟩
  | .hbm, ⟨9, _⟩ => ⟨S32768x2048, .bf16⟩
  | .hbm, ⟨10, _⟩ => ⟨S32768x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S8x128x128, .f32⟩
  | .local _ .vmem, ⟨8, _⟩ => ⟨S8x128x128, .f32⟩
  | .local _ .vmem, ⟨9, _⟩ => ⟨S512x2048, .bf16⟩
  | .local _ .vmem, ⟨10, _⟩ => ⟨S512x2048, .bf16⟩
  | .local _ .vmem, ⟨11, _⟩ => ⟨S512x1024, .bf16⟩
  | .local _ .vmem, ⟨12, _⟩ => ⟨S512x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_2 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SguRefIdeal.lean ====
abbrev S32768x2048 : Shape := ⟨2, ![32768, 2048]⟩
abbrev S2048x15360 : Shape := ⟨2, ![2048, 15360]⟩
abbrev S32768x3072 : Shape := ⟨2, ![32768, 3072]⟩
abbrev S1024 : Shape := ⟨1, ![1024]⟩
abbrev S8x128x128 : Shape := ⟨3, ![8, 128, 128]⟩
abbrev S8x128 : Shape := ⟨2, ![8, 128]⟩
abbrev S2048x2048 : Shape := ⟨2, ![2048, 2048]⟩
abbrev S2048x1024 : Shape := ⟨2, ![2048, 1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S256x128x8x128 : Shape := ⟨4, ![256, 128, 8, 128]⟩
abbrev S128x128 : Shape := ⟨2, ![128, 128]⟩
abbrev S8x256x128x128 : Shape := ⟨4, ![8, 256, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 91
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x15360, .bf16⟩
  | .hbm, ⟨2, _⟩ => ⟨S32768x3072, .bf16⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S32768x2048, .f32⟩
  | .hbm, ⟨7, _⟩ => ⟨S2048x2048, .bf16⟩
  | .hbm, ⟨8, _⟩ => ⟨S2048x2048, .f32⟩
  | .hbm, ⟨9, _⟩ => ⟨S32768x2048, .f32⟩
  | .hbm, ⟨10, _⟩ => ⟨S2048x1024, .bf16⟩
  | .hbm, ⟨11, _⟩ => ⟨S2048x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S2048x1024, .bf16⟩
  | .hbm, ⟨31, _⟩ => ⟨S2048x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S1x1024, .f32⟩
  | .hbm, ⟨64, _⟩ => ⟨S32768x1024, .f32⟩
  | .hbm, ⟨65, _⟩ => ⟨S32768x1024, .f32⟩
  | .hbm, ⟨66, _⟩ => ⟨S256x128x8x128, .f32⟩
  | .hbm, ⟨67, _⟩ => ⟨S128x128, .i32⟩
  | .hbm, ⟨68, _⟩ => ⟨S_, .i32⟩
  | .hbm, ⟨69, _⟩ => ⟨S128x128, .i32⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S8x128x128, .i1⟩
  | .hbm, ⟨74, _⟩ => ⟨S_, .f32⟩
  | .hbm, ⟨75, _⟩ => ⟨S8x128x128, .f32⟩
  | .hbm, ⟨76, _⟩ => ⟨S8x128x128, .f32⟩
  | .hbm, ⟨77, _⟩ => ⟨S8x256x128x128, .f32⟩
  | .hbm, ⟨78, _⟩ => ⟨S256x128x8x128, .f32⟩
  | .hbm, ⟨79, _⟩ => ⟨S128x8, .f32⟩
  | .hbm, ⟨80, _⟩ => ⟨S128x8x1, .f32⟩
  | .hbm, ⟨81, _⟩ => ⟨S1x128x8x1, .f32⟩
  | .hbm, ⟨82, _⟩ => ⟨S256x128x8x128, .f32⟩
  | .hbm, ⟨83, _⟩ => ⟨S256x128x8x128, .f32⟩
  | .hbm, ⟨84, _⟩ => ⟨S32768x2048, .bf16⟩
  | .hbm, ⟨85, _⟩ => ⟨S32768x1024, .f32⟩
  | .hbm, ⟨86, _⟩ => ⟨S32768x1024, .f32⟩
  | .hbm, ⟨87, _⟩ => ⟨S32768x1024, .bf16⟩
  | .hbm, ⟨88, _⟩ => ⟨S32768x1024, .f32⟩
  | .hbm, ⟨89, _⟩ => ⟨S32768x1024, .f32⟩
  | .hbm, ⟨90, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_call0_v0 : Ref sig .tc := ⟨.hbm, 67, rfl⟩
abbrev main_call0_c : Ref sig .tc := ⟨.hbm, 68, rfl⟩
abbrev main_call0_v1 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_cst : Ref sig .tc := ⟨.hbm, 74, rfl⟩
abbrev main_call0_v6 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]
-- ==== GateGla.lean ====
abbrev S32768x2048 : Shape := ⟨2, ![32768, 2048]⟩
abbrev S2048x15360 : Shape := ⟨2, ![2048, 15360]⟩
abbrev S32768x1280 : Shape := ⟨2, ![32768, 1280]⟩
abbrev S32768x3072 : Shape := ⟨2, ![32768, 3072]⟩
abbrev S16x512 : Shape := ⟨2, ![16, 512]⟩
abbrev S512 : Shape := ⟨1, ![512]⟩
abbrev S256 : Shape := ⟨1, ![256]⟩
abbrev S48x512 : Shape := ⟨2, ![48, 512]⟩
abbrev S_ : Shape := ⟨0, ![]⟩
abbrev S128x512 : Shape := ⟨2, ![128, 512]⟩
abbrev S1x512 : Shape := ⟨2, ![1, 512]⟩
abbrev S1x256 : Shape := ⟨2, ![1, 256]⟩
abbrev S32768x6144 : Shape := ⟨2, ![32768, 6144]⟩
abbrev S32768x1024 : Shape := ⟨2, ![32768, 1024]⟩
abbrev S256x2048 : Shape := ⟨2, ![256, 2048]⟩
abbrev S2048x6144 : Shape := ⟨2, ![2048, 6144]⟩
abbrev S256x512 : Shape := ⟨2, ![256, 512]⟩
abbrev S256x1024 : Shape := ⟨2, ![256, 1024]⟩
abbrev S256x128 : Shape := ⟨2, ![256, 128]⟩
abbrev S256x6144 : Shape := ⟨2, ![256, 6144]⟩
abbrev S4x256x128 : Shape := ⟨3, ![4, 256, 128]⟩
abbrev S128x128 : Shape := ⟨2, ![128, 128]⟩
abbrev S128x256 : Shape := ⟨2, ![128, 256]⟩
abbrev S2048x3072 : Shape := ⟨2, ![2048, 3072]⟩
abbrev S256x3072 : Shape := ⟨2, ![256, 3072]⟩
abbrev S64x512 : Shape := ⟨2, ![64, 512]⟩
abbrev S32x512 : Shape := ⟨2, ![32, 512]⟩
abbrev S1x256x128 : Shape := ⟨3, ![1, 256, 128]⟩
abbrev S1x128 : Shape := ⟨2, ![1, 128]⟩
abbrev S128 : Shape := ⟨1, ![128]⟩
abbrev S128x1 : Shape := ⟨2, ![128, 1]⟩

abbrev nBuf : Space → Nat
  | .hbm => 20
  | .vmem => 21
  | .smem => 0
  | _ => 0

abbrev bufTy : (tb : Table) → Fin (tcTables nBuf tb) → BufTy
  | .hbm, ⟨0, _⟩ => ⟨S32768x2048, .bf16⟩
  | .hbm, ⟨1, _⟩ => ⟨S2048x15360, .bf16⟩
  | .hbm, ⟨2, _⟩ => ⟨S32768x2048, .bf16⟩
  | .hbm, ⟨3, _⟩ => ⟨S32768x1280, .f32⟩
  | .hbm, ⟨4, _⟩ => ⟨S32768x3072, .bf16⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S16x512, .bf16⟩
  | .hbm, ⟨9, _⟩ => ⟨S16x512, .f32⟩
  | .hbm, ⟨10, _⟩ => ⟨S16x512, .f32⟩
  | .hbm, ⟨11, _⟩ => ⟨S16x512, .bf16⟩
  | .hbm, ⟨12, _⟩ => ⟨S48x512, .bf16⟩
  | .hbm, ⟨13, _⟩ => ⟨S_, .i32⟩
  | .hbm, ⟨14, _⟩ => ⟨S_, .bf16⟩
  | .hbm, ⟨15, _⟩ => ⟨S128x512, .bf16⟩
  | .hbm, ⟨16, _⟩ => ⟨S1x512, .f32⟩
  | .hbm, ⟨17, _⟩ => ⟨S1x256, .f32⟩
  | .hbm, ⟨18, _⟩ => ⟨S32768x6144, .bf16⟩
  | .hbm, ⟨19, _⟩ => ⟨S32768x1024, .bf16⟩
  | .local _ .vmem, ⟨0, _⟩ => ⟨S256x2048, .bf16⟩
  | .local _ .vmem, ⟨1, _⟩ => ⟨S256x2048, .bf16⟩
  | .local _ .vmem, ⟨2, _⟩ => ⟨S2048x6144, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x1024, .bf16⟩
  | .local _ .vmem, ⟨8, _⟩ => ⟨S256x1024, .bf16⟩
  | .local _ .vmem, ⟨9, _⟩ => ⟨S256x128, .f32⟩
  | .local _ .vmem, ⟨10, _⟩ => ⟨S256x128, .f32⟩
  | .local _ .vmem, ⟨11, _⟩ => ⟨S256x1024, .bf16⟩
  | .local _ .vmem, ⟨12, _⟩ => ⟨S256x1024, .bf16⟩
  | .local _ .vmem, ⟨13, _⟩ => ⟨S128x512, .bf16⟩
  | .local _ .vmem, ⟨14, _⟩ => ⟨S1x512, .f32⟩
  | .local _ .vmem, ⟨15, _⟩ => ⟨S1x256, .f32⟩
  | .local _ .vmem, ⟨16, _⟩ => ⟨S256x6144, .bf16⟩
  | .local _ .vmem, ⟨17, _⟩ => ⟨S256x6144, .bf16⟩
  | .local _ .vmem, ⟨18, _⟩ => ⟨S256x1024, .bf16⟩
  | .local _ .vmem, ⟨19, _⟩ => ⟨S256x1024, .bf16⟩
  | .local _ .vmem, ⟨20, _⟩ => ⟨S4x256x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x6144 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GateRefIdeal.lean ====
abbrev S32768x2048 : Shape := ⟨2, ![32768, 2048]⟩
abbrev S2048x15360 : Shape := ⟨2, ![2048, 15360]⟩
abbrev S32768x1280 : Shape := ⟨2, ![32768, 1280]⟩
abbrev S32768x3072 : Shape := ⟨2, ![32768, 3072]⟩
abbrev S16x512 : Shape := ⟨2, ![16, 512]⟩
abbrev S512 : Shape := ⟨1, ![512]⟩
abbrev S256 : Shape := ⟨1, ![256]⟩
abbrev S2048x6144 : Shape := ⟨2, ![2048, 6144]⟩
abbrev S32768x6144 : Shape := ⟨2, ![32768, 6144]⟩
abbrev S_ : Shape := ⟨0, ![]⟩
abbrev S32768x1024 : Shape := ⟨2, ![32768, 1024]⟩

abbrev nBuf : Space → Nat
  | .hbm => 23
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x15360, .bf16⟩
  | .hbm, ⟨2, _⟩ => ⟨S32768x2048, .bf16⟩
  | .hbm, ⟨3, _⟩ => ⟨S32768x1280, .f32⟩
  | .hbm, ⟨4, _⟩ => ⟨S32768x3072, .bf16⟩
  | .hbm, ⟨5, _⟩ => ⟨S16x512, .f32⟩
  | .hbm, ⟨6, _⟩ => ⟨S512, .f32⟩
  | .hbm, ⟨7, _⟩ => ⟨S256, .f32⟩
  | .hbm, ⟨8, _⟩ => ⟨S32768x2048, .f32⟩
  | .hbm, ⟨9, _⟩ => ⟨S2048x6144, .bf16⟩
  | .hbm, ⟨10, _⟩ => ⟨S2048x6144, .f32⟩
  | .hbm, ⟨11, _⟩ => ⟨S32768x6144, .f32⟩
  | .hbm, ⟨12, _⟩ => ⟨S32768x6144, .f32⟩
  | .hbm, ⟨13, _⟩ => ⟨S32768x6144, .f32⟩
  | .hbm, ⟨14, _⟩ => ⟨S_, .f32⟩
  | .hbm, ⟨15, _⟩ => ⟨S32768x6144, .f32⟩
  | .hbm, ⟨16, _⟩ => ⟨S32768x6144, .f32⟩
  | .hbm, ⟨17, _⟩ => ⟨S_, .f32⟩
  | .hbm, ⟨18, _⟩ => ⟨S32768x6144, .f32⟩
  | .hbm, ⟨19, _⟩ => ⟨S32768x6144, .f32⟩
  | .hbm, ⟨20, _⟩ => ⟨S32768x6144, .bf16⟩
  | .hbm, ⟨21, _⟩ => ⟨S_, .bf16⟩
  | .hbm, ⟨22, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Prep.lean ====
abbrev S32768x1280 : Shape := ⟨2, ![32768, 1280]⟩
abbrev S32768x128 : Shape := ⟨2, ![32768, 128]⟩
abbrev S512 : Shape := ⟨1, ![512]⟩
abbrev S512x1536 : Shape := ⟨2, ![512, 1536]⟩
abbrev S512x2048 : Shape := ⟨2, ![512, 2048]⟩
abbrev S192 : Shape := ⟨1, ![192]⟩
abbrev S512x8x192 : Shape := ⟨3, ![512, 8, 192]⟩
abbrev S_ : Shape := ⟨0, ![]⟩
abbrev S512x8x256 : Shape := ⟨3, ![512, 8, 256]⟩
abbrev S512x8x128 : Shape := ⟨3, ![512, 8, 128]⟩
abbrev S512x1024 : Shape := ⟨2, ![512, 1024]⟩
abbrev S128 : Shape := ⟨1, ![128]⟩
abbrev S1x128 : Shape := ⟨2, ![1, 128]⟩
abbrev S64 : Shape := ⟨1, ![64]⟩
abbrev S1x512 : Shape := ⟨2, ![1, 512]⟩
abbrev S32768x2048 : Shape := ⟨2, ![32768, 2048]⟩
abbrev S512x512 : Shape := ⟨2, ![512, 512]⟩
abbrev S512x128 : Shape := ⟨2, ![512, 128]⟩
abbrev S256x128 : Shape := ⟨2, ![256, 128]⟩
abbrev S512x1 : Shape := ⟨2, ![512, 1]⟩
abbrev S512x256 : Shape := ⟨2, ![512, 256]⟩

abbrev nBuf : Space → Nat
  | .hbm => 47
  | .vmem => 25
  | .smem => 0
  | _ => 0

abbrev bufTy : (tb : Table) → Fin (tcTables nBuf tb) → BufTy
  | .hbm, ⟨0, _⟩ => ⟨S32768x1280, .f32⟩
  | .hbm, ⟨1, _⟩ => ⟨S32768x128, .f32⟩
  | .hbm, ⟨2, _⟩ => ⟨S32768x128, .f32⟩
  | .hbm, ⟨3, _⟩ => ⟨S512, .f32⟩
  | .hbm, ⟨4, _⟩ => ⟨S512, .f32⟩
  | .hbm, ⟨5, _⟩ => ⟨S512x1536, .f32⟩
  | .hbm, ⟨6, _⟩ => ⟨S512x2048, .f32⟩
  | .hbm, ⟨7, _⟩ => ⟨S192, .f32⟩
  | .hbm, ⟨8, _⟩ => ⟨S192, .f32⟩
  | .hbm, ⟨9, _⟩ => ⟨S512x8x192, .f32⟩
  | .hbm, ⟨10, _⟩ => ⟨S_, .i32⟩
  | .hbm, ⟨11, _⟩ => ⟨S_, .f32⟩
  | .hbm, ⟨12, _⟩ => ⟨S512x8x256, .f32⟩
  | .hbm, ⟨13, _⟩ => ⟨S512x2048, .f32⟩
  | .hbm, ⟨14, _⟩ => ⟨S512x8x256, .f32⟩
  | .hbm, ⟨15, _⟩ => ⟨S512x8x128, .f32⟩
  | .hbm, ⟨16, _⟩ => ⟨S512x1024, .f32⟩
  | .hbm, ⟨17, _⟩ => ⟨S512x8x128, .f32⟩
  | .hbm, ⟨18, _⟩ => ⟨S512x1024, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S1x128, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S64, .f32⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S1x512, .f32⟩
  | .hbm, ⟨40, _⟩ => ⟨S1x512, .f32⟩
  | .hbm, ⟨41, _⟩ => ⟨S512x2048, .bf16⟩
  | .hbm, ⟨42, _⟩ => ⟨S512x1024, .bf16⟩
  | .hbm, ⟨43, _⟩ => ⟨S512x1024, .bf16⟩
  | .hbm, ⟨44, _⟩ => ⟨S32768x2048, .bf16⟩
  | .hbm, ⟨45, _⟩ => ⟨S32768x2048, .bf16⟩
  | .hbm, ⟨46, _⟩ => ⟨S32768x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x512, .f32⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .bf16⟩
  | .local _ .vmem, ⟨23, _⟩ => ⟨S512x2048, .bf16⟩
  | .local _ .vmem, ⟨24, _⟩ => ⟨S512x2048, .bf16⟩
  | _, _ => ⟨S32768x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_call1_v0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_call2_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PrepIdeal.lean ====
variable {F : FTy → Type} [FloatOps F] [Named F]
def κ : String → Option EReal := fun
  | "inv_qk" => some ((192⁻¹ : ℝ) : EReal)
  | _ => none
-- ==== PrepRefIdeal.lean ====
abbrev S32768x1280 : Shape := ⟨2, ![32768, 1280]⟩
abbrev S32768x128 : Shape := ⟨2, ![32768, 128]⟩
abbrev S512 : Shape := ⟨1, ![512]⟩
abbrev S512x1536 : Shape := ⟨2, ![512, 1536]⟩
abbrev S512x2048 : Shape := ⟨2, ![512, 2048]⟩
abbrev S192 : Shape := ⟨1, ![192]⟩
abbrev S32768x32 : Shape := ⟨2, ![32768, 32]⟩
abbrev S32768x1x32 : Shape := ⟨3, ![32768, 1, 32]⟩
abbrev S32768x512 : Shape := ⟨2, ![32768, 512]⟩
abbrev S_ : Shape := ⟨0, ![]⟩
abbrev S32768 : Shape := ⟨1, ![32768]⟩
abbrev S32768x1 : Shape := ⟨2, ![32768, 1]⟩
abbrev S1x512 : Shape := ⟨2, ![1, 512]⟩
abbrev S32768x1536 : Shape := ⟨2, ![32768, 1536]⟩
abbrev S32768x8x192 : Shape := ⟨3, ![32768, 8, 192]⟩
abbrev S32768x2048 : Shape := ⟨2, ![32768, 2048]⟩
abbrev S32768x8x256 : Shape := ⟨3, ![32768, 8, 256]⟩
abbrev S32768x64 : Shape := ⟨2, ![32768, 64]⟩
abbrev S32768x1x64 : Shape := ⟨3, ![32768, 1, 64]⟩
abbrev S32768x8x64 : Shape := ⟨3, ![32768, 8, 64]⟩
abbrev S32768x8x128 : Shape := ⟨3, ![32768, 8, 128]⟩
abbrev S32768x8 : Shape := ⟨2, ![32768, 8]⟩
abbrev S32768x8x1 : Shape := ⟨3, ![32768, 8, 1]⟩
abbrev S1x1x192 : Shape := ⟨3, ![1, 1, 192]⟩
abbrev S32768x8x32 : Shape := ⟨3, ![32768, 8, 32]⟩
abbrev S32768x8x127 : Shape := ⟨3, ![32768, 8, 127]⟩

abbrev nBuf : Space → Nat
  | .hbm => 139
  | .vmem => 0
  | .smem => 0
  | _ => 0

abbrev hbmTy0_0 (i : Nat) : BufTy := match i % 128 with
  | 0 => ⟨S32768x1280, .f32⟩
  | 1 => ⟨S32768x128, .f32⟩
  | 2 => ⟨S32768x128, .f32⟩
  | 3 => ⟨S512, .f32⟩
  | 4 => ⟨S512, .f32⟩
  | 5 => ⟨S512x1536, .f32⟩
  | 6 => ⟨S512x2048, .f32⟩
  | 7 => ⟨S192, .f32⟩
  | 8 => ⟨S192, .f32⟩
  | 9 => ⟨S32768x32, .f32⟩
  | 10 => ⟨S32768x1x32, .f32⟩
  | 11 => ⟨S32768x32, .f32⟩
  | 12 => ⟨S32768x1x32, .f32⟩
  | 13 => ⟨S32768x512, .f32⟩
  | 14 => ⟨S32768x512, .f32⟩
  | 15 => ⟨S_, .f32⟩
  | 16 => ⟨S32768, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x1, .f32⟩
  | 25 => ⟨S32768x512, .f32⟩
  | 26 => ⟨S32768x512, .f32⟩
  | 27 => ⟨S1x512, .f32⟩
  | 28 => ⟨S32768x512, .f32⟩
  | 29 => ⟨S32768x512, .f32⟩
  | 30 => ⟨S32768x1536, .f32⟩
  | 31 => ⟨S32768x8x192, .f32⟩
  | 32 => ⟨S32768x512, .f32⟩
  | 33 => ⟨S32768x512, .f32⟩
  | 34 => ⟨S_, .f32⟩
  | 35 => ⟨S32768, .f32⟩
  | 36 => ⟨S32768x1, .f32⟩
  | 37 => ⟨S_, .f32⟩
  | 38 => ⟨S32768x1, .f32⟩
  | 39 => ⟨S32768x1, .f32⟩
  | 40 => ⟨S_, .f32⟩
  | 41 => ⟨S32768x1, .f32⟩
  | 42 => ⟨S32768x1, .f32⟩
  | 43 => ⟨S32768x1, .f32⟩
  | 44 => ⟨S32768x512, .f32⟩
  | 45 => ⟨S32768x512, .f32⟩
  | 46 => ⟨S1x512, .f32⟩
  | 47 => ⟨S32768x512, .f32⟩
  | 48 => ⟨S32768x512, .f32⟩
  | 49 => ⟨S32768x2048, .f32⟩
  | 50 => ⟨S32768x8x256, .f32⟩
  | 51 => ⟨S32768x64, .f32⟩
  | 52 => ⟨S32768x1x64, .f32⟩
  | 53 => ⟨S32768x8x64, .f32⟩
  | 54 => ⟨S32768x8x128, .f32⟩
  | 55 => ⟨S32768x8x192, .f32⟩
  | 56 => ⟨S32768x8x192, .f32⟩
  | 57 => ⟨S_, .f32⟩
  | 58 => ⟨S32768x8, .f32⟩
  | 59 => ⟨S32768x8x1, .f32⟩
  | 60 => ⟨S_, .f32⟩
  | 61 => ⟨S32768x8x1, .f32⟩
  | 62 => ⟨S32768x8x1, .f32⟩
  | 63 => ⟨S_, .f32⟩
  | 64 => ⟨S32768x8x1, .f32⟩
  | 65 => ⟨S32768x8x1, .f32⟩
  | 66 => ⟨S32768x8x1, .f32⟩
  | 67 => ⟨S32768x8x192, .f32⟩
  | 68 => ⟨S32768x8x192, .f32⟩
  | 69 => ⟨S1x1x192, .f32⟩
  | 70 => ⟨S32768x8x192, .f32⟩
  | 71 => ⟨S32768x8x192, .f32⟩
  | 72 => ⟨S32768x8x128, .f32⟩
  | 73 => ⟨S32768x8x64, .f32⟩
  | 74 => ⟨S32768x8x32, .f32⟩
  | 75 => ⟨S32768x8x32, .f32⟩
  | 76 => ⟨S32768x8x32, .f32⟩
  | 77 => ⟨S32768x8x32, .f32⟩
  | 78 => ⟨S32768x8x32, .f32⟩
  | 79 => ⟨S32768x8x32, .f32⟩
  | 80 => ⟨S32768x8x32, .f32⟩
  | 81 => ⟨S32768x8x32, .f32⟩
  | 82 => ⟨S32768x8x32, .f32⟩
  | 83 => ⟨S32768x8x32, .f32⟩
  | 84 => ⟨S32768x8x32, .f32⟩
  | 85 => ⟨S32768x8x32, .f32⟩
  | 86 => ⟨S32768x8x64, .f32⟩
  | 87 => ⟨S32768x8x192, .f32⟩
  | 88 => ⟨S32768x8x192, .f32⟩
  | 89 => ⟨S_, .f32⟩
  | 90 => ⟨S32768x8, .f32⟩
  | 91 => ⟨S32768x8x1, .f32⟩
  | 92 => ⟨S_, .f32⟩
  | 93 => ⟨S32768x8x1, .f32⟩
  | 94 => ⟨S32768x8x1, .f32⟩
  | 95 => ⟨S_, .f32⟩
  | 96 => ⟨S32768x8x1, .f32⟩
  | 97 => ⟨S32768x8x1, .f32⟩
  | 98 => ⟨S32768x8x1, .f32⟩
  | 99 => ⟨S32768x8x192, .f32⟩
  | 100 => ⟨S32768x8x192, .f32⟩
  | 101 => ⟨S1x1x192, .f32⟩
  | 102 => ⟨S32768x8x192, .f32⟩
  | 103 => ⟨S32768x8x192, .f32⟩
  | 104 => ⟨S32768x8x128, .f32⟩
  | 105 => ⟨S32768x8x64, .f32⟩
  | 106 => ⟨S32768x8x32, .f32⟩
  | 107 => ⟨S32768x8x32, .f32⟩
  | 108 => ⟨S32768x8x32, .f32⟩
  | 109 => ⟨S32768x8x32, .f32⟩
  | 110 => ⟨S32768x8x32, .f32⟩
  | 111 => ⟨S32768x8x32, .f32⟩
  | 112 => ⟨S32768x8x32, .f32⟩
  | 113 => ⟨S32768x8x32, .f32⟩
  | 114 => ⟨S32768x8x32, .f32⟩
  | 115 => ⟨S32768x8x32, .f32⟩
  | 116 => ⟨S32768x8x32, .f32⟩
  | 117 => ⟨S32768x8x32, .f32⟩
  | 118 => ⟨S32768x8x64, .f32⟩
  | 119 => ⟨S32768x8x192, .f32⟩
  | 120 => ⟨S_, .f32⟩
  | 121 => ⟨S32768x8x192, .f32⟩
  | 122 => ⟨S32768x8x192, .f32⟩
  | 123 => ⟨S_, .f32⟩
  | 124 => ⟨S32768x8x64, .f32⟩
  | 125 => ⟨S32768x8x256, .f32⟩
  | 126 => ⟨S32768x2048, .f32⟩
  | 127 => ⟨S32768x8x256, .f32⟩
  | _ => ⟨S32768x1280, .f32⟩

abbrev hbmTy0_1 (i : Nat) : BufTy := match i % 128 with
  | 0 => ⟨S32768x2048, .f32⟩
  | 1 => ⟨S32768x8x128, .f32⟩
  | 2 => ⟨S_, .f32⟩
  | 3 => ⟨S32768x8x1, .f32⟩
  | 4 => ⟨S_, .f32⟩
  | 5 => ⟨S32768x8x127, .f32⟩
  | 6 => ⟨S32768x8x256, .f32⟩
  | 7 => ⟨S32768x2048, .f32⟩
  | 8 => ⟨S32768x2048, .bf16⟩
  | 9 => ⟨S32768x2048, .bf16⟩
  | 10 => ⟨S32768x2048, .bf16⟩
  | _ => ⟨S32768x1280, .f32⟩

abbrev hbmTy (i : Nat) : BufTy := match i / 128 with
  | 0 => hbmTy0_0 i
  | 1 => hbmTy0_1 i
  | _ => ⟨S32768x1280, .f32⟩

abbrev bufTy : (tb : Table) → Fin (tcTables nBuf tb) → BufTy
  | .hbm, ⟨i, _⟩ => hbmTy i
  | _, _ => ⟨S32768x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_cst_9 : Ref sig .tc := ⟨.hbm, 92, rfl⟩
abbrev main_v73 : Ref sig .tc := ⟨.hbm, 93, rfl⟩
abbrev main_v74 : Ref sig .tc := ⟨.hbm, 94, rfl⟩
abbrev main_cst_10 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_11 : Ref sig .tc := ⟨.hbm, 120, rfl⟩
abbrev main_v99 : Ref sig .tc := ⟨.hbm, 121, rfl⟩
abbrev main_v100 : Ref sig .tc := ⟨.hbm, 122, rfl⟩
abbrev main_cst_12 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_13 : Ref sig .tc := ⟨.hbm, 130, rfl⟩
abbrev main_v107 : Ref sig .tc := ⟨.hbm, 131, rfl⟩
abbrev main_cst_14 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩

abbrev nD : Nat := 1
abbrev τ : Topo := Topo.v7x

variable {F : FTy → Type} [FloatOps F]
-- ==== Rope.lean ====
abbrev S8x4096 : Shape := ⟨2, ![8, 4096]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S32768x1 : Shape := ⟨2, ![32768, 1]⟩
abbrev S32768x128 : Shape := ⟨2, ![32768, 128]⟩
abbrev S1024x1 : Shape := ⟨2, ![1024, 1]⟩
abbrev S1024x128 : Shape := ⟨2, ![1024, 128]⟩

abbrev nBuf : Space → Nat
  | .hbm => 34
  | .vmem => 8
  | .smem => 0
  | _ => 0

abbrev bufTy : (tb : Table) → Fin (tcTables nBuf tb) → BufTy
  | .hbm, ⟨0, _⟩ => ⟨S8x4096, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S1x32, .f32⟩
  | .hbm, ⟨18, _⟩ => ⟨S4x32, .f32⟩
  | .hbm, ⟨19, _⟩ => ⟨S128, .f32⟩
  | .hbm, ⟨20, _⟩ => ⟨S1x128, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S64, .f32⟩
  | .hbm, ⟨27, _⟩ => ⟨S1x64, .f32⟩
  | .hbm, ⟨28, _⟩ => ⟨S2x64, .f32⟩
  | .hbm, ⟨29, _⟩ => ⟨S128, .f32⟩
  | .hbm, ⟨30, _⟩ => ⟨S1x128, .f32⟩
  | .hbm, ⟨31, _⟩ => ⟨S32768x1, .i32⟩
  | .hbm, ⟨32, _⟩ => ⟨S32768x128, .f32⟩
  | .hbm, ⟨33, _⟩ => ⟨S32768x128, .f32⟩
  | .local _ .vmem, ⟨0, _⟩ => ⟨S1024x1, .i32⟩
  | .local _ .vmem, ⟨1, _⟩ => ⟨S1024x1, .i32⟩
  | .local _ .vmem, ⟨2, _⟩ => ⟨S1x128, .f32⟩
  | .local _ .vmem, ⟨3, _⟩ => ⟨S1x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeRefIdeal.lean ====
abbrev S8x4096 : Shape := ⟨2, ![8, 4096]⟩
abbrev S32 : Shape := ⟨1, ![32]⟩
abbrev S_ : Shape := ⟨0, ![]⟩
abbrev S8x4096x1 : Shape := ⟨3, ![8, 4096, 1]⟩
abbrev S1x1x32 : Shape := ⟨3, ![1, 1, 32]⟩
abbrev S8x4096x32 : Shape := ⟨3, ![8, 4096, 32]⟩
abbrev S32768x32 : Shape := ⟨2, ![32768, 32]⟩
abbrev S32768x128 : Shape := ⟨2, ![32768, 128]⟩

abbrev nBuf : Space → Nat
  | .hbm => 31
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S8x4096, .f32⟩
  | .hbm, ⟨18, _⟩ => ⟨S8x4096x1, .f32⟩
  | .hbm, ⟨19, _⟩ => ⟨S1x1x32, .f32⟩
  | .hbm, ⟨20, _⟩ => ⟨S8x4096x32, .f32⟩
  | .hbm, ⟨21, _⟩ => ⟨S8x4096x32, .f32⟩
  | .hbm, ⟨22, _⟩ => ⟨S8x4096x32, .f32⟩
  | .hbm, ⟨23, _⟩ => ⟨S8x4096x32, .f32⟩
  | .hbm, ⟨24, _⟩ => ⟨S32768x32, .f32⟩
  | .hbm, ⟨25, _⟩ => ⟨S8x4096x32, .f32⟩
  | .hbm, ⟨26, _⟩ => ⟨S32768x32, .f32⟩
  | .hbm, ⟨27, _⟩ => ⟨S32768x128, .f32⟩
  | .hbm, ⟨28, _⟩ => ⟨S32768x32, .f32⟩
  | .hbm, ⟨29, _⟩ => ⟨S32768x32, .f32⟩
  | .hbm, ⟨30, _⟩ => ⟨S32768x128, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Regroup.lean ====
abbrev S2x2048x14416 : Shape := ⟨3, ![2, 2048, 14416]⟩
abbrev S2048x15360 : Shape := ⟨2, ![2048, 15360]⟩
abbrev S1x128x14416 : Shape := ⟨3, ![1, 128, 14416]⟩
abbrev S128x15360 : Shape := ⟨2, ![128, 15360]⟩
abbrev S1x128x6144 : Shape := ⟨3, ![1, 128, 6144]⟩
abbrev S128x6144 : Shape := ⟨2, ![128, 6144]⟩
abbrev S1x128x2048 : Shape := ⟨3, ![1, 128, 2048]⟩
abbrev S128x2048 : Shape := ⟨2, ![128, 2048]⟩
abbrev S1x128x1024 : Shape := ⟨3, ![1, 128, 1024]⟩
abbrev S128x1024 : Shape := ⟨2, ![128, 1024]⟩
abbrev S1x128x1088 : Shape := ⟨3, ![1, 128, 1088]⟩
abbrev S128x1088 : Shape := ⟨2, ![128, 1088]⟩
abbrev S1x128x16 : Shape := ⟨3, ![1, 128, 16]⟩
abbrev S128x16 : Shape := ⟨2, ![128, 16]⟩

abbrev nBuf : Space → Nat
  | .hbm => 2
  | .vmem => 4
  | .smem => 0
  | _ => 0

abbrev bufTy : (tb : Table) → Fin (tcTables nBuf tb) → BufTy
  | .hbm, ⟨0, _⟩ => ⟨S2x2048x14416, .f32⟩
  | .hbm, ⟨1, _⟩ => ⟨S2048x15360, .bf16⟩
  | .local _ .vmem, ⟨0, _⟩ => ⟨S1x128x14416, .f32⟩
  | .local _ .vmem, ⟨1, _⟩ => ⟨S1x128x14416, .f32⟩
  | .local _ .vmem, ⟨2, _⟩ => ⟨S128x15360, .bf16⟩
  | .local _ .vmem, ⟨3, _⟩ => ⟨S128x15360, .bf16⟩
  | _, _ => ⟨S2x2048x14416, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x14416 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x15360 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RegroupRefIdeal.lean ====
abbrev S2x2048x14416 : Shape := ⟨3, ![2, 2048, 14416]⟩
abbrev S1x2048x14416 : Shape := ⟨3, ![1, 2048, 14416]⟩
abbrev S2048x14416 : Shape := ⟨2, ![2048, 14416]⟩
abbrev S2048x512 : Shape := ⟨2, ![2048, 512]⟩
abbrev S2048x64 : Shape := ⟨2, ![2048, 64]⟩
abbrev S2048x1024 : Shape := ⟨2, ![2048, 1024]⟩
abbrev S2048x16 : Shape := ⟨2, ![2048, 16]⟩
abbrev S2048x6144 : Shape := ⟨2, ![2048, 6144]⟩
abbrev S_ : Shape := ⟨0, ![]⟩
abbrev S2048x2560 : Shape := ⟨2, ![2048, 2560]⟩
abbrev S2048x256 : Shape := ⟨2, ![2048, 256]⟩
abbrev S2048x3328 : Shape := ⟨2, ![2048, 3328]⟩
abbrev S2048x1152 : Shape := ⟨2, ![2048, 1152]⟩
abbrev S2048x80 : Shape := ⟨2, ![2048, 80]⟩
abbrev S2048x128 : Shape := ⟨2, ![2048, 128]⟩
abbrev S2048x15360 : Shape := ⟨2, ![2048, 15360]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x14416, .f32⟩
  | .hbm, ⟨1, _⟩ => ⟨S1x2048x14416, .f32⟩
  | .hbm, ⟨2, _⟩ => ⟨S2048x14416, .f32⟩
  | .hbm, ⟨3, _⟩ => ⟨S2048x512, .f32⟩
  | .hbm, ⟨4, _⟩ => ⟨S2048x512, .f32⟩
  | .hbm, ⟨5, _⟩ => ⟨S2048x64, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x512, .f32⟩
  | .hbm, ⟨11, _⟩ => ⟨S2048x512, .f32⟩
  | .hbm, ⟨12, _⟩ => ⟨S2048x1024, .f32⟩
  | .hbm, ⟨13, _⟩ => ⟨S2048x16, .f32⟩
  | .hbm, ⟨14, _⟩ => ⟨S2048x1024, .f32⟩
  | .hbm, ⟨15, _⟩ => ⟨S2048x6144, .f32⟩
  | .hbm, ⟨16, _⟩ => ⟨S_, .f32⟩
  | .hbm, ⟨17, _⟩ => ⟨S2048x512, .f32⟩
  | .hbm, ⟨18, _⟩ => ⟨S2048x2560, .f32⟩
  | .hbm, ⟨19, _⟩ => ⟨S_, .f32⟩
  | .hbm, ⟨20, _⟩ => ⟨S2048x256, .f32⟩
  | .hbm, ⟨21, _⟩ => ⟨S2048x3328, .f32⟩
  | .hbm, ⟨22, _⟩ => ⟨S_, .f32⟩
  | .hbm, ⟨23, _⟩ => ⟨S2048x64, .f32⟩
  | .hbm, ⟨24, _⟩ => ⟨S2048x1152, .f32⟩
  | .hbm, ⟨25, _⟩ => ⟨S_, .f32⟩
  | .hbm, ⟨26, _⟩ => ⟨S2048x80, .f32⟩
  | .hbm, ⟨27, _⟩ => ⟨S2048x128, .f32⟩
  | .hbm, ⟨28, _⟩ => ⟨S2048x15360, .f32⟩
  | .hbm, ⟨29, _⟩ => ⟨S2048x15360, .bf16⟩
  | _, _ => ⟨S2x2048x14416, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_cst : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_cst_1 : Ref sig .tc := ⟨.hbm, 22, rfl⟩
abbrev main_v19 : Ref sig .tc := ⟨.hbm, 23, rfl⟩
abbrev main_v20 : Ref sig .tc := ⟨.hbm, 24, rfl⟩
abbrev main_cst_2 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Cast.lean ====
abbrev S2x3x1024x2048 : Shape := ⟨4, ![2, 3, 1024, 2048]⟩
abbrev S6144x2048 : Shape := ⟨2, ![6144, 2048]⟩
abbrev S1024x2048 : Shape := ⟨2, ![1024, 2048]⟩

abbrev nBuf : Space → Nat
  | .hbm => 3
  | .vmem => 4
  | .smem => 0
  | _ => 0

abbrev bufTy : (tb : Table) → Fin (tcTables nBuf tb) → BufTy
  | .hbm, ⟨0, _⟩ => ⟨S2x3x1024x2048, .f32⟩
  | .hbm, ⟨1, _⟩ => ⟨S6144x2048, .f32⟩
  | .hbm, ⟨2, _⟩ => ⟨S6144x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | _, _ => ⟨S2x3x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== CastRefIdeal.lean ====
abbrev S2x3x1024x2048 : Shape := ⟨4, ![2, 3, 1024, 2048]⟩
abbrev S6144x2048 : Shape := ⟨2, ![6144, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2x3x1024x2048, .f32⟩
  | .hbm, ⟨1, _⟩ => ⟨S6144x2048, .f32⟩
  | .hbm, ⟨2, _⟩ => ⟨S6144x2048, .bf16⟩
  | _, _ => ⟨S2x3x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Attn.Softmax.lean ====
/-
  The softmax with the greatest score taken off and base e, against the quotient of the unshifted sums in base 2.
-/
module

public import Idealize.ShloMosaic.PureOps.Ideal
public import Idealize.ShloMosaic.PureOps.Ideal.Laws

@[expose] public section

noncomputable section

namespace Cert.KernelIdeal.Hand

open Idealize.ShloMosaic

/-- The weight a key has as a real number: 2 to its score, or 0 where the mask hides it. -/
def wt (lim : ℕ) (S : Fin 4096 → ℝ) (j : Fin 4096) : ℝ := if j.val ≤ lim then (2 : ℝ) ^ S j else 0

theorem wt_nonneg (lim : ℕ) (S : Fin 4096 → ℝ) (j : Fin 4096) : 0 ≤ wt lim S j := by
  unfold wt; split_ifs
  · positivity
  · exact le_rfl

theorem wt_sum_pos (lim : ℕ) (S : Fin 4096 → ℝ) : 0 < ∑ j, wt lim S j := by
  refine Finset.sum_pos' (fun j _ => wt_nonneg lim S j) ⟨0, Finset.mem_univ _, ?_⟩
  unfold wt; rw [if_pos (by simp)]; positivity

theorem exp2_wt (lim : ℕ) (S : Fin 4096 → ℝ) (j : Fin 4096) :
    Ideal.exp2 (if j.val ≤ lim then ((S j : ℝ) : EReal) else ⊥) = ((wt lim S j : ℝ) : EReal) := by
  unfold wt; split_ifs
  · rfl
  · rfl

theorem exp_wt (lim : ℕ) (S : Fin 4096 → ℝ) (M : ℝ) (j : Fin 4096) :
    Ideal.exp ((if j.val ≤ lim then ((S j : ℝ) : EReal) * ((Real.log 2 : ℝ) : EReal) else ⊥) - ((M : ℝ) : EReal))
      = ((wt lim S j * Real.exp (-M) : ℝ) : EReal) := by
  unfold wt; split_ifs
  · rw [← EReal.coe_mul, ← EReal.coe_sub]
    show ((Real.exp _ : ℝ) : EReal) = _
    congr 1
    rw [Real.rpow_def_of_pos (by norm_num), ← Real.exp_add]
    congr 1; ring
  · rw [EReal.bot_sub, zero_mul]; rfl

theorem coe_sum {n : ℕ} (f : Fin n → ℝ) : ∑ j, ((f j : ℝ) : EReal) = ((∑ j, f j : ℝ) : EReal) := by
  induction (Finset.univ : Finset (Fin n)) using Finset.induction_on with
  | empty => simp
  | insert a s ha ih => rw [Finset.sum_insert ha, Finset.sum_insert ha, ih, EReal.coe_add]

/-- A nonnegative real factor comes out of a sum of extended reals. -/
theorem sum_mul_coe {n : ℕ} (f : Fin n → EReal) (c : ℝ) (hc : 0 ≤ c) : ∑ j, f j * (c : EReal) = (∑ j, f j) * (c : EReal) := by
  induction (Finset.univ : Finset (Fin n)) using Finset.induction_on with
  | empty => simp
  | insert a s ha ih =>
    rw [Finset.sum_insert ha, Finset.sum_insert ha, ih,
      EReal.right_distrib_of_nonneg_of_ne_top (EReal.coe_nonneg.mpr hc) (EReal.coe_ne_top c)]

theorem div_coe (x : EReal) (d : ℝ) (hd : d ≠ 0) : Ideal.div x (d : EReal) = x * ((d⁻¹ : ℝ) : EReal) := by
  unfold Ideal.div
  rw [if_neg (by simpa using hd), EReal.coe_inv]

/-- The two spellings of one row of the attention agree, for real scores and any real shift. -/
theorem softmax_row (lim : ℕ) (S : Fin 4096 → ℝ) (V : Fin 4096 → EReal) (M : ℝ) :
    (∑ j, V j * Ideal.div (Ideal.exp ((if j.val ≤ lim then ((S j : ℝ) : EReal) * ((Real.log 2 : ℝ) : EReal) else ⊥) - ((M : ℝ) : EReal)))
        (0 + ∑ k : Fin 4096, Ideal.exp ((if k.val ≤ lim then ((S k : ℝ) : EReal) * ((Real.log 2 : ℝ) : EReal) else ⊥) - ((M : ℝ) : EReal))))
      = Ideal.div (∑ j, Ideal.exp2 (if j.val ≤ lim then ((S j : ℝ) : EReal) else ⊥) * V j)
          (∑ j : Fin 4096, Ideal.exp2 (if j.val ≤ lim then ((S j : ℝ) : EReal) else ⊥) * 1) := by
  have hD := wt_sum_pos lim S
  have hE : 0 < Real.exp (-M) := Real.exp_pos _
  simp only [exp_wt, exp2_wt, mul_one, zero_add]
  rw [coe_sum, coe_sum, ← Finset.sum_mul, div_coe _ _ hD.ne']
  rw [← sum_mul_coe _ _ (inv_nonneg.mpr hD.le)]
  refine Finset.sum_congr rfl fun j _ => ?_
  rw [div_coe _ _ (mul_pos hD hE).ne', ← EReal.coe_mul, mul_comm ((wt lim S j : ℝ) : EReal) (V j), mul_assoc (V j), ← EReal.coe_mul]
  congr 2
  field_simp

end Cert.KernelIdeal.Hand

end
-- ==== Proof.Attn.Pay.lean ====
/-
  What one grid step of the attention stores, as functions of its blocks: the weights `2^s` of one group of keys (with the causal
  mask on the group's last 512 keys), their products with the values, and the block finished by the division and the gate; each
  read at an index at the extended reals.
-/
module

public import proofs.«01_k».proof.Proof.Gen.KernelIdeal.Skeleton
public import Idealize.ShloMosaic.Lib.Pointwise
public import Idealize.ShloMosaic.Lib.ValueIdx
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.Pointwise

/-- The causal mask on a square of scores: the entries right of the diagonal become the mask's value. -/
def causal (s : FVec Ideal S512x512 .f32) : FVec Ideal S512x512 .f32 :=
  select (cmpi .sge (iota .tc S512x512 32 [0] iota_S512x512_d0_w32) (iota .tc S512x512 32 [1] iota_S512x512_d1_w32)) s
    (broadcast S512x512 (Named.named κ "mask" 0xF149F2CA#32))

/-- The weights of a whole group of 2048 keys, none of them masked. -/
def wFull (q : FVec Ideal S512x256 .bf16) (k : FVec Ideal S2048x256 .bf16) : FVec Ideal S512x2048 .bf16 :=
  truncf .bf16 (exp2 (matmul dot_S512x256_S2048x256_S512x2048_1_1_0_0_n_n none q k (constant S512x2048 .f32 0x00000000#32))) bitsLt_bf16_f32

/-- The weights of a last group of 512 keys. -/
def wTail512 (q : FVec Ideal S512x256 .bf16) (k : FVec Ideal S512x256 .bf16) : FVec Ideal S512x512 .bf16 :=
  truncf .bf16 (exp2 (causal (matmul dot_S512x256_S512x256_S512x512_1_1_0_0_n_n none q k (constant S512x512 .f32 0x00000000#32)))) bitsLt_bf16_f32

/-- The weights of a last group of 1024 keys. -/
def wTail1024 (q : FVec Ideal S512x256 .bf16) (k : FVec Ideal S1024x256 .bf16) : FVec Ideal S512x1024 .bf16 :=
  let s := matmul dot_S512x256_S1024x256_S512x1024_1_1_0_0_n_n none q k (constant S512x1024 .f32 0x00000000#32)
  truncf .bf16 (exp2 (concatenate S512x1024 1
    [⟨S512x512, extractStridedSlice S512x512 ![0, 0] s slices_S512x1024_o0_0_S512x512⟩,
     ⟨S512x512, causal (extractStridedSlice S512x512 ![0, 512] s slices_S512x1024_o0_512_S512x512)⟩]
    concatenates_S512x512_S512x512_S512x1024_d1)) bitsLt_bf16_f32

/-- The weights of a last group of 1536 keys. -/
def wTail1536 (q : FVec Ideal S512x256 .bf16) (k : FVec Ideal S1536x256 .bf16) : FVec Ideal S512x1536 .bf16 :=
  let s := matmul dot_S512x256_S1536x256_S512x1536_1_1_0_0_n_n none q k (constant S512x1536 .f32 0x00000000#32)
  truncf .bf16 (exp2 (concatenate S512x1536 1
    [⟨S512x1024, extractStridedSlice S512x1024 ![0, 0] s slices_S512x1536_o0_0_S512x1024⟩,
     ⟨S512x512, causal (extractStridedSlice S512x512 ![0, 1024] s slices_S512x1536_o0_1024_S512x512)⟩]
    concatenates_S512x1024_S512x512_S512x1536_d1)) bitsLt_bf16_f32

/-- The weights of a last group of 2048 keys. -/
def wTail2048 (q : FVec Ideal S512x256 .bf16) (k : FVec Ideal S2048x256 .bf16) : FVec Ideal S512x2048 .bf16 :=
  let s := matmul dot_S512x256_S2048x256_S512x2048_1_1_0_0_n_n none q k (constant S512x2048 .f32 0x00000000#32)
  truncf .bf16 (exp2 (concatenate S512x2048 1
    [⟨S512x1536, extractStridedSlice S512x1536 ![0, 0] s slices_S512x2048_o0_0_S512x1536⟩,
     ⟨S512x512, causal (extractStridedSlice S512x512 ![0, 1536] s slices_S512x2048_o0_1536_S512x512)⟩]
    concatenates_S512x1536_S512x512_S512x2048_d1)) bitsLt_bf16_f32

/-- The accumulator's first contents. -/
def acc0 : FVec Ideal S512x256 .f32 := broadcast S512x256 (Scalar.ofBits .f32 0x00000000#32)

/-- An accumulator after a group of keys. -/
def add512 (a : FVec Ideal S512x256 .f32) (w : FVec Ideal S512x512 .bf16) (v : FVec Ideal S512x256 .bf16) : FVec Ideal S512x256 .f32 :=
  addf a (matmul dot_S512x512_S512x256_S512x256_1_0_0_1_n_n none w v (constant S512x256 .f32 0x00000000#32))
def add1024 (a : FVec Ideal S512x256 .f32) (w : FVec Ideal S512x1024 .bf16) (v : FVec Ideal S1024x256 .bf16) : FVec Ideal S512x256 .f32 :=
  addf a (matmul dot_S512x1024_S1024x256_S512x256_1_0_0_1_n_n none w v (constant S512x256 .f32 0x00000000#32))
def add1536 (a : FVec Ideal S512x256 .f32) (w : FVec Ideal S512x1536 .bf16) (v : FVec Ideal S1536x256 .bf16) : FVec Ideal S512x256 .f32 :=
  addf a (matmul dot_S512x1536_S1536x256_S512x256_1_0_0_1_n_n none w v (constant S512x256 .f32 0x00000000#32))
def add2048 (a : FVec Ideal S512x256 .f32) (w : FVec Ideal S512x2048 .bf16) (v : FVec Ideal S2048x256 .bf16) : FVec Ideal S512x256 .f32 :=
  addf a (matmul dot_S512x2048_S2048x256_S512x256_1_0_0_1_n_n none w v (constant S512x256 .f32 0x00000000#32))

/-- The finished block: the accumulator's first 128 columns over its column 128, times the gate. -/
def fin (a : FVec Ideal S512x256 .f32) (g : FVec Ideal S512x128 .bf16) : FVec Ideal S1x1x512x128 .bf16 :=
  shapeCast S1x1x512x128 (truncf .bf16 (mulf
    (divf (extractStridedSlice S512x128 ![0, 0] a slices_S512x256_o0_0_S512x128)
      (broadcastTo S512x128 (extractStridedSlice S512x1 ![0, 128] a slices_S512x256_o0_128_S512x1) broadcasts_S512x1_S512x128))
    (extf .f32 g bitsLt_bf16_f32)) bitsLt_bf16_f32) shapeCasts_S512x128_S1x1x512x128

/-! ## Read at an index -/

/-- The mask's value at the extended reals. -/
theorem mask_named : (Named.named κ "mask" 0xF149F2CA#32 : Ideal .f32) = (⊥ : EReal) :=
  IdealRules.named_const.ideal_named_scalar _ _ _ _ rfl

theorem causal_apply (s : FVec Ideal S512x512 .f32) (r j : Fin 512) :
    causal s (ix2 r j) = if j.val ≤ r.val then s (ix2 r j) else (⊥ : EReal) := by
  unfold causal
  pointwise
  have hr := r.isLt
  have hj := j.isLt
  by_cases h : j.val ≤ r.val
  · rw [if_pos h, (WordCmp.cmpi_sge_ofNat_eq_one_iff (by omega) (by omega)).mpr h]; rfl
  · rw [if_neg h, (WordCmp.cmpi_sge_ofNat_eq_zero_iff (by omega) (by omega)).mpr (by omega)]; exact mask_named

theorem wFull_apply (q : FVec Ideal S512x256 .bf16) (k : FVec Ideal S2048x256 .bf16) (r : Fin 512) (j : Fin 2048) :
    wFull q k (ix2 r j) = Ideal.exp2 (∑ d : Fin 256, q (ix2 r d) * k (ix2 j d)) := by
  unfold wFull
  pointwise
  rfl

theorem wTail512_apply (q : FVec Ideal S512x256 .bf16) (k : FVec Ideal S512x256 .bf16) (r : Fin 512) (j : Fin 512) :
    wTail512 q k (ix2 r j) = Ideal.exp2 (if j.val ≤ r.val then ∑ d : Fin 256, q (ix2 r d) * k (ix2 j d) else ⊥) := by
  unfold wTail512
  pointwise
  rw [causal_apply]
  pointwise
  rfl

theorem wTail1024_apply (q : FVec Ideal S512x256 .bf16) (k : FVec Ideal S1024x256 .bf16) (r : Fin 512) (j : Fin 1024) :
    wTail1024 q k (ix2 r j) = Ideal.exp2 (if j.val ≤ r.val + 512 then ∑ d : Fin 256, q (ix2 r d) * k (ix2 j d) else ⊥) := by
  unfold wTail1024
  pointwise
  have hr := r.isLt
  have hj := j.isLt
  by_cases h : j.val < 512
  · rw [dif_pos h, if_pos (by omega)]; rfl
  · rw [dif_neg h, causal_apply]
    by_cases h' : j.val ≤ r.val + 512
    · rw [if_pos h', if_pos (by show j.val - 512 ≤ r.val; omega)]
      pointwise
      have e : (⟨512 + (j.val - 512), by omega⟩ : Fin 1024) = j := Fin.ext (by show 512 + (j.val - 512) = j.val; omega)
      rw [e]
      rfl
    · rw [if_neg h', if_neg (by show ¬ j.val - 512 ≤ r.val; omega)]; rfl

theorem wTail1536_apply (q : FVec Ideal S512x256 .bf16) (k : FVec Ideal S1536x256 .bf16) (r : Fin 512) (j : Fin 1536) :
    wTail1536 q k (ix2 r j) = Ideal.exp2 (if j.val ≤ r.val + 1024 then ∑ d : Fin 256, q (ix2 r d) * k (ix2 j d) else ⊥) := by
  unfold wTail1536
  pointwise
  have hr := r.isLt
  have hj := j.isLt
  by_cases h : j.val < 1024
  · rw [dif_pos h, if_pos (by omega)]; rfl
  · rw [dif_neg h, causal_apply]
    by_cases h' : j.val ≤ r.val + 1024
    · rw [if_pos h', if_pos (by show j.val - 1024 ≤ r.val; omega)]
      pointwise
      have e : (⟨1024 + (j.val - 1024), by omega⟩ : Fin 1536) = j := Fin.ext (by show 1024 + (j.val - 1024) = j.val; omega)
      rw [e]
      rfl
    · rw [if_neg h', if_neg (by show ¬ j.val - 1024 ≤ r.val; omega)]; rfl

theorem wTail2048_apply (q : FVec Ideal S512x256 .bf16) (k : FVec Ideal S2048x256 .bf16) (r : Fin 512) (j : Fin 2048) :
    wTail2048 q k (ix2 r j) = Ideal.exp2 (if j.val ≤ r.val + 1536 then ∑ d : Fin 256, q (ix2 r d) * k (ix2 j d) else ⊥) := by
  unfold wTail2048
  pointwise
  have hr := r.isLt
  have hj := j.isLt
  by_cases h : j.val < 1536
  · rw [dif_pos h, if_pos (by omega)]; rfl
  · rw [dif_neg h, causal_apply]
    by_cases h' : j.val ≤ r.val + 1536
    · rw [if_pos h', if_pos (by show j.val - 1536 ≤ r.val; omega)]
      pointwise
      have e : (⟨1536 + (j.val - 1536), by omega⟩ : Fin 2048) = j := Fin.ext (by show 1536 + (j.val - 1536) = j.val; omega)
      rw [e]
      rfl
    · rw [if_neg h', if_neg (by show ¬ j.val - 1536 ≤ r.val; omega)]; rfl

theorem add512_apply (a : FVec Ideal S512x256 .f32) (w : FVec Ideal S512x512 .bf16) (v : FVec Ideal S512x256 .bf16) (r : Fin 512) (c : Fin 256) :
    add512 a w v (ix2 r c) = a (ix2 r c) + ∑ j : Fin 512, w (ix2 r j) * v (ix2 j c) := by
  unfold add512
  pointwise

theorem add1024_apply (a : FVec Ideal S512x256 .f32) (w : FVec Ideal S512x1024 .bf16) (v : FVec Ideal S1024x256 .bf16) (r : Fin 512) (c : Fin 256) :
    add1024 a w v (ix2 r c) = a (ix2 r c) + ∑ j : Fin 1024, w (ix2 r j) * v (ix2 j c) := by
  unfold add1024
  pointwise

theorem add1536_apply (a : FVec Ideal S512x256 .f32) (w : FVec Ideal S512x1536 .bf16) (v : FVec Ideal S1536x256 .bf16) (r : Fin 512) (c : Fin 256) :
    add1536 a w v (ix2 r c) = a (ix2 r c) + ∑ j : Fin 1536, w (ix2 r j) * v (ix2 j c) := by
  unfold add1536
  pointwise

theorem add2048_apply (a : FVec Ideal S512x256 .f32) (w : FVec Ideal S512x2048 .bf16) (v : FVec Ideal S2048x256 .bf16) (r : Fin 512) (c : Fin 256) :
    add2048 a w v (ix2 r c) = a (ix2 r c) + ∑ j : Fin 2048, w (ix2 r j) * v (ix2 j c) := by
  unfold add2048
  pointwise

theorem acc0_apply (r : Fin 512) (c : Fin 256) : acc0 (ix2 r c) = 0 := by
  unfold acc0
  pointwise

theorem fin_apply (a : FVec Ideal S512x256 .f32) (g : FVec Ideal S512x128 .bf16) (r : Fin 512) (c : Fin 128) :
    fin a g (ix4 0 0 r c) = Ideal.div (a (ix2 r ⟨c.val, by omega⟩)) (a (ix2 r ⟨128, by omega⟩)) * g (ix2 r c) := by
  unfold fin
  pointwise

end Cert.KernelIdeal.Hand

end
-- ==== Proof.Attn.Row.lean ====
/-
  One row of the attention as a single sum over all 4096 keys, the keys after the row's own position weighted by `2^⊥ = 0`; and the
  kernel's accumulator after its one or two groups of keys as that sum.
-/
module

public import proofs.«01_k».proof.Proof.Attn.Pay

@[expose] public section

set_option maxRecDepth 16384

noncomputable section

namespace Cert.KernelIdeal.Hand

open Cert.KernelIdeal Cert.KernelIdeal.Gen
open Idealize.ShloMosaic Idealize.ShloMosaic.Pointwise

/-- The weight of key `j` for a query `q` at position `lim`: two to the score, a key after the position masked. -/
def weight (lim : ℕ) (q : Fin 256 → EReal) (K : Fin 4096 → Fin 256 → EReal) (j : Fin 4096) : EReal :=
  Ideal.exp2 (if j.val ≤ lim then ∑ d : Fin 256, q d * K j d else ⊥)

/-- The weighted sum of a column of values over all keys. -/
def rowAcc (lim : ℕ) (q : Fin 256 → EReal) (K : Fin 4096 → Fin 256 → EReal) (V : Fin 4096 → EReal) : EReal :=
  ∑ j : Fin 4096, weight lim q K j * V j

theorem exp2_bot : Ideal.exp2 (⊥ : EReal) = 0 := rfl

/-- A sum over all keys whose terms from key `n` on are zero is the sum over the first `n` keys. -/
theorem sum_first (f : Fin 4096 → EReal) (n : ℕ) (hn : n ≤ 4096) (hz : ∀ j : Fin 4096, n ≤ j.val → f j = 0) :
    ∑ j : Fin 4096, f j = ∑ j : Fin n, f ⟨j.val, by omega⟩ := by
  let g : ℕ → EReal := fun j => if h : j < 4096 then f ⟨j, h⟩ else 0
  have h1 : ∑ j : Fin 4096, f j = ∑ j ∈ Finset.range 4096, g j := by
    rw [← Fin.sum_univ_eq_sum_range]
    exact Finset.sum_congr rfl fun j _ => by simp only [g]; rw [dif_pos j.isLt]
  have h2 : ∑ j : Fin n, f ⟨j.val, by omega⟩ = ∑ j ∈ Finset.range n, g j := by
    rw [← Fin.sum_univ_eq_sum_range]
    exact Finset.sum_congr rfl fun j _ => by simp only [g]; rw [dif_pos (show j.val < 4096 by omega)]
  rw [h1, h2]
  refine (Finset.sum_subset (Finset.range_subset_range.mpr hn) fun j hj hj' => ?_).symm
  rw [Finset.mem_range] at hj hj'
  simp only [g]
  rw [dif_pos hj]
  exact hz _ (by show n ≤ j; omega)

/-- The same cut after key `a`. -/
theorem sum_split (f : Fin 4096 → EReal) (a b : ℕ) (hn : a + b ≤ 4096) (hz : ∀ j : Fin 4096, a + b ≤ j.val → f j = 0) :
    ∑ j : Fin 4096, f j = (∑ j : Fin a, f ⟨j.val, by omega⟩) + ∑ j : Fin b, f ⟨a + j.val, by omega⟩ := by
  rw [sum_first f (a + b) hn hz, Fin.sum_univ_add]
  rfl

theorem weight_zero (lim : ℕ) (q : Fin 256 → EReal) (K : Fin 4096 → Fin 256 → EReal) (V : Fin 4096 → EReal) (j : Fin 4096) (h : lim < j.val) :
    weight lim q K j * V j = 0 := by
  unfold weight
  rw [if_neg (by omega), exp2_bot, zero_mul]

/-- A row whose keys end within the first group. -/
theorem rowAcc_one (n lim r : ℕ) (hn : n ≤ 4096) (hn' : 512 ≤ n) (hr : r < 512) (hl : lim = r + (n - 512)) (q : Fin 256 → EReal) (K : Fin 4096 → Fin 256 → EReal)
    (V : Fin 4096 → EReal) (k : Fin n → Fin 256 → EReal) (v : Fin n → EReal)
    (hk : ∀ (j : Fin n) d, k j d = K ⟨j.val, by omega⟩ d) (hv : ∀ j : Fin n, v j = V ⟨j.val, by omega⟩) :
    (0 : EReal) + ∑ j : Fin n, Ideal.exp2 (if j.val ≤ r + (n - 512) then ∑ d : Fin 256, q d * k j d else ⊥) * v j = rowAcc lim q K V := by
  subst hl
  unfold rowAcc
  rw [zero_add, sum_first _ n hn fun j hj => weight_zero _ q K V j (by omega)]
  refine Finset.sum_congr rfl fun j _ => ?_
  unfold weight
  rw [hv j]
  simp only [hk]

/-- A row whose keys end within the second group. -/
theorem rowAcc_two (n lim r : ℕ) (hn : 2048 + n ≤ 4096) (hn' : 512 ≤ n) (hr : r < 512) (hl : lim = r + (n - 512) + 2048) (q : Fin 256 → EReal)
    (K : Fin 4096 → Fin 256 → EReal) (V : Fin 4096 → EReal) (k₁ : Fin 2048 → Fin 256 → EReal) (v₁ : Fin 2048 → EReal)
    (k : Fin n → Fin 256 → EReal) (v : Fin n → EReal)
    (hk₁ : ∀ (j : Fin 2048) d, k₁ j d = K ⟨j.val, by omega⟩ d) (hv₁ : ∀ j : Fin 2048, v₁ j = V ⟨j.val, by omega⟩)
    (hk : ∀ (j : Fin n) d, k j d = K ⟨2048 + j.val, by omega⟩ d) (hv : ∀ j : Fin n, v j = V ⟨2048 + j.val, by omega⟩) :
    ((0 : EReal) + ∑ j : Fin 2048, Ideal.exp2 (∑ d : Fin 256, q d * k₁ j d) * v₁ j)
      + ∑ j : Fin n, Ideal.exp2 (if j.val ≤ r + (n - 512) then ∑ d : Fin 256, q d * k j d else ⊥) * v j = rowAcc lim q K V := by
  subst hl
  unfold rowAcc
  rw [zero_add, sum_split _ 2048 n hn fun j hj => weight_zero _ q K V j (by omega)]
  refine congrArg₂ (· + ·) (Finset.sum_congr rfl fun j _ => ?_) (Finset.sum_congr rfl fun j _ => ?_)
  · unfold weight
    rw [hv₁ j, if_pos (show j.val ≤ r + (n - 512) + 2048 by omega)]
    simp only [hk₁]
  · unfold weight
    rw [hv j]
    simp only [hk]
    refine congrArg₂ (· * ·) (congrArg Ideal.exp2 (if_congr ?_ rfl rfl)) rfl
    show j.val ≤ r + (n - 512) ↔ 2048 + j.val ≤ r + (n - 512) + 2048
    omega

/-- The row finished: divided by its weights' sum (the values' column of ones) and multiplied by the gate. -/
def rowOut (lim : ℕ) (q : Fin 256 → EReal) (K V : Fin 4096 → Fin 256 → EReal) (g : Fin 128 → EReal) (c : Fin 128) : EReal :=
  Ideal.div (rowAcc lim q K fun j => V j ⟨c.val, by omega⟩) (rowAcc lim q K fun j => V j ⟨128, by omega⟩) * g c

theorem one512 (q : FVec Ideal S512x256 .bf16) (k v : FVec Ideal S512x256 .bf16) (g : FVec Ideal S512x128 .bf16)
    (K V : Fin 4096 → Fin 256 → EReal) (hk : ∀ (j : Fin 512) d, k (ix2 j d) = K ⟨j.val, by omega⟩ d)
    (hv : ∀ (j : Fin 512) d, v (ix2 j d) = V ⟨j.val, by omega⟩ d) (r : Fin 512) (c : Fin 128) :
    fin (add512 acc0 (wTail512 q k) v) g (ix4 0 0 r c)
      = rowOut (r.val + 0) (fun d => q (ix2 r d)) K V (fun c => g (ix2 r c)) c := by
  rw [fin_apply]
  simp only [add512_apply, acc0_apply, wTail512_apply]
  unfold rowOut
  refine congrArg₂ (· * ·) (congrArg₂ Ideal.div ?_ ?_) rfl
  · exact rowAcc_one 512 _ r.val (by omega) (by omega) r.isLt rfl (fun d => q (ix2 r d)) K _ (fun j d => k (ix2 j d)) _ hk fun j => hv j _
  · exact rowAcc_one 512 _ r.val (by omega) (by omega) r.isLt rfl (fun d => q (ix2 r d)) K _ (fun j d => k (ix2 j d)) _ hk fun j => hv j _

theorem two512 (q : FVec Ideal S512x256 .bf16) (k₁ v₁ : FVec Ideal S2048x256 .bf16) (k v : FVec Ideal S512x256 .bf16)
    (g : FVec Ideal S512x128 .bf16) (K V : Fin 4096 → Fin 256 → EReal)
    (hk₁ : ∀ (j : Fin 2048) d, k₁ (ix2 j d) = K ⟨j.val, by omega⟩ d) (hv₁ : ∀ (j : Fin 2048) d, v₁ (ix2 j d) = V ⟨j.val, by omega⟩ d)
    (hk : ∀ (j : Fin 512) d, k (ix2 j d) = K ⟨2048 + j.val, by omega⟩ d)
    (hv : ∀ (j : Fin 512) d, v (ix2 j d) = V ⟨2048 + j.val, by omega⟩ d) (r : Fin 512) (c : Fin 128) :
    fin (add512 (add2048 acc0 (wFull q k₁) v₁) (wTail512 q k) v) g (ix4 0 0 r c)
      = rowOut (r.val + 0 + 2048) (fun d => q (ix2 r d)) K V (fun c => g (ix2 r c)) c := by
  rw [fin_apply]
  simp only [add512_apply, add2048_apply, acc0_apply, wTail512_apply, wFull_apply]
  unfold rowOut
  refine congrArg₂ (· * ·) (congrArg₂ Ideal.div ?_ ?_) rfl
  · exact rowAcc_two 512 _ r.val (by omega) (by omega) r.isLt rfl (fun d => q (ix2 r d)) K _ (fun j d => k₁ (ix2 j d)) _
      (fun j d => k (ix2 j d)) _ hk₁ (fun j => hv₁ j _) hk fun j => hv j _
  · exact rowAcc_two 512 _ r.val (by omega) (by omega) r.isLt rfl (fun d => q (ix2 r d)) K _ (fun j d => k₁ (ix2 j d)) _
      (fun j d => k (ix2 j d)) _ hk₁ (fun j => hv₁ j _) hk fun j => hv j _

theorem one1024 (q : FVec Ideal S512x256 .bf16) (k v : FVec Ideal S1024x256 .bf16) (g : FVec Ideal S512x128 .bf16)
    (K V : Fin 4096 → Fin 256 → EReal) (hk : ∀ (j : Fin 1024) d, k (ix2 j d) = K ⟨j.val, by omega⟩ d)
    (hv : ∀ (j : Fin 1024) d, v (ix2 j d) = V ⟨j.val, by omega⟩ d) (r : Fin 512) (c : Fin 128) :
    fin (add1024 acc0 (wTail1024 q k) v) g (ix4 0 0 r c)
      = rowOut (r.val + 512) (fun d => q (ix2 r d)) K V (fun c => g (ix2 r c)) c := by
  rw [fin_apply]
  simp only [add1024_apply, acc0_apply, wTail1024_apply]
  unfold rowOut
  refine congrArg₂ (· * ·) (congrArg₂ Ideal.div ?_ ?_) rfl
  · exact rowAcc_one 1024 _ r.val (by omega) (by omega) r.isLt rfl (fun d => q (ix2 r d)) K _ (fun j d => k (ix2 j d)) _ hk fun j => hv j _
  · exact rowAcc_one 1024 _ r.val (by omega) (by omega) r.isLt rfl (fun d => q (ix2 r d)) K _ (fun j d => k (ix2 j d)) _ hk fun j => hv j _

theorem two1024 (q : FVec Ideal S512x256 .bf16) (k₁ v₁ : FVec Ideal S2048x256 .bf16) (k v : FVec Ideal S1024x256 .bf16)
    (g : FVec Ideal S512x128 .bf16) (K V : Fin 4096 → Fin 256 → EReal)
    (hk₁ : ∀ (j : Fin 2048) d, k₁ (ix2 j d) = K ⟨j.val, by omega⟩ d) (hv₁ : ∀ (j : Fin 2048) d, v₁ (ix2 j d) = V ⟨j.val, by omega⟩ d)
    (hk : ∀ (j : Fin 1024) d, k (ix2 j d) = K ⟨2048 + j.val, by omega⟩ d)
    (hv : ∀ (j : Fin 1024) d, v (ix2 j d) = V ⟨2048 + j.val, by omega⟩ d) (r : Fin 512) (c : Fin 128) :
    fin (add1024 (add2048 acc0 (wFull q k₁) v₁) (wTail1024 q k) v) g (ix4 0 0 r c)
      = rowOut (r.val + 512 + 2048) (fun d => q (ix2 r d)) K V (fun c => g (ix2 r c)) c := by
  rw [fin_apply]
  simp only [add1024_apply, add2048_apply, acc0_apply, wTail1024_apply, wFull_apply]
  unfold rowOut
  refine congrArg₂ (· * ·) (congrArg₂ Ideal.div ?_ ?_) rfl
  · exact rowAcc_two 1024 _ r.val (by omega) (by omega) r.isLt rfl (fun d => q (ix2 r d)) K _ (fun j d => k₁ (ix2 j d)) _
      (fun j d => k (ix2 j d)) _ hk₁ (fun j => hv₁ j _) hk fun j => hv j _
  · exact rowAcc_two 1024 _ r.val (by omega) (by omega) r.isLt rfl (fun d => q (ix2 r d)) K _ (fun j d => k₁ (ix2 j d)) _
      (fun j d => k (ix2 j d)) _ hk₁ (fun j => hv₁ j _) hk fun j => hv j _

theorem one1536 (q : FVec Ideal S512x256 .bf16) (k v : FVec Ideal S1536x256 .bf16) (g : FVec Ideal S512x128 .bf16)
    (K V : Fin 4096 → Fin 256 → EReal) (hk : ∀ (j : Fin 1536) d, k (ix2 j d) = K ⟨j.val, by omega⟩ d)
    (hv : ∀ (j : Fin 1536) d, v (ix2 j d) = V ⟨j.val, by omega⟩ d) (r : Fin 512) (c : Fin 128) :
    fin (add1536 acc0 (wTail1536 q k) v) g (ix4 0 0 r c)
      = rowOut (r.val + 1024) (fun d => q (ix2 r d)) K V (fun c => g (ix2 r c)) c := by
  rw [fin_apply]
  simp only [add1536_apply, acc0_apply, wTail1536_apply]
  unfold rowOut
  refine congrArg₂ (· * ·) (congrArg₂ Ideal.div ?_ ?_) rfl
  · exact rowAcc_one 1536 _ r.val (by omega) (by omega) r.isLt rfl (fun d => q (ix2 r d)) K _ (fun j d => k (ix2 j d)) _ hk fun j => hv j _
  · exact rowAcc_one 1536 _ r.val (by omega) (by omega) r.isLt rfl (fun d => q (ix2 r d)) K _ (fun j d => k (ix2 j d)) _ hk fun j => hv j _

theorem two1536 (q : FVec Ideal S512x256 .bf16) (k₁ v₁ : FVec Ideal S2048x256 .bf16) (k v : FVec Ideal S1536x256 .bf16)
    (g : FVec Ideal S512x128 .bf16) (K V : Fin 4096 → Fin 256 → EReal)
    (hk₁ : ∀ (j : Fin 2048) d, k₁ (ix2 j d) = K ⟨j.val, by omega⟩ d) (hv₁ : ∀ (j : Fin 2048) d, v₁ (ix2 j d) = V ⟨j.val, by omega⟩ d)
    (hk : ∀ (j : Fin 1536) d, k (ix2 j d) = K ⟨2048 + j.val, by omega⟩ d)
    (hv : ∀ (j : Fin 1536) d, v (ix2 j d) = V ⟨2048 + j.val, by omega⟩ d) (r : Fin 512) (c : Fin 128) :
    fin (add1536 (add2048 acc0 (wFull q k₁) v₁) (wTail1536 q k) v) g (ix4 0 0 r c)
      = rowOut (r.val + 1024 + 2048) (fun d => q (ix2 r d)) K V (fun c => g (ix2 r c)) c := by
  rw [fin_apply]
  simp only [add1536_apply, add2048_apply, acc0_apply, wTail1536_apply, wFull_apply]
  unfold rowOut
  refine congrArg₂ (· * ·) (congrArg₂ Ideal.div ?_ ?_) rfl
  · exact rowAcc_two 1536 _ r.val (by omega) (by omega) r.isLt rfl (fun d => q (ix2 r d)) K _ (fun j d => k₁ (ix2 j d)) _
      (fun j d => k (ix2 j d)) _ hk₁ (fun j => hv₁ j _) hk fun j => hv j _
  · exact rowAcc_two 1536 _ r.val (by omega) (by omega) r.isLt rfl (fun d => q (ix2 r d)) K _ (fun j d => k₁ (ix2 j d)) _
      (fun j d => k (ix2 j d)) _ hk₁ (fun j => hv₁ j _) hk fun j => hv j _

theorem one2048 (q : FVec Ideal S512x256 .bf16) (k v : FVec Ideal S2048x256 .bf16) (g : FVec Ideal S512x128 .bf16)
    (K V : Fin 4096 → Fin 256 → EReal) (hk : ∀ (j : Fin 2048) d, k (ix2 j d) = K ⟨j.val, by omega⟩ d)
    (hv : ∀ (j : Fin 2048) d, v (ix2 j d) = V ⟨j.val, by omega⟩ d) (r : Fin 512) (c : Fin 128) :
    fin (add2048 acc0 (wTail2048 q k) v) g (ix4 0 0 r c)
      = rowOut (r.val + 1536) (fun d => q (ix2 r d)) K V (fun c => g (ix2 r c)) c := by
  rw [fin_apply]
  simp only [add2048_apply, acc0_apply, wTail2048_apply]
  unfold rowOut
  refine congrArg₂ (· * ·) (congrArg₂ Ideal.div ?_ ?_) rfl
  · exact rowAcc_one 2048 _ r.val (by omega) (by omega) r.isLt rfl (fun d => q (ix2 r d)) K _ (fun j d => k (ix2 j d)) _ hk fun j => hv j _
  · exact rowAcc_one 2048 _ r.val (by omega) (by omega) r.isLt rfl (fun d => q (ix2 r d)) K _ (fun j d => k (ix2 j d)) _ hk fun j => hv j _

theorem two2048 (q : FVec Ideal S512x256 .bf16) (k₁ v₁ : FVec Ideal S2048x256 .bf16) (k v : FVec Ideal S2048x256 .bf16)
    (g : FVec Ideal S512x128 .bf16) (K V : Fin 4096 → Fin 256 → EReal)
    (hk₁ : ∀ (j : Fin 2048) d, k₁ (ix2 j d) = K ⟨j.val, by omega⟩ d) (hv₁ : ∀ (j : Fin 2048) d, v₁ (ix2 j d) = V ⟨j.val, by omega⟩ d)
    (hk : ∀ (j : Fin 2048) d, k (ix2 j d) = K ⟨2048 + j.val, by omega⟩ d)
    (hv : ∀ (j : Fin 2048) d, v (ix2 j d) = V ⟨2048 + j.val, by omega⟩ d) (r : Fin 512) (c : Fin 128) :
    fin (add2048 (add2048 acc0 (wFull q k₁) v₁) (wTail2048 q k) v) g (ix4 0 0 r c)
      = rowOut (r.val + 1536 + 2048) (fun d => q (ix2 r d)) K V (fun c => g (ix2 r c)) c := by
  rw [fin_apply]
  simp only [add2048_apply, add2048_apply, acc0_apply, wTail2048_apply, wFull_apply]
  unfold rowOut
  refine congrArg₂ (· * ·) (congrArg₂ Ideal.div ?_ ?_) rfl
  · exact rowAcc_two 2048 _ r.val (by omega) (by omega) r.isLt rfl (fun d => q (ix2 r d)) K _ (fun j d => k₁ (ix2 j d)) _
      (fun j d => k (ix2 j d)) _ hk₁ (fun j => hv₁ j _) hk fun j => hv j _
  · exact rowAcc_two 2048 _ r.val (by omega) (by omega) r.isLt rfl (fun d => q (ix2 r d)) K _ (fun j d => k₁ (ix2 j d)) _
      (fun j d => k (ix2 j d)) _ hk₁ (fun j => hv₁ j _) hk fun j => hv j _

end Cert.KernelIdeal.Hand

end
-- ==== Proof.Attn.Store.lean ====
/-
  The output block of a grid step, index by index: the four stores of a step write two of the block's eight rows of 512 queries, each
  in two halves of 128 columns (one for each of the step's two heads).
-/
module

public import proofs.«01_k».proof.Proof.Attn.Row
public import proofs.«01_k».proof.Proof.Gen.KernelIdeal.Frame
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.Pointwise

/-- Row `r`, column `c` of query block `b`, from the step's queries, keys, values and gate (two heads side by side in each). -/
def blockOut (b : ℕ) (q : FVec Ideal S512x512 .bf16) (k v : FVec Ideal S4096x512 .bf16) (g : FVec Ideal S512x256 .bf16)
    (r : Fin 512) (c : Fin 256) : EReal :=
  rowOut (r.val + 512 * b) (fun d => q (ix2 r ⟨256 * (c.val / 128) + d.val, by omega⟩))
    (fun j d => k (ix2 j ⟨256 * (c.val / 128) + d.val, by omega⟩)) (fun j d => v (ix2 j ⟨256 * (c.val / 128) + d.val, by omega⟩))
    (fun l => g (ix2 r ⟨128 * (c.val / 128) + l.val, by omega⟩)) ⟨c.val % 128, by omega⟩

/-- A load of a window of a rank-2 block held whole, at an index. -/
theorem load2 {κ : Kind} {sp : Space} {R C M N a b : ℕ} (m : Memref sig κ sp ⟨2, ![R, C]⟩ .bf16) (hm : m.IsWhole)
    (x : FVec Ideal ⟨2, ![R, C]⟩ .bf16)
    (inb : ∀ i, (![a, b] : Fin 2 → ℕ) i + (![M, N] : Fin 2 → ℕ) i ≤ (![R, C] : Fin 2 → ℕ) i) (i : Fin M) (j : Fin N)
    (hi : a + i.val < R) (hj : b + j.val < C) :
    m.view.readAt (Elt Ideal) (Rect.unit (s := ⟨2, ![R, C]⟩) ![a, b] ![M, N] inb).toLoadRect (hm.unread x) (ix2 i j)
      = x (ix2 ⟨a + i.val, hi⟩ ⟨b + j.val, hj⟩) := by
  show m.view.read (Elt Ideal) (hm.unread x) _ = _
  rw [hm.read_unread]
  refine congrArg x (funext fun t => Fin.ext ?_)
  match t with
  | ⟨0, _⟩ => show a + 1 * i.val = a + i.val; omega
  | ⟨1, _⟩ => show b + 1 * j.val = b + j.val; omega

/-- The block after a step's four stores. -/
theorem read_four {κ : Kind} {sp : Space} (v : View sig κ sp S1x8x512x256 .bf16) (f : v.ty.Contents (Elt Ideal)) (a b : ℕ)
    (i₁ : ∀ t, (![0, a, 0, 0] : Fin 4 → ℕ) t + (![1, 1, 512, 128] : Fin 4 → ℕ) t ≤ S1x8x512x256.size t)
    (i₂ : ∀ t, (![0, a, 0, 128] : Fin 4 → ℕ) t + (![1, 1, 512, 128] : Fin 4 → ℕ) t ≤ S1x8x512x256.size t)
    (i₃ : ∀ t, (![0, b, 0, 0] : Fin 4 → ℕ) t + (![1, 1, 512, 128] : Fin 4 → ℕ) t ≤ S1x8x512x256.size t)
    (i₄ : ∀ t, (![0, b, 0, 128] : Fin 4 → ℕ) t + (![1, 1, 512, 128] : Fin 4 → ℕ) t ≤ S1x8x512x256.size t)
    (p₁ p₂ p₃ p₄ : FVec Ideal S1x1x512x128 .bf16) (P Q : Fin 512 → Fin 256 → EReal)
    (h₁ : ∀ (r : Fin 512) (c : Fin 128), p₁ (ix4 0 0 r c) = P r ⟨c.val, by omega⟩)
    (h₂ : ∀ (r : Fin 512) (c : Fin 128), p₂ (ix4 0 0 r c) = P r ⟨128 + c.val, by omega⟩)
    (h₃ : ∀ (r : Fin 512) (c : Fin 128), p₃ (ix4 0 0 r c) = Q r ⟨c.val, by omega⟩)
    (h₄ : ∀ (r : Fin 512) (c : Fin 128), p₄ (ix4 0 0 r c) = Q r ⟨128 + c.val, by omega⟩)
    (e : Fin 8) (r : Fin 512) (c : Fin 256) :
    v.read (Elt Ideal) (v.writes (Elt Ideal) f
      [⟨Rect.unit ![0, b, 0, 128] ![1, 1, 512, 128] i₄, p₄⟩, ⟨Rect.unit ![0, b, 0, 0] ![1, 1, 512, 128] i₃, p₃⟩,
       ⟨Rect.unit ![0, a, 0, 128] ![1, 1, 512, 128] i₂, p₂⟩, ⟨Rect.unit ![0, a, 0, 0] ![1, 1, 512, 128] i₁, p₁⟩]) (ix4 0 e r c)
      = if e.val = b then Q r c else if e.val = a then P r c else v.read (Elt Ideal) f (ix4 0 e r c) := by
  have hr := r.isLt
  have hc := c.isLt
  by_cases hb : e.val = b
  · rw [if_pos hb]
    by_cases hc' : c.val < 128
    · rw [View.read_writes_cons_unit_of_not_mem v f i₄ _ _ _ rfl (3 : Fin 4) (Or.inl (show c.val < 128 from hc')),
        View.read_writes_cons_unit_of_mem v f i₃ _ _ _ (ix4 0 0 r ⟨c.val, hc'⟩ : S1x1x512x128.Idx) rfl fun t => ?_]
      · exact h₃ r ⟨c.val, hc'⟩
      · match t with
        | ⟨0, _⟩ => rfl
        | ⟨1, _⟩ => show e.val = b + 0; omega
        | ⟨2, _⟩ => show r.val = 0 + r.val; omega
        | ⟨3, _⟩ => show c.val = 0 + c.val; omega
    · rw [View.read_writes_cons_unit_of_mem v f i₄ _ _ _ (ix4 0 0 r ⟨c.val - 128, by omega⟩ : S1x1x512x128.Idx) rfl fun t => ?_]
      · exact (h₄ r ⟨c.val - 128, by omega⟩).trans (congrArg (Q r) (Fin.ext (by show 128 + (c.val - 128) = c.val; omega)))
      · match t with
        | ⟨0, _⟩ => rfl
        | ⟨1, _⟩ => show e.val = b + 0; omega
        | ⟨2, _⟩ => show r.val = 0 + r.val; omega
        | ⟨3, _⟩ => show c.val = 128 + (c.val - 128); omega
  · rw [if_neg hb,
      View.read_writes_cons_unit_of_not_mem v f i₄ _ _ _ rfl (1 : Fin 4) (show e.val < b ∨ b + 1 ≤ e.val by omega),
      View.read_writes_cons_unit_of_not_mem v f i₃ _ _ _ rfl (1 : Fin 4) (show e.val < b ∨ b + 1 ≤ e.val by omega)]
    by_cases ha : e.val = a
    · rw [if_pos ha]
      by_cases hc' : c.val < 128
      · rw [View.read_writes_cons_unit_of_not_mem v f i₂ _ _ _ rfl (3 : Fin 4) (Or.inl (show c.val < 128 from hc')),
          View.read_writes_cons_unit_of_mem v f i₁ _ _ _ (ix4 0 0 r ⟨c.val, hc'⟩ : S1x1x512x128.Idx) rfl fun t => ?_]
        · exact h₁ r ⟨c.val, hc'⟩
        · match t with
          | ⟨0, _⟩ => rfl
          | ⟨1, _⟩ => show e.val = a + 0; omega
          | ⟨2, _⟩ => show r.val = 0 + r.val; omega
          | ⟨3, _⟩ => show c.val = 0 + c.val; omega
      · rw [View.read_writes_cons_unit_of_mem v f i₂ _ _ _ (ix4 0 0 r ⟨c.val - 128, by omega⟩ : S1x1x512x128.Idx) rfl fun t => ?_]
        · exact (h₂ r ⟨c.val - 128, by omega⟩).trans (congrArg (P r) (Fin.ext (by show 128 + (c.val - 128) = c.val; omega)))
        · match t with
          | ⟨0, _⟩ => rfl
          | ⟨1, _⟩ => show e.val = a + 0; omega
          | ⟨2, _⟩ => show r.val = 0 + r.val; omega
          | ⟨3, _⟩ => show c.val = 128 + (c.val - 128); omega
    · rw [if_neg ha,
        View.read_writes_cons_unit_of_not_mem v f i₂ _ _ _ rfl (1 : Fin 4) (show e.val < a ∨ a + 1 ≤ e.val by omega),
        View.read_writes_cons_unit_of_not_mem v f i₁ _ _ _ rfl (1 : Fin 4) (show e.val < a ∨ a + 1 ≤ e.val by omega)]
      rfl

end Cert.KernelIdeal.Hand

end
-- ==== Proof.Attn.Block.lean ====
/-
  The finished value of each of the eight query blocks and two heads, as the kernel composes it of loads, is that block's row of the
  attention (`blockOut`).
-/
module

public import proofs.«01_k».proof.Proof.Attn.Store

@[expose] public section

set_option maxRecDepth 16384

noncomputable section

namespace Cert.KernelIdeal.Hand

open Cert.KernelIdeal Cert.KernelIdeal.Gen
open Idealize.ShloMosaic Idealize.ShloMosaic.Pointwise

/-- A load of the window of sizes `M × N` at `(a, b)` of a rank-2 block held whole. -/
abbrev rd {κ : Kind} {sp : Space} {R C : ℕ} (m : Memref sig κ sp ⟨2, ![R, C]⟩ .bf16) (hm : m.IsWhole) (x : FVec Ideal ⟨2, ![R, C]⟩ .bf16)
    (a b M N : ℕ) (inb : ∀ i, (![a, b] : Fin 2 → ℕ) i + (![M, N] : Fin 2 → ℕ) i ≤ (![R, C] : Fin 2 → ℕ) i) : FVec Ideal ⟨2, ![M, N]⟩ .bf16 :=
  m.view.readAt (Elt Ideal) (Rect.unit (s := ⟨2, ![R, C]⟩) ![a, b] ![M, N] inb).toLoadRect (hm.unread x)

theorem blockOut_eq (b h : ℕ) (hh : h < 2) (q : FVec Ideal S512x512 .bf16) (k v : FVec Ideal S4096x512 .bf16) (g : FVec Ideal S512x256 .bf16)
    (r : Fin 512) (c : Fin 128) (lim : ℕ) (hl : lim = r.val + 512 * b) (q' : Fin 256 → EReal) (K V : Fin 4096 → Fin 256 → EReal) (g' : Fin 128 → EReal)
    (hq : ∀ d, q' d = q (ix2 r ⟨256 * h + d.val, by omega⟩)) (hK : ∀ j d, K j d = k (ix2 j ⟨256 * h + d.val, by omega⟩))
    (hV : ∀ j d, V j d = v (ix2 j ⟨256 * h + d.val, by omega⟩)) (hg : ∀ l, g' l = g (ix2 r ⟨128 * h + l.val, by omega⟩)) :
    rowOut lim q' K V g' c = blockOut b q k v g r ⟨128 * h + c.val, by omega⟩ := by
  have e1 : (128 * h + c.val) / 128 = h := by omega
  have e2 : (128 * h + c.val) % 128 = c.val := by omega
  subst hl
  unfold blockOut
  obtain rfl : q' = _ := funext hq
  obtain rfl : K = _ := funext fun j => funext (hK j)
  obtain rfl : V = _ := funext fun j => funext (hV j)
  obtain rfl : g' = _ := funext hg
  simp only [e1, e2]

theorem rd_eq {κ : Kind} {sp : Space} {R C : ℕ} (m : Memref sig κ sp ⟨2, ![R, C]⟩ .bf16) (hm : m.IsWhole) (x : FVec Ideal ⟨2, ![R, C]⟩ .bf16)
    (a b M N : ℕ) (inb : ∀ i, (![a, b] : Fin 2 → ℕ) i + (![M, N] : Fin 2 → ℕ) i ≤ (![R, C] : Fin 2 → ℕ) i) (i : Fin M) (j : Fin N)
    (i' : Fin R) (j' : Fin C) (hi : i'.val = a + i.val) (hj : j'.val = b + j.val) : rd m hm x a b M N inb (ix2 i j) = x (ix2 i' j') :=
  (load2 m hm x inb i j (by omega) (by omega)).trans (congrArg x (congrArg₂ ix2 (Fin.ext hi.symm) (Fin.ext hj.symm)))

variable {κ : Kind} {sp : Space} (m₀ : Memref sig κ sp S512x512 .bf16) (h₀ : m₀.IsWhole) (x₀ : FVec Ideal S512x512 .bf16)
  (m₂ : Memref sig κ sp S4096x512 .bf16) (h₂ : m₂.IsWhole) (x₂ : FVec Ideal S4096x512 .bf16)
  (m₃ : Memref sig κ sp S4096x512 .bf16) (h₃ : m₃.IsWhole) (x₃ : FVec Ideal S4096x512 .bf16)
  (m₄ : Memref sig κ sp S512x256 .bf16) (h₄ : m₄.IsWhole) (x₄ : FVec Ideal S512x256 .bf16)

theorem block0_0 (r : Fin 512) (c : Fin 128) :
    fin (add512 acc0 (wTail512 (rd m₀ h₀ x₀ 0 0 512 256 (by decide)) (rd m₂ h₂ x₂ 0 0 512 256 (by decide))) (rd m₃ h₃ x₃ 0 0 512 256 (by decide))) (rd m₄ h₄ x₄ 0 0 512 128 (by decide)) (ix4 0 0 r c)
      = blockOut 0 x₀ x₂ x₃ x₄ r ⟨128 * 0 + c.val, by omega⟩ :=
  (one512 (rd m₀ h₀ x₀ 0 0 512 256 (by decide)) (rd m₂ h₂ x₂ 0 0 512 256 (by decide)) (rd m₃ h₃ x₃ 0 0 512 256 (by decide)) (rd m₄ h₄ x₄ 0 0 512 128 (by decide))
      (fun j d => x₂ (ix2 j ⟨256 * 0 + d.val, by omega⟩)) (fun j d => x₃ (ix2 j ⟨256 * 0 + d.val, by omega⟩))
      (fun j d => rd_eq _ _ _ _ _ _ _ _ _ _ _ _ (by simp) (by simp))
      (fun j d => rd_eq _ _ _ _ _ _ _ _ _ _ _ _ (by simp) (by simp))
      r c).trans
    (blockOut_eq 0 0 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block0_1 (r : Fin 512) (c : Fin 128) :
    fin (add512 acc0 (wTail512 (rd m₀ h₀ x₀ 0 256 512 256 (by decide)) (rd m₂ h₂ x₂ 0 256 512 256 (by decide))) (rd m₃ h₃ x₃ 0 256 512 256 (by decide))) (rd m₄ h₄ x₄ 0 128 512 128 (by decide)) (ix4 0 0 r c)
      = blockOut 0 x₀ x₂ x₃ x₄ r ⟨128 * 1 + c.val, by omega⟩ :=
  (one512 (rd m₀ h₀ x₀ 0 256 512 256 (by decide)) (rd m₂ h₂ x₂ 0 256 512 256 (by decide)) (rd m₃ h₃ x₃ 0 256 512 256 (by decide)) (rd m₄ h₄ x₄ 0 128 512 128 (by decide))
      (fun j d => x₂ (ix2 j ⟨256 * 1 + d.val, by omega⟩)) (fun j d => x₃ (ix2 j ⟨256 * 1 + d.val, by omega⟩))
      (fun j d => rd_eq _ _ _ _ _ _ _ _ _ _ _ _ (by simp) (by simp))
      (fun j d => rd_eq _ _ _ _ _ _ _ _ _ _ _ _ (by simp) (by simp))
      r c).trans
    (blockOut_eq 0 1 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block1_0 (r : Fin 512) (c : Fin 128) :
    fin (add1024 acc0 (wTail1024 (rd m₀ h₀ x₀ 0 0 512 256 (by decide)) (rd m₂ h₂ x₂ 0 0 1024 256 (by decide))) (rd m₃ h₃ x₃ 0 0 1024 256 (by decide))) (rd m₄ h₄ x₄ 0 0 512 128 (by decide)) (ix4 0 0 r c)
      = blockOut 1 x₀ x₂ x₃ x₄ r ⟨128 * 0 + c.val, by omega⟩ :=
  (one1024 (rd m₀ h₀ x₀ 0 0 512 256 (by decide)) (rd m₂ h₂ x₂ 0 0 1024 256 (by decide)) (rd m₃ h₃ x₃ 0 0 1024 256 (by decide)) (rd m₄ h₄ x₄ 0 0 512 128 (by decide))
      (fun j d => x₂ (ix2 j ⟨256 * 0 + d.val, by omega⟩)) (fun j d => x₃ (ix2 j ⟨256 * 0 + d.val, by omega⟩))
      (fun j d => rd_eq _ _ _ _ _ _ _ _ _ _ _ _ (by simp) (by simp))
      (fun j d => rd_eq _ _ _ _ _ _ _ _ _ _ _ _ (by simp) (by simp))
      r c).trans
    (blockOut_eq 1 0 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block1_1 (r : Fin 512) (c : Fin 128) :
    fin (add1024 acc0 (wTail1024 (rd m₀ h₀ x₀ 0 256 512 256 (by decide)) (rd m₂ h₂ x₂ 0 256 1024 256 (by decide))) (rd m₃ h₃ x₃ 0 256 1024 256 (by decide))) (rd m₄ h₄ x₄ 0 128 512 128 (by decide)) (ix4 0 0 r c)
      = blockOut 1 x₀ x₂ x₃ x₄ r ⟨128 * 1 + c.val, by omega⟩ :=
  (one1024 (rd m₀ h₀ x₀ 0 256 512 256 (by decide)) (rd m₂ h₂ x₂ 0 256 1024 256 (by decide)) (rd m₃ h₃ x₃ 0 256 1024 256 (by decide)) (rd m₄ h₄ x₄ 0 128 512 128 (by decide))
      (fun j d => x₂ (ix2 j ⟨256 * 1 + d.val, by omega⟩)) (fun j d => x₃ (ix2 j ⟨256 * 1 + d.val, by omega⟩))
      (fun j d => rd_eq _ _ _ _ _ _ _ _ _ _ _ _ (by simp) (by simp))
      (fun j d => rd_eq _ _ _ _ _ _ _ _ _ _ _ _ (by simp) (by simp))
      r c).trans
    (blockOut_eq 1 1 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block2_0 (r : Fin 512) (c : Fin 128) :
    fin (add1536 acc0 (wTail1536 (rd m₀ h₀ x₀ 0 0 512 256 (by decide)) (rd m₂ h₂ x₂ 0 0 1536 256 (by decide))) (rd m₃ h₃ x₃ 0 0 1536 256 (by decide))) (rd m₄ h₄ x₄ 0 0 512 128 (by decide)) (ix4 0 0 r c)
      = blockOut 2 x₀ x₂ x₃ x₄ r ⟨128 * 0 + c.val, by omega⟩ :=
  (one1536 (rd m₀ h₀ x₀ 0 0 512 256 (by decide)) (rd m₂ h₂ x₂ 0 0 1536 256 (by decide)) (rd m₃ h₃ x₃ 0 0 1536 256 (by decide)) (rd m₄ h₄ x₄ 0 0 512 128 (by decide))
      (fun j d => x₂ (ix2 j ⟨256 * 0 + d.val, by omega⟩)) (fun j d => x₃ (ix2 j ⟨256 * 0 + d.val, by omega⟩))
      (fun j d => rd_eq _ _ _ _ _ _ _ _ _ _ _ _ (by simp) (by simp))
      (fun j d => rd_eq _ _ _ _ _ _ _ _ _ _ _ _ (by simp) (by simp))
      r c).trans
    (blockOut_eq 2 0 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block2_1 (r : Fin 512) (c : Fin 128) :
    fin (add1536 acc0 (wTail1536 (rd m₀ h₀ x₀ 0 256 512 256 (by decide)) (rd m₂ h₂ x₂ 0 256 1536 256 (by decide))) (rd m₃ h₃ x₃ 0 256 1536 256 (by decide))) (rd m₄ h₄ x₄ 0 128 512 128 (by decide)) (ix4 0 0 r c)
      = blockOut 2 x₀ x₂ x₃ x₄ r ⟨128 * 1 + c.val, by omega⟩ :=
  (one1536 (rd m₀ h₀ x₀ 0 256 512 256 (by decide)) (rd m₂ h₂ x₂ 0 256 1536 256 (by decide)) (rd m₃ h₃ x₃ 0 256 1536 256 (by decide)) (rd m₄ h₄ x₄ 0 128 512 128 (by decide))
      (fun j d => x₂ (ix2 j ⟨256 * 1 + d.val, by omega⟩)) (fun j d => x₃ (ix2 j ⟨256 * 1 + d.val, by omega⟩))
      (fun j d => rd_eq _ _ _ _ _ _ _ _ _ _ _ _ (by simp) (by simp))
      (fun j d => rd_eq _ _ _ _ _ _ _ _ _ _ _ _ (by simp) (by simp))
      r c).trans
    (blockOut_eq 2 1 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block3_0 (r : Fin 512) (c : Fin 128) :
    fin (add2048 acc0 (wTail2048 (rd m₀ h₀ x₀ 0 0 512 256 (by decide)) (rd m₂ h₂ x₂ 0 0 2048 256 (by decide))) (rd m₃ h₃ x₃ 0 0 2048 256 (by decide))) (rd m₄ h₄ x₄ 0 0 512 128 (by decide)) (ix4 0 0 r c)
      = blockOut 3 x₀ x₂ x₃ x₄ r ⟨128 * 0 + c.val, by omega⟩ :=
  (one2048 (rd m₀ h₀ x₀ 0 0 512 256 (by decide)) (rd m₂ h₂ x₂ 0 0 2048 256 (by decide)) (rd m₃ h₃ x₃ 0 0 2048 256 (by decide)) (rd m₄ h₄ x₄ 0 0 512 128 (by decide))
      (fun j d => x₂ (ix2 j ⟨256 * 0 + d.val, by omega⟩)) (fun j d => x₃ (ix2 j ⟨256 * 0 + d.val, by omega⟩))
      (fun j d => rd_eq _ _ _ _ _ _ _ _ _ _ _ _ (by simp) (by simp))
      (fun j d => rd_eq _ _ _ _ _ _ _ _ _ _ _ _ (by simp) (by simp))
      r c).trans
    (blockOut_eq 3 0 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block3_1 (r : Fin 512) (c : Fin 128) :
    fin (add2048 acc0 (wTail2048 (rd m₀ h₀ x₀ 0 256 512 256 (by decide)) (rd m₂ h₂ x₂ 0 256 2048 256 (by decide))) (rd m₃ h₃ x₃ 0 256 2048 256 (by decide))) (rd m₄ h₄ x₄ 0 128 512 128 (by decide)) (ix4 0 0 r c)
      = blockOut 3 x₀ x₂ x₃ x₄ r ⟨128 * 1 + c.val, by omega⟩ :=
  (one2048 (rd m₀ h₀ x₀ 0 256 512 256 (by decide)) (rd m₂ h₂ x₂ 0 256 2048 256 (by decide)) (rd m₃ h₃ x₃ 0 256 2048 256 (by decide)) (rd m₄ h₄ x₄ 0 128 512 128 (by decide))
      (fun j d => x₂ (ix2 j ⟨256 * 1 + d.val, by omega⟩)) (fun j d => x₃ (ix2 j ⟨256 * 1 + d.val, by omega⟩))
      (fun j d => rd_eq _ _ _ _ _ _ _ _ _ _ _ _ (by simp) (by simp))
      (fun j d => rd_eq _ _ _ _ _ _ _ _ _ _ _ _ (by simp) (by simp))
      r c).trans
    (blockOut_eq 3 1 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block4_0 (r : Fin 512) (c : Fin 128) :
    fin (add512 (add2048 acc0 (wFull (rd m₀ h₀ x₀ 0 0 512 256 (by decide)) (rd m₂ h₂ x₂ 0 0 2048 256 (by decide))) (rd m₃ h₃ x₃ 0 0 2048 256 (by decide))) (wTail512 (rd m₀ h₀ x₀ 0 0 512 256 (by decide)) (rd m₂ h₂ x₂ 2048 0 512 256 (by decide))) (rd m₃ h₃ x₃ 2048 0 512 256 (by decide))) (rd m₄ h₄ x₄ 0 0 512 128 (by decide)) (ix4 0 0 r c)
      = blockOut 4 x₀ x₂ x₃ x₄ r ⟨128 * 0 + c.val, by omega⟩ :=
  (two512 (rd m₀ h₀ x₀ 0 0 512 256 (by decide)) (rd m₂ h₂ x₂ 0 0 2048 256 (by decide)) (rd m₃ h₃ x₃ 0 0 2048 256 (by decide)) (rd m₂ h₂ x₂ 2048 0 512 256 (by decide)) (rd m₃ h₃ x₃ 2048 0 512 256 (by decide)) (rd m₄ h₄ x₄ 0 0 512 128 (by decide))
      (fun j d => x₂ (ix2 j ⟨256 * 0 + d.val, by omega⟩)) (fun j d => x₃ (ix2 j ⟨256 * 0 + d.val, by omega⟩))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      r c).trans
    (blockOut_eq 4 0 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block4_1 (r : Fin 512) (c : Fin 128) :
    fin (add512 (add2048 acc0 (wFull (rd m₀ h₀ x₀ 0 256 512 256 (by decide)) (rd m₂ h₂ x₂ 0 256 2048 256 (by decide))) (rd m₃ h₃ x₃ 0 256 2048 256 (by decide))) (wTail512 (rd m₀ h₀ x₀ 0 256 512 256 (by decide)) (rd m₂ h₂ x₂ 2048 256 512 256 (by decide))) (rd m₃ h₃ x₃ 2048 256 512 256 (by decide))) (rd m₄ h₄ x₄ 0 128 512 128 (by decide)) (ix4 0 0 r c)
      = blockOut 4 x₀ x₂ x₃ x₄ r ⟨128 * 1 + c.val, by omega⟩ :=
  (two512 (rd m₀ h₀ x₀ 0 256 512 256 (by decide)) (rd m₂ h₂ x₂ 0 256 2048 256 (by decide)) (rd m₃ h₃ x₃ 0 256 2048 256 (by decide)) (rd m₂ h₂ x₂ 2048 256 512 256 (by decide)) (rd m₃ h₃ x₃ 2048 256 512 256 (by decide)) (rd m₄ h₄ x₄ 0 128 512 128 (by decide))
      (fun j d => x₂ (ix2 j ⟨256 * 1 + d.val, by omega⟩)) (fun j d => x₃ (ix2 j ⟨256 * 1 + d.val, by omega⟩))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      r c).trans
    (blockOut_eq 4 1 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block5_0 (r : Fin 512) (c : Fin 128) :
    fin (add1024 (add2048 acc0 (wFull (rd m₀ h₀ x₀ 0 0 512 256 (by decide)) (rd m₂ h₂ x₂ 0 0 2048 256 (by decide))) (rd m₃ h₃ x₃ 0 0 2048 256 (by decide))) (wTail1024 (rd m₀ h₀ x₀ 0 0 512 256 (by decide)) (rd m₂ h₂ x₂ 2048 0 1024 256 (by decide))) (rd m₃ h₃ x₃ 2048 0 1024 256 (by decide))) (rd m₄ h₄ x₄ 0 0 512 128 (by decide)) (ix4 0 0 r c)
      = blockOut 5 x₀ x₂ x₃ x₄ r ⟨128 * 0 + c.val, by omega⟩ :=
  (two1024 (rd m₀ h₀ x₀ 0 0 512 256 (by decide)) (rd m₂ h₂ x₂ 0 0 2048 256 (by decide)) (rd m₃ h₃ x₃ 0 0 2048 256 (by decide)) (rd m₂ h₂ x₂ 2048 0 1024 256 (by decide)) (rd m₃ h₃ x₃ 2048 0 1024 256 (by decide)) (rd m₄ h₄ x₄ 0 0 512 128 (by decide))
      (fun j d => x₂ (ix2 j ⟨256 * 0 + d.val, by omega⟩)) (fun j d => x₃ (ix2 j ⟨256 * 0 + d.val, by omega⟩))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      r c).trans
    (blockOut_eq 5 0 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block5_1 (r : Fin 512) (c : Fin 128) :
    fin (add1024 (add2048 acc0 (wFull (rd m₀ h₀ x₀ 0 256 512 256 (by decide)) (rd m₂ h₂ x₂ 0 256 2048 256 (by decide))) (rd m₃ h₃ x₃ 0 256 2048 256 (by decide))) (wTail1024 (rd m₀ h₀ x₀ 0 256 512 256 (by decide)) (rd m₂ h₂ x₂ 2048 256 1024 256 (by decide))) (rd m₃ h₃ x₃ 2048 256 1024 256 (by decide))) (rd m₄ h₄ x₄ 0 128 512 128 (by decide)) (ix4 0 0 r c)
      = blockOut 5 x₀ x₂ x₃ x₄ r ⟨128 * 1 + c.val, by omega⟩ :=
  (two1024 (rd m₀ h₀ x₀ 0 256 512 256 (by decide)) (rd m₂ h₂ x₂ 0 256 2048 256 (by decide)) (rd m₃ h₃ x₃ 0 256 2048 256 (by decide)) (rd m₂ h₂ x₂ 2048 256 1024 256 (by decide)) (rd m₃ h₃ x₃ 2048 256 1024 256 (by decide)) (rd m₄ h₄ x₄ 0 128 512 128 (by decide))
      (fun j d => x₂ (ix2 j ⟨256 * 1 + d.val, by omega⟩)) (fun j d => x₃ (ix2 j ⟨256 * 1 + d.val, by omega⟩))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      r c).trans
    (blockOut_eq 5 1 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block6_0 (r : Fin 512) (c : Fin 128) :
    fin (add1536 (add2048 acc0 (wFull (rd m₀ h₀ x₀ 0 0 512 256 (by decide)) (rd m₂ h₂ x₂ 0 0 2048 256 (by decide))) (rd m₃ h₃ x₃ 0 0 2048 256 (by decide))) (wTail1536 (rd m₀ h₀ x₀ 0 0 512 256 (by decide)) (rd m₂ h₂ x₂ 2048 0 1536 256 (by decide))) (rd m₃ h₃ x₃ 2048 0 1536 256 (by decide))) (rd m₄ h₄ x₄ 0 0 512 128 (by decide)) (ix4 0 0 r c)
      = blockOut 6 x₀ x₂ x₃ x₄ r ⟨128 * 0 + c.val, by omega⟩ :=
  (two1536 (rd m₀ h₀ x₀ 0 0 512 256 (by decide)) (rd m₂ h₂ x₂ 0 0 2048 256 (by decide)) (rd m₃ h₃ x₃ 0 0 2048 256 (by decide)) (rd m₂ h₂ x₂ 2048 0 1536 256 (by decide)) (rd m₃ h₃ x₃ 2048 0 1536 256 (by decide)) (rd m₄ h₄ x₄ 0 0 512 128 (by decide))
      (fun j d => x₂ (ix2 j ⟨256 * 0 + d.val, by omega⟩)) (fun j d => x₃ (ix2 j ⟨256 * 0 + d.val, by omega⟩))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      r c).trans
    (blockOut_eq 6 0 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block6_1 (r : Fin 512) (c : Fin 128) :
    fin (add1536 (add2048 acc0 (wFull (rd m₀ h₀ x₀ 0 256 512 256 (by decide)) (rd m₂ h₂ x₂ 0 256 2048 256 (by decide))) (rd m₃ h₃ x₃ 0 256 2048 256 (by decide))) (wTail1536 (rd m₀ h₀ x₀ 0 256 512 256 (by decide)) (rd m₂ h₂ x₂ 2048 256 1536 256 (by decide))) (rd m₃ h₃ x₃ 2048 256 1536 256 (by decide))) (rd m₄ h₄ x₄ 0 128 512 128 (by decide)) (ix4 0 0 r c)
      = blockOut 6 x₀ x₂ x₃ x₄ r ⟨128 * 1 + c.val, by omega⟩ :=
  (two1536 (rd m₀ h₀ x₀ 0 256 512 256 (by decide)) (rd m₂ h₂ x₂ 0 256 2048 256 (by decide)) (rd m₃ h₃ x₃ 0 256 2048 256 (by decide)) (rd m₂ h₂ x₂ 2048 256 1536 256 (by decide)) (rd m₃ h₃ x₃ 2048 256 1536 256 (by decide)) (rd m₄ h₄ x₄ 0 128 512 128 (by decide))
      (fun j d => x₂ (ix2 j ⟨256 * 1 + d.val, by omega⟩)) (fun j d => x₃ (ix2 j ⟨256 * 1 + d.val, by omega⟩))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      r c).trans
    (blockOut_eq 6 1 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block7_0 (r : Fin 512) (c : Fin 128) :
    fin (add2048 (add2048 acc0 (wFull (rd m₀ h₀ x₀ 0 0 512 256 (by decide)) (rd m₂ h₂ x₂ 0 0 2048 256 (by decide))) (rd m₃ h₃ x₃ 0 0 2048 256 (by decide))) (wTail2048 (rd m₀ h₀ x₀ 0 0 512 256 (by decide)) (rd m₂ h₂ x₂ 2048 0 2048 256 (by decide))) (rd m₃ h₃ x₃ 2048 0 2048 256 (by decide))) (rd m₄ h₄ x₄ 0 0 512 128 (by decide)) (ix4 0 0 r c)
      = blockOut 7 x₀ x₂ x₃ x₄ r ⟨128 * 0 + c.val, by omega⟩ :=
  (two2048 (rd m₀ h₀ x₀ 0 0 512 256 (by decide)) (rd m₂ h₂ x₂ 0 0 2048 256 (by decide)) (rd m₃ h₃ x₃ 0 0 2048 256 (by decide)) (rd m₂ h₂ x₂ 2048 0 2048 256 (by decide)) (rd m₃ h₃ x₃ 2048 0 2048 256 (by decide)) (rd m₄ h₄ x₄ 0 0 512 128 (by decide))
      (fun j d => x₂ (ix2 j ⟨256 * 0 + d.val, by omega⟩)) (fun j d => x₃ (ix2 j ⟨256 * 0 + d.val, by omega⟩))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      r c).trans
    (blockOut_eq 7 0 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

theorem block7_1 (r : Fin 512) (c : Fin 128) :
    fin (add2048 (add2048 acc0 (wFull (rd m₀ h₀ x₀ 0 256 512 256 (by decide)) (rd m₂ h₂ x₂ 0 256 2048 256 (by decide))) (rd m₃ h₃ x₃ 0 256 2048 256 (by decide))) (wTail2048 (rd m₀ h₀ x₀ 0 256 512 256 (by decide)) (rd m₂ h₂ x₂ 2048 256 2048 256 (by decide))) (rd m₃ h₃ x₃ 2048 256 2048 256 (by decide))) (rd m₄ h₄ x₄ 0 128 512 128 (by decide)) (ix4 0 0 r c)
      = blockOut 7 x₀ x₂ x₃ x₄ r ⟨128 * 1 + c.val, by omega⟩ :=
  (two2048 (rd m₀ h₀ x₀ 0 256 512 256 (by decide)) (rd m₂ h₂ x₂ 0 256 2048 256 (by decide)) (rd m₃ h₃ x₃ 0 256 2048 256 (by decide)) (rd m₂ h₂ x₂ 2048 256 2048 256 (by decide)) (rd m₃ h₃ x₃ 2048 256 2048 256 (by decide)) (rd m₄ h₄ x₄ 0 128 512 128 (by decide))
      (fun j d => x₂ (ix2 j ⟨256 * 1 + d.val, by omega⟩)) (fun j d => x₃ (ix2 j ⟨256 * 1 + d.val, by omega⟩))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      (fun j d => rd_eq _ _ _ _ _ _ _ _ _ _ _ _ (by simp) (by simp))
      r c).trans
    (blockOut_eq 7 1 (by omega) x₀ x₂ x₃ x₄ r c _ (by omega) _ _ _ _
      (fun d => rd_eq _ _ _ _ _ _ _ _ _ _ _ _ (by simp) (by simp))
      (fun j d => rfl) (fun j d => rfl)
      (fun l => rd_eq _ _ _ _ _ _ _ _ _ _ _ _ (by simp) (by simp)))

end Cert.KernelIdeal.Hand

end
-- ==== Proof.Attn.RunA.lean ====
/-
  The body at the grid points whose third coordinate is 0: query blocks 0 and 7 written, the rest of the output block as found.
-/
module

public import proofs.«01_k».proof.Proof.Attn.Block
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 1000000 in
/-- The body at a point of this case, from the inputs' blocks and the output block as found. -/
theorem runA (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S1x8x512x256 .bf16) (harg9 : arg9.IsWhole)
    (hc0 : k0_cond1 i = 1#1) (hc1 : ¬k0_cond2 i = 1#1) (hc2 : ¬k0_cond3 i = 1#1) (hc3 : ¬k0_cond4 i = 1#1)
    (x0 x1 : FVec Ideal S512x512 .bf16) (x2 x3 : FVec Ideal S4096x512 .bf16) (x4 x5 : FVec Ideal S512x256 .bf16)
    (d : FVec Ideal S1x8x512x256 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d' : FVec Ideal S1x8x512x256 .bf16, ⌜∀ (e : Fin 8) (r : Fin 512) (l : Fin 256), d' (ix4 0 e r l)
                = if e.val = 7 then blockOut 7 x1 x2 x3 x5 r l else if e.val = 0 then blockOut 0 x0 x2 x3 x4 r l else d (ix4 0 e r l)⌝
              ∗ owns (c : Thread nD τ) arg9 fullShare d')) -∗ K ⟨⟩))
      ⊢ wp frame (wpE (defs₀ (F := Ideal)) Variants.none c none) E (cc0_mla_attention (F := Ideal) i arg3 harg3 arg4 harg4 arg5 harg5 arg6 harg6 arg7 harg7 arg8 harg8 arg9 harg9) K := by
    simp only [cc0_mla_attention_eq_skeleton]; unfold cc0_mla_attention_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; isplitr
    swap
    · iexists _; isplitr
      swap
      · iexact H6
      ipureintro; rfl
    ipureintro
    intro e r l
    subst hf6
    exact read_four arg9.view f6 0 7 (by decide) (by decide) (by decide) (by decide)
      (fin (add512 acc0 (wTail512 (rd arg3 harg3 x0 0 0 512 256 (by decide)) (rd arg5 harg5 x2 0 0 512 256 (by decide))) (rd arg6 harg6 x3 0 0 512 256 (by decide))) (rd arg7 harg7 x4 0 0 512 128 (by decide)))
      (fin (add512 acc0 (wTail512 (rd arg3 harg3 x0 0 256 512 256 (by decide)) (rd arg5 harg5 x2 0 256 512 256 (by decide))) (rd arg6 harg6 x3 0 256 512 256 (by decide))) (rd arg7 harg7 x4 0 128 512 128 (by decide)))
      (fin (add2048 (add2048 acc0 (wFull (rd arg4 harg4 x1 0 0 512 256 (by decide)) (rd arg5 harg5 x2 0 0 2048 256 (by decide))) (rd arg6 harg6 x3 0 0 2048 256 (by decide))) (wTail2048 (rd arg4 harg4 x1 0 0 512 256 (by decide)) (rd arg5 harg5 x2 2048 0 2048 256 (by decide))) (rd arg6 harg6 x3 2048 0 2048 256 (by decide))) (rd arg8 harg8 x5 0 0 512 128 (by decide)))
      (fin (add2048 (add2048 acc0 (wFull (rd arg4 harg4 x1 0 256 512 256 (by decide)) (rd arg5 harg5 x2 0 256 2048 256 (by decide))) (rd arg6 harg6 x3 0 256 2048 256 (by decide))) (wTail2048 (rd arg4 harg4 x1 0 256 512 256 (by decide)) (rd arg5 harg5 x2 2048 256 2048 256 (by decide))) (rd arg6 harg6 x3 2048 256 2048 256 (by decide))) (rd arg8 harg8 x5 0 128 512 128 (by decide)))
      (fun r l => blockOut 0 x0 x2 x3 x4 r l) (fun r l => blockOut 7 x1 x2 x3 x5 r l)
      (fun r l => ((block0_0 arg3 harg3 x0 arg5 harg5 x2 arg6 harg6 x3 arg7 harg7 x4) r l).trans (congrArg (blockOut 0 x0 x2 x3 x4 r) (Fin.ext (Nat.zero_add _))))
      (block0_1 arg3 harg3 x0 arg5 harg5 x2 arg6 harg6 x3 arg7 harg7 x4)
      (fun r l => ((block7_0 arg4 harg4 x1 arg5 harg5 x2 arg6 harg6 x3 arg8 harg8 x5) r l).trans (congrArg (blockOut 7 x1 x2 x3 x5 r) (Fin.ext (Nat.zero_add _))))
      (block7_1 arg4 harg4 x1 arg5 harg5 x2 arg6 harg6 x3 arg8 harg8 x5) e r l

end Cert.KernelIdeal.Hand

end
-- ==== Proof.Attn.RunB.lean ====
/-
  The body at the grid points whose third coordinate is 1: query blocks 1 and 6 written, the rest of the output block as found.
-/
module

public import proofs.«01_k».proof.Proof.Attn.RunA
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 1000000 in
/-- The body at a point of this case, from the inputs' blocks and the output block as found. -/
theorem runB (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S1x8x512x256 .bf16) (harg9 : arg9.IsWhole)
    (hc0 : ¬k0_cond1 i = 1#1) (hc1 : k0_cond2 i = 1#1) (hc2 : ¬k0_cond3 i = 1#1) (hc3 : ¬k0_cond4 i = 1#1)
    (x0 x1 : FVec Ideal S512x512 .bf16) (x2 x3 : FVec Ideal S4096x512 .bf16) (x4 x5 : FVec Ideal S512x256 .bf16)
    (d : FVec Ideal S1x8x512x256 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d' : FVec Ideal S1x8x512x256 .bf16, ⌜∀ (e : Fin 8) (r : Fin 512) (l : Fin 256), d' (ix4 0 e r l)
                = if e.val = 6 then blockOut 6 x1 x2 x3 x5 r l else if e.val = 1 then blockOut 1 x0 x2 x3 x4 r l else d (ix4 0 e r l)⌝
              ∗ owns (c : Thread nD τ) arg9 fullShare d')) -∗ K ⟨⟩))
      ⊢ wp frame (wpE (defs₀ (F := Ideal)) Variants.none c none) E (cc0_mla_attention (F := Ideal) i arg3 harg3 arg4 harg4 arg5 harg5 arg6 harg6 arg7 harg7 arg8 harg8 arg9 harg9) K := by
    simp only [cc0_mla_attention_eq_skeleton]; unfold cc0_mla_attention_skel
    simp only [k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; isplitr
    swap
    · iexists _; isplitr
      swap
      · iexact H6
      ipureintro; rfl
    ipureintro
    intro e r l
    subst hf6
    exact read_four arg9.view f6 1 6 (by decide) (by decide) (by decide) (by decide)
      (fin (add1024 acc0 (wTail1024 (rd arg3 harg3 x0 0 0 512 256 (by decide)) (rd arg5 harg5 x2 0 0 1024 256 (by decide))) (rd arg6 harg6 x3 0 0 1024 256 (by decide))) (rd arg7 harg7 x4 0 0 512 128 (by decide)))
      (fin (add1024 acc0 (wTail1024 (rd arg3 harg3 x0 0 256 512 256 (by decide)) (rd arg5 harg5 x2 0 256 1024 256 (by decide))) (rd arg6 harg6 x3 0 256 1024 256 (by decide))) (rd arg7 harg7 x4 0 128 512 128 (by decide)))
      (fin (add1536 (add2048 acc0 (wFull (rd arg4 harg4 x1 0 0 512 256 (by decide)) (rd arg5 harg5 x2 0 0 2048 256 (by decide))) (rd arg6 harg6 x3 0 0 2048 256 (by decide))) (wTail1536 (rd arg4 harg4 x1 0 0 512 256 (by decide)) (rd arg5 harg5 x2 2048 0 1536 256 (by decide))) (rd arg6 harg6 x3 2048 0 1536 256 (by decide))) (rd arg8 harg8 x5 0 0 512 128 (by decide)))
      (fin (add1536 (add2048 acc0 (wFull (rd arg4 harg4 x1 0 256 512 256 (by decide)) (rd arg5 harg5 x2 0 256 2048 256 (by decide))) (rd arg6 harg6 x3 0 256 2048 256 (by decide))) (wTail1536 (rd arg4 harg4 x1 0 256 512 256 (by decide)) (rd arg5 harg5 x2 2048 256 1536 256 (by decide))) (rd arg6 harg6 x3 2048 256 1536 256 (by decide))) (rd arg8 harg8 x5 0 128 512 128 (by decide)))
      (fun r l => blockOut 1 x0 x2 x3 x4 r l) (fun r l => blockOut 6 x1 x2 x3 x5 r l)
      (fun r l => ((block1_0 arg3 harg3 x0 arg5 harg5 x2 arg6 harg6 x3 arg7 harg7 x4) r l).trans (congrArg (blockOut 1 x0 x2 x3 x4 r) (Fin.ext (Nat.zero_add _))))
      (block1_1 arg3 harg3 x0 arg5 harg5 x2 arg6 harg6 x3 arg7 harg7 x4)
      (fun r l => ((block6_0 arg4 harg4 x1 arg5 harg5 x2 arg6 harg6 x3 arg8 harg8 x5) r l).trans (congrArg (blockOut 6 x1 x2 x3 x5 r) (Fin.ext (Nat.zero_add _))))
      (block6_1 arg4 harg4 x1 arg5 harg5 x2 arg6 harg6 x3 arg8 harg8 x5) e r l

end Cert.KernelIdeal.Hand

end
-- ==== Proof.Attn.RunC.lean ====
/-
  The body at the grid points whose third coordinate is 2: query blocks 2 and 5 written, the rest of the output block as found.
-/
module

public import proofs.«01_k».proof.Proof.Attn.RunB
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 1000000 in
/-- The body at a point of this case, from the inputs' blocks and the output block as found. -/
theorem runC (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S1x8x512x256 .bf16) (harg9 : arg9.IsWhole)
    (hc0 : ¬k0_cond1 i = 1#1) (hc1 : ¬k0_cond2 i = 1#1) (hc2 : k0_cond3 i = 1#1) (hc3 : ¬k0_cond4 i = 1#1)
    (x0 x1 : FVec Ideal S512x512 .bf16) (x2 x3 : FVec Ideal S4096x512 .bf16) (x4 x5 : FVec Ideal S512x256 .bf16)
    (d : FVec Ideal S1x8x512x256 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d' : FVec Ideal S1x8x512x256 .bf16, ⌜∀ (e : Fin 8) (r : Fin 512) (l : Fin 256), d' (ix4 0 e r l)
                = if e.val = 5 then blockOut 5 x1 x2 x3 x5 r l else if e.val = 2 then blockOut 2 x0 x2 x3 x4 r l else d (ix4 0 e r l)⌝
              ∗ owns (c : Thread nD τ) arg9 fullShare d')) -∗ K ⟨⟩))
      ⊢ wp frame (wpE (defs₀ (F := Ideal)) Variants.none c none) E (cc0_mla_attention (F := Ideal) i arg3 harg3 arg4 harg4 arg5 harg5 arg6 harg6 arg7 harg7 arg8 harg8 arg9 harg9) K := by
    simp only [cc0_mla_attention_eq_skeleton]; unfold cc0_mla_attention_skel
    simp only [k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; isplitr
    swap
    · iexists _; isplitr
      swap
      · iexact H6
      ipureintro; rfl
    ipureintro
    intro e r l
    subst hf6
    exact read_four arg9.view f6 2 5 (by decide) (by decide) (by decide) (by decide)
      (fin (add1536 acc0 (wTail1536 (rd arg3 harg3 x0 0 0 512 256 (by decide)) (rd arg5 harg5 x2 0 0 1536 256 (by decide))) (rd arg6 harg6 x3 0 0 1536 256 (by decide))) (rd arg7 harg7 x4 0 0 512 128 (by decide)))
      (fin (add1536 acc0 (wTail1536 (rd arg3 harg3 x0 0 256 512 256 (by decide)) (rd arg5 harg5 x2 0 256 1536 256 (by decide))) (rd arg6 harg6 x3 0 256 1536 256 (by decide))) (rd arg7 harg7 x4 0 128 512 128 (by decide)))
      (fin (add1024 (add2048 acc0 (wFull (rd arg4 harg4 x1 0 0 512 256 (by decide)) (rd arg5 harg5 x2 0 0 2048 256 (by decide))) (rd arg6 harg6 x3 0 0 2048 256 (by decide))) (wTail1024 (rd arg4 harg4 x1 0 0 512 256 (by decide)) (rd arg5 harg5 x2 2048 0 1024 256 (by decide))) (rd arg6 harg6 x3 2048 0 1024 256 (by decide))) (rd arg8 harg8 x5 0 0 512 128 (by decide)))
      (fin (add1024 (add2048 acc0 (wFull (rd arg4 harg4 x1 0 256 512 256 (by decide)) (rd arg5 harg5 x2 0 256 2048 256 (by decide))) (rd arg6 harg6 x3 0 256 2048 256 (by decide))) (wTail1024 (rd arg4 harg4 x1 0 256 512 256 (by decide)) (rd arg5 harg5 x2 2048 256 1024 256 (by decide))) (rd arg6 harg6 x3 2048 256 1024 256 (by decide))) (rd arg8 harg8 x5 0 128 512 128 (by decide)))
      (fun r l => blockOut 2 x0 x2 x3 x4 r l) (fun r l => blockOut 5 x1 x2 x3 x5 r l)
      (fun r l => ((block2_0 arg3 harg3 x0 arg5 harg5 x2 arg6 harg6 x3 arg7 harg7 x4) r l).trans (congrArg (blockOut 2 x0 x2 x3 x4 r) (Fin.ext (Nat.zero_add _))))
      (block2_1 arg3 harg3 x0 arg5 harg5 x2 arg6 harg6 x3 arg7 harg7 x4)
      (fun r l => ((block5_0 arg4 harg4 x1 arg5 harg5 x2 arg6 harg6 x3 arg8 harg8 x5) r l).trans (congrArg (blockOut 5 x1 x2 x3 x5 r) (Fin.ext (Nat.zero_add _))))
      (block5_1 arg4 harg4 x1 arg5 harg5 x2 arg6 harg6 x3 arg8 harg8 x5) e r l

end Cert.KernelIdeal.Hand

end
-- ==== Proof.Attn.RunD.lean ====
/-
  The body at the grid points whose third coordinate is 3: query blocks 3 and 4 written, the rest of the output block as found.
-/
module

public import proofs.«01_k».proof.Proof.Attn.RunC
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

set_option maxHeartbeats 1000000 in
/-- The body at a point of this case, from the inputs' blocks and the output block as found. -/
theorem runD (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S1x8x512x256 .bf16) (harg9 : arg9.IsWhole)
    (hc0 : ¬k0_cond1 i = 1#1) (hc1 : ¬k0_cond2 i = 1#1) (hc2 : ¬k0_cond3 i = 1#1) (hc3 : k0_cond4 i = 1#1)
    (x0 x1 : FVec Ideal S512x512 .bf16) (x2 x3 : FVec Ideal S4096x512 .bf16) (x4 x5 : FVec Ideal S512x256 .bf16)
    (d : FVec Ideal S1x8x512x256 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d' : FVec Ideal S1x8x512x256 .bf16, ⌜∀ (e : Fin 8) (r : Fin 512) (l : Fin 256), d' (ix4 0 e r l)
                = if e.val = 4 then blockOut 4 x1 x2 x3 x5 r l else if e.val = 3 then blockOut 3 x0 x2 x3 x4 r l else d (ix4 0 e r l)⌝
              ∗ owns (c : Thread nD τ) arg9 fullShare d')) -∗ K ⟨⟩))
      ⊢ wp frame (wpE (defs₀ (F := Ideal)) Variants.none c none) E (cc0_mla_attention (F := Ideal) i arg3 harg3 arg4 harg4 arg5 harg5 arg6 harg6 arg7 harg7 arg8 harg8 arg9 harg9) K := by
    simp only [cc0_mla_attention_eq_skeleton]; unfold cc0_mla_attention_skel
    simp only [k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    iexists _; isplitr
    swap
    · iexists _; isplitr
      swap
      · iexact H6
      ipureintro; rfl
    ipureintro
    intro e r l
    subst hf6
    exact read_four arg9.view f6 3 4 (by decide) (by decide) (by decide) (by decide)
      (fin (add2048 acc0 (wTail2048 (rd arg3 harg3 x0 0 0 512 256 (by decide)) (rd arg5 harg5 x2 0 0 2048 256 (by decide))) (rd arg6 harg6 x3 0 0 2048 256 (by decide))) (rd arg7 harg7 x4 0 0 512 128 (by decide)))
      (fin (add2048 acc0 (wTail2048 (rd arg3 harg3 x0 0 256 512 256 (by decide)) (rd arg5 harg5 x2 0 256 2048 256 (by decide))) (rd arg6 harg6 x3 0 256 2048 256 (by decide))) (rd arg7 harg7 x4 0 128 512 128 (by decide)))
      (fin (add512 (add2048 acc0 (wFull (rd arg4 harg4 x1 0 0 512 256 (by decide)) (rd arg5 harg5 x2 0 0 2048 256 (by decide))) (rd arg6 harg6 x3 0 0 2048 256 (by decide))) (wTail512 (rd arg4 harg4 x1 0 0 512 256 (by decide)) (rd arg5 harg5 x2 2048 0 512 256 (by decide))) (rd arg6 harg6 x3 2048 0 512 256 (by decide))) (rd arg8 harg8 x5 0 0 512 128 (by decide)))
      (fin (add512 (add2048 acc0 (wFull (rd arg4 harg4 x1 0 256 512 256 (by decide)) (rd arg5 harg5 x2 0 256 2048 256 (by decide))) (rd arg6 harg6 x3 0 256 2048 256 (by decide))) (wTail512 (rd arg4 harg4 x1 0 256 512 256 (by decide)) (rd arg5 harg5 x2 2048 256 512 256 (by decide))) (rd arg6 harg6 x3 2048 256 512 256 (by decide))) (rd arg8 harg8 x5 0 128 512 128 (by decide)))
      (fun r l => blockOut 3 x0 x2 x3 x4 r l) (fun r l => blockOut 4 x1 x2 x3 x5 r l)
      (fun r l => ((block3_0 arg3 harg3 x0 arg5 harg5 x2 arg6 harg6 x3 arg7 harg7 x4) r l).trans (congrArg (blockOut 3 x0 x2 x3 x4 r) (Fin.ext (Nat.zero_add _))))
      (block3_1 arg3 harg3 x0 arg5 harg5 x2 arg6 harg6 x3 arg7 harg7 x4)
      (fun r l => ((block4_0 arg4 harg4 x1 arg5 harg5 x2 arg6 harg6 x3 arg8 harg8 x5) r l).trans (congrArg (blockOut 4 x1 x2 x3 x5 r) (Fin.ext (Nat.zero_add _))))
      (block4_1 arg4 harg4 x1 arg5 harg5 x2 arg6 harg6 x3 arg8 harg8 x5) e r l

end Cert.KernelIdeal.Hand

end
-- ==== Proof.Attn.Blocks.lean ====
/-
  The windows' blocks at a grid point as parts of the four arrays, and the attention's result over the whole arrays.
-/
module

public import proofs.«01_k».proof.Proof.Attn.RunD
public import Idealize.ShloMosaic.Lib.Pipeline.ValueKit
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Pointwise

/-- Query block `e` of batch `b`, head pair `h`, of the queries. -/
def qPart (X : FVec Ideal S32768x2048 .bf16) (b : Fin 8) (h : Fin 4) (e : Fin 8) : FVec Ideal S512x512 .bf16 :=
  fun y => X (ix2 ⟨4096 * b.val + 512 * e.val + (y 0).val, by have := (y 0).isLt; simp at this; omega⟩
    ⟨512 * h.val + (y 1).val, by have := (y 1).isLt; simp at this; omega⟩)

/-- Batch `b`, head pair `h`, of the keys or the values. -/
def kPart (X : FVec Ideal S32768x2048 .bf16) (b : Fin 8) (h : Fin 4) : FVec Ideal S4096x512 .bf16 :=
  fun y => X (ix2 ⟨4096 * b.val + (y 0).val, by have := (y 0).isLt; simp at this; omega⟩
    ⟨512 * h.val + (y 1).val, by have := (y 1).isLt; simp at this; omega⟩)

/-- Query block `e` of batch `b`, head pair `h`, of the gate. -/
def gPart (X : FVec Ideal S32768x3072 .bf16) (b : Fin 8) (h : Fin 4) (e : Fin 8) : FVec Ideal S512x256 .bf16 :=
  fun y => X (ix2 ⟨4096 * b.val + 512 * e.val + (y 0).val, by have := (y 0).isLt; simp at this; omega⟩
    ⟨256 * h.val + (y 1).val, by have := (y 1).isLt; simp at this; omega⟩)

/-- The attention's result, from the four arrays: batch `b`, query block `e`, row `r`, column `l` of head pair `h`. -/
def attn (Q K V : FVec Ideal S32768x2048 .bf16) (G : FVec Ideal S32768x3072 .bf16) (b : Fin 8) (h : Fin 4) (e : Fin 8)
    (r : Fin 512) (l : Fin 256) : EReal :=
  blockOut e.val (qPart Q b h e) (kPart K b h) (kPart V b h) (gPart G b h e) r l

variable (m : (ℓ : Loc nD τ sig) → Buf (Elt Ideal) ℓ)

/-- The batch, head pair and step of a grid point. -/
def bOf (t : Fin cfg0.N) : Fin 8 := ⟨t.val / 16 % 8, by omega⟩
def hOf (t : Fin cfg0.N) : Fin 4 := ⟨t.val / 4 % 4, by omega⟩
def eOf (t : Fin cfg0.N) : Fin 8 := ⟨t.val % 4, by omega⟩
def eOf' (t : Fin cfg0.N) : Fin 8 := ⟨7 - t.val % 4, by omega⟩

theorem index_0 : ∀ t : Fin cfg0.N, (cfg0.win 0).index t = ![8 * (t.val / 16 % 8) + t.val % 4, t.val / 4 % 4] := by decide +kernel
theorem index_1 : ∀ t : Fin cfg0.N, (cfg0.win 1).index t = ![8 * (t.val / 16 % 8) + 7 - t.val % 4, t.val / 4 % 4] := by decide +kernel
theorem index_2 : ∀ t : Fin cfg0.N, (cfg0.win 2).index t = ![t.val / 16 % 8, t.val / 4 % 4] := by decide +kernel
theorem index_3 : ∀ t : Fin cfg0.N, (cfg0.win 3).index t = ![t.val / 16 % 8, t.val / 4 % 4] := by decide +kernel
theorem index_4 : ∀ t : Fin cfg0.N, (cfg0.win 4).index t = ![8 * (t.val / 16 % 8) + t.val % 4, t.val / 4 % 4] := by decide +kernel
theorem index_5 : ∀ t : Fin cfg0.N, (cfg0.win 5).index t = ![8 * (t.val / 16 % 8) + 7 - t.val % 4, t.val / 4 % 4] := by decide +kernel
theorem index_6 : ∀ t : Fin cfg0.N, (cfg0.win 6).index t = ![t.val / 16 % 8, 0, 0, t.val / 4 % 4] := by decide +kernel

theorem iblk_0 (c : Dev nD) (t : Fin cfg0.N) :
    iblk m c 0 t = qPart (m ((c : Thread nD τ).loc main_arg0)) (bOf t) (hOf t) (eOf t) := by
  funext y
  unfold qPart
  blk_ext [iblk, V, index_0 t, bOf, hOf, eOf]
theorem iblk_1 (c : Dev nD) (t : Fin cfg0.N) :
    iblk m c 1 t = qPart (m ((c : Thread nD τ).loc main_arg0)) (bOf t) (hOf t) (eOf' t) := by
  funext y
  unfold qPart
  blk_ext [iblk, V, index_1 t, bOf, hOf, eOf']
theorem iblk_2 (c : Dev nD) (t : Fin cfg0.N) :
    iblk m c 2 t = kPart (m ((c : Thread nD τ).loc main_arg1)) (bOf t) (hOf t) := by
  funext y
  unfold kPart
  blk_ext [iblk, V, index_2 t, bOf, hOf]
theorem iblk_3 (c : Dev nD) (t : Fin cfg0.N) :
    iblk m c 3 t = kPart (m ((c : Thread nD τ).loc main_arg2)) (bOf t) (hOf t) := by
  funext y
  unfold kPart
  blk_ext [iblk, V, index_3 t, bOf, hOf]
theorem iblk_4 (c : Dev nD) (t : Fin cfg0.N) :
    iblk m c 4 t = gPart (m ((c : Thread nD τ).loc main_arg3)) (bOf t) (hOf t) (eOf t) := by
  funext y
  unfold gPart
  blk_ext [iblk, V, index_4 t, bOf, hOf, eOf]
theorem iblk_5 (c : Dev nD) (t : Fin cfg0.N) :
    iblk m c 5 t = gPart (m ((c : Thread nD τ).loc main_arg3)) (bOf t) (hOf t) (eOf' t) := by
  funext y
  unfold gPart
  blk_ext [iblk, V, index_5 t, bOf, hOf, eOf']

end Cert.KernelIdeal.Hand

end
-- ==== Proof.Attn.Ref.lean ====
/-
  The reference's attention read at an index, and put into the form the optimised attention computes.
-/
module

public import proofs.«01_k».proof.Proof.Gen.ReferenceIdeal.Read
public import proofs.«01_k».proof.Proof.Attn.Softmax
public import proofs.«01_k».proof.Proof.Attn.Blocks
public import Idealize.ShloMosaic.Lib.WordCmp

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Pointwise

abbrev Arr := FVec Ideal S32768x2048 .bf16

/-- The element of an array of queries, keys or values: batch `b`, position `p`, head `h`, coordinate `d`. -/
def elt (X : Arr) (b : Fin 8) (p : Fin 4096) (h : Fin 8) (d : Fin 256) : EReal :=
  X (ix2 ⟨4096 * b.val + p.val, by omega⟩ ⟨256 * h.val + d.val, by omega⟩)

theorem v1_elt (X : Arr) (b : Fin 8) (p : Fin 4096) (h : Fin 8) (d : Fin 256) :
    val_main_v1 (F := Ideal) X (ix4 b p h d) = elt X b p h d := by
  rw [val_main_v1_apply, val_main_v0_apply]
  unfold elt
  refine congrArg X ?_
  funext a
  match a with
  | ⟨0, _⟩ => apply Fin.ext; simp; omega
  | ⟨1, _⟩ => apply Fin.ext; simp; omega

theorem v3_elt (X : Arr) (b : Fin 8) (p : Fin 4096) (h : Fin 8) (d : Fin 256) :
    val_main_v3 (F := Ideal) X (ix4 b p h d) = elt X b p h d := v1_elt X b p h d
theorem v5_elt (X : Arr) (b : Fin 8) (p : Fin 4096) (h : Fin 8) (d : Fin 256) :
    val_main_v5 (F := Ideal) X (ix4 b p h d) = elt X b p h d := v1_elt X b p h d

theorem v6_elt (X : Arr) (b : Fin 8) (p : Fin 4096) (h : Fin 8) (d : Fin 128) :
    val_main_v6 (F := Ideal) X (ix4 b p h d) = elt X b p h ⟨d.val, by omega⟩ := by
  rw [val_main_v6_apply, ← v5_elt]
  refine congrArg _ ?_
  funext a
  match a with
  | ⟨0, _⟩ => rfl
  | ⟨1, _⟩ => rfl
  | ⟨2, _⟩ => rfl
  | ⟨3, _⟩ => rfl

/-- The score of a query at position `p` against the key at position `j`. -/
def score (Q K : Arr) (b : Fin 8) (h : Fin 8) (p j : Fin 4096) : EReal := ∑ d : Fin 256, elt Q b p h d * elt K b j h d

theorem v7_score (Q K : Arr) (b h : Fin 8) (p j : Fin 4096) :
    val_main_v7 (F := Ideal) Q K (ix4 b h p j) = score Q K b h p j := by
  rw [val_main_v7_apply]
  unfold score
  refine Finset.sum_congr rfl fun d _ => ?_
  rw [← v1_elt, ← v3_elt]
  congr 2
  · funext a
    match a with
    | ⟨0, _⟩ => rfl
    | ⟨1, _⟩ => rfl
    | ⟨2, _⟩ => rfl
    | ⟨3, _⟩ => rfl
  · funext a
    match a with
    | ⟨0, _⟩ => rfl
    | ⟨1, _⟩ => rfl
    | ⟨2, _⟩ => rfl
    | ⟨3, _⟩ => rfl

theorem log_two : Ideal.log (FloatOps.ofBits (F := Ideal) .f32 0x40000000#32) = ((Real.log 2 : ℝ) : EReal) := by
  rw [show FloatOps.ofBits (F := Ideal) .f32 0x40000000#32 = ((2 : ℝ) : EReal) from by
    show Ideal.ofBits .f32 0x40000000#32 = _
    simp [Ideal.ofBits, Ideal.ieee]; rw [← EReal.coe_mul]; norm_num]
  show (if (2 : ℝ) ≤ 0 then (⊥ : EReal) else ((Real.log 2 : ℝ) : EReal)) = _
  rw [if_neg (by norm_num)]

theorem neg_inf : FloatOps.ofBits (F := Ideal) .f32 0xFF800000#32 = (⊥ : EReal) := by
  show Ideal.ofBits .f32 0xFF800000#32 = _
  simp [Ideal.ofBits, Ideal.ieee]

theorem v17_mask (p j : Fin 4096) : val_main_v17 (F := Ideal) (ix2 p j) = 1#1 ↔ j.val ≤ p.val := by
  rw [val_main_v17_apply, val_main_v15_apply, val_main_v16_apply, val_main_v12_apply, val_main_v14_apply, val_main_v11_apply, val_main_v13_apply]
  exact WordCmp.cmpi_sge_ofNat_eq_one_iff (lt_trans p.isLt (by decide)) (lt_trans j.isLt (by decide))

theorem ne_one {x : BitVec 1} (h : ¬x = 1#1) : x = 0#1 := by revert h; revert x; decide

/-- The masked score, in base e. -/
def masked (Q K : Arr) (b h : Fin 8) (p j : Fin 4096) : EReal :=
  if j.val ≤ p.val then score Q K b h p j * ((Real.log 2 : ℝ) : EReal) else ⊥

theorem v18_masked (Q K : Arr) (b h : Fin 8) (p j : Fin 4096) :
    val_main_v18 (F := Ideal) Q K (ix4 b h p j) = masked Q K b h p j := by
  rw [val_main_v18_apply, val_main_call0_v1_apply, val_main_call0_v2_apply, val_main_call0_v0_apply, val_main_cst_0_apply, neg_inf,
    val_main_v10_apply, val_main_v9_apply, val_main_v8_apply, val_main_cst_apply, v7_score]
  have hm := v17_mask p j
  have hi : idx_main_call0_v1 (ix4 b h p j) = ix2 p j := by
    funext a
    match a with
    | ⟨0, _⟩ => rfl
    | ⟨1, _⟩ => rfl
  rw [hi, Ideal.hostUnary_log_def, log_two]
  unfold masked
  by_cases hj : j.val ≤ p.val
  · rw [if_pos hj, hm.mpr hj]; rfl
  · rw [if_neg hj, ne_one (fun h => hj (hm.mp h))]; rfl

/-- The greatest masked score of a row. -/
def top (Q K : Arr) (b h : Fin 8) (p : Fin 4096) : EReal := val_main_v21 (F := Ideal) Q K (ix3 b h p)

theorem top_real (Q K : Arr) (hs : ∀ b h p j, ∃ r : ℝ, score Q K b h p j = (r : EReal)) (b h : Fin 8) (p : Fin 4096) :
    ∃ r : ℝ, top Q K b h p = (r : EReal) := by
  have hlt : ∀ i, val_main_v18 (F := Ideal) Q K i < ⊤ := by
    intro i
    obtain ⟨i0, i1, i2, i3, hi⟩ : ∃ (i0 i1 : Fin 8) (i2 i3 : Fin 4096), i = ix4 i0 i1 i2 i3 :=
      ⟨i 0, i 1, i 2, i 3, by
        funext a
        match a with
        | ⟨0, _⟩ => rfl
        | ⟨1, _⟩ => rfl
        | ⟨2, _⟩ => rfl
        | ⟨3, _⟩ => rfl⟩
    rw [hi, v18_masked]
    unfold masked
    split_ifs
    · obtain ⟨r, hr⟩ := hs i0 i1 i2 i3
      rw [hr, ← EReal.coe_mul]; exact EReal.coe_lt_top _
    · exact bot_lt_top
  have hx : ⊥ < val_main_v18 (F := Ideal) Q K (ix4 b h p ⟨0, by omega⟩) := by
    rw [v18_masked]
    unfold masked
    rw [if_pos (by simp)]
    obtain ⟨r, hr⟩ := hs b h p ⟨0, by omega⟩
    rw [hr, ← EReal.coe_mul]; exact EReal.bot_lt_coe _
  have hf : val_main_v19 (F := Ideal) Q K (ix3 b h p)
      = (Finset.univ.filter fun i => reducesTo_S8x8x4096x4096_S8x8x4096_d3.drop i = ix3 b h p).fold (max : EReal → EReal → EReal)
          (val_main_cst_1 (F := Ideal) (Shape.Idx.first h_S_)) (val_main_v18 (F := Ideal) Q K) :=
    Host.reduce_eq_fold (max : EReal → EReal → EReal) (val_main_v18 (F := Ideal) Q K) (val_main_cst_1 (F := Ideal)) _ _ _
  have ht : top Q K b h p = val_main_v19 (F := Ideal) Q K (ix3 b h p) := by
    unfold top
    rw [val_main_v21_apply, val_main_v20_apply, val_main_cst_2_apply, neg_inf, Ideal.maximumf_def]
    exact max_eq_right bot_le
  have h1 : top Q K b h p < ⊤ := by
    rw [ht, hf, Finset.fold_max_lt, val_main_cst_1_apply, neg_inf]
    exact ⟨bot_lt_top, fun i _ => hlt i⟩
  have h2 : ⊥ < top Q K b h p := by
    rw [ht, hf, Finset.lt_fold_max]
    refine .inr ⟨_, ?_, hx⟩
    rw [Finset.mem_filter]
    refine ⟨Finset.mem_univ _, ?_⟩
    funext a
    match a with
    | ⟨0, _⟩ => rfl
    | ⟨1, _⟩ => rfl
    | ⟨2, _⟩ => rfl
  exact ⟨(top Q K b h p).toReal, (EReal.coe_toReal h1.ne h2.ne').symm⟩

theorem i22 (b h : Fin 8) (p j : Fin 4096) : idx_main_v22 (idx_main_v23 (ix4 b h p j)) = ix3 b h p := by
  funext a
  match a with
  | ⟨0, _⟩ => rfl
  | ⟨1, _⟩ => rfl
  | ⟨2, _⟩ => rfl

theorem i27 (b h : Fin 8) (p j : Fin 4096) : idx_main_v27 (idx_main_v28 (ix4 b h p j)) = ix3 b h p := i22 b h p j

theorem i26 (b h : Fin 8) (p j : Fin 4096) : idx_main_v26 (ix3 b h p) j = ix4 b h p j := by
  funext a
  match a with
  | ⟨0, _⟩ => rfl
  | ⟨1, _⟩ => rfl
  | ⟨2, _⟩ => rfl
  | ⟨3, _⟩ => rfl

theorem v25_exp (Q K : Arr) (b h : Fin 8) (p j : Fin 4096) :
    val_main_v25 (F := Ideal) Q K (ix4 b h p j) = Ideal.exp (masked Q K b h p j - top Q K b h p) := by
  rw [val_main_v25_apply, val_main_v24_apply, v18_masked, val_main_v23_apply, val_main_v22_apply, i22, Ideal.hostUnary_exp_def,
    Ideal.subf_def, top]

theorem v29_share (Q K : Arr) (b h : Fin 8) (p j : Fin 4096) :
    val_main_v29 (F := Ideal) Q K (ix4 b h p j)
      = Ideal.div (Ideal.exp (masked Q K b h p j - top Q K b h p)) (0 + ∑ k : Fin 4096, Ideal.exp (masked Q K b h p k - top Q K b h p)) := by
  rw [val_main_v29_apply, v25_exp, val_main_v28_apply, val_main_v27_apply, val_main_v26_apply, i27, Ideal.hostDivf_def, val_main_cst_3_apply,
    show FloatOps.ofBits (F := Ideal) .f32 0x00000000#32 = 0 from Ideal.ofBits_zero_f32]
  congr 2
  refine Finset.sum_congr rfl fun k _ => ?_
  rw [i26, v25_exp]

/-- The gate's element: batch `b`, position `p`, column `n` of its first 1024. -/
def gateElt (G : FVec Ideal S32768x3072 .bf16) (b : Fin 8) (p : Fin 4096) (n : Fin 1024) : EReal :=
  G (ix2 ⟨4096 * b.val + p.val, by omega⟩ ⟨n.val, by omega⟩)

/-- The reference's result: batch `b`, position `512 e + r`, head `h`, coordinate `d`. -/
theorem v37_row (Q K V : Arr) (G : FVec Ideal S32768x3072 .bf16) (b e : Fin 8) (r : Fin 512) (h : Fin 8) (d : Fin 128) :
    val_main_v37 (F := Ideal) Q K V G (ix4 b e r ⟨128 * h.val + d.val, by omega⟩)
      = (∑ j : Fin 4096, elt V b j h ⟨d.val, by omega⟩
          * Ideal.div (Ideal.exp (masked Q K b h ⟨512 * e.val + r.val, by omega⟩ j - top Q K b h ⟨512 * e.val + r.val, by omega⟩))
            (0 + ∑ k : Fin 4096, Ideal.exp (masked Q K b h ⟨512 * e.val + r.val, by omega⟩ k - top Q K b h ⟨512 * e.val + r.val, by omega⟩)))
        * gateElt G b ⟨512 * e.val + r.val, by omega⟩ ⟨128 * h.val + d.val, by omega⟩ := by
  have h32 : idx_main_v31 (idx_main_v32 (ix4 b e r ⟨128 * h.val + d.val, by omega⟩)) = ix4 b h d ⟨512 * e.val + r.val, by omega⟩ := by
    funext a
    match a with
    | ⟨0, _⟩ => apply Fin.ext; simp; omega
    | ⟨1, _⟩ => apply Fin.ext; simp; omega
    | ⟨2, _⟩ => apply Fin.ext; simp; omega
    | ⟨3, _⟩ => apply Fin.ext; simp; omega
  have h35 : idx_main_v33 (idx_main_v35 (ix4 b e r ⟨128 * h.val + d.val, by omega⟩))
      = ix2 ⟨4096 * b.val + (512 * e.val + r.val), by omega⟩ ⟨128 * h.val + d.val, by omega⟩ := by
    funext a
    match a with
    | ⟨0, _⟩ => apply Fin.ext; simp; omega
    | ⟨1, _⟩ => apply Fin.ext; simp; omega
  rw [val_main_v37_apply, val_main_v36_apply, val_main_v32_apply, val_main_v31_apply, h32, val_main_v35_apply, val_main_v34_apply,
    val_main_v33_apply, h35, val_main_v30_apply]
  show _ * _ = _
  refine congrArg₂ (· * ·) (Finset.sum_congr rfl fun j _ => ?_) rfl
  have hl : lidx_main_v30 (ix4 b h d ⟨512 * e.val + r.val, by omega⟩) j = ix4 b j h d := by
    funext a
    match a with
    | ⟨0, _⟩ => rfl
    | ⟨1, _⟩ => rfl
    | ⟨2, _⟩ => rfl
    | ⟨3, _⟩ => rfl
  have hr : ridx_main_v30 (ix4 b h d ⟨512 * e.val + r.val, by omega⟩) j = ix4 b h ⟨512 * e.val + r.val, by omega⟩ j := by
    funext a
    match a with
    | ⟨0, _⟩ => rfl
    | ⟨1, _⟩ => rfl
    | ⟨2, _⟩ => rfl
    | ⟨3, _⟩ => rfl
  rw [hl, hr, v6_elt, v29_share]

end Cert.ReferenceIdeal.Hand

end
-- ==== Proof.Attn.Body.lean ====
/-
  What the attention's output block holds after every grid point, and the run of the whole call.
-/
module

public import proofs.«01_k».proof.Proof.Attn.Blocks
public import Idealize.ShloMosaic.Lib.Pipeline.DatRel
public import Idealize.ShloMosaic.Lib.Pipeline.FrameBody
public import Idealize.ShloMosaic.Lib.WordCmp
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

local notation "𝕄" => MT nD τ sig Unit (Elt Ideal) ℕ (UR sig nD τ) ℕ

variable (m : (ℓ : Loc nD τ sig) → Buf (Elt Ideal) ℓ) (ρ : Dev nD → PrngReg)

/-! ## Which case a grid point is in -/

/-- At a grid point exactly one of the body's four cases is taken. -/
theorem one_case (t : Fin grid0.N) :
    (k0_cond1 (grid0.coords t) = 1#1 ↔ t.val % 4 = 0) ∧ (k0_cond2 (grid0.coords t) = 1#1 ↔ t.val % 4 = 1)
      ∧ (k0_cond3 (grid0.coords t) = 1#1 ↔ t.val % 4 = 2) ∧ (k0_cond4 (grid0.coords t) = 1#1 ↔ t.val % 4 = 3) := by
  have ht : t.val < 128 := Nat.lt_of_lt_of_eq t.isLt N_0
  have e0 : (grid0.coords t 0).val = t.val / 16 % 8 := Pipeline.Grid.coords_val t 0 (by decide) rfl
  have e1 : (grid0.coords t 1).val = t.val / 4 % 4 := Pipeline.Grid.coords_val t 1 (by decide) rfl
  have e2 : (grid0.coords t 2).val = t.val / 1 % 4 := Pipeline.Grid.coords_val t 2 (by decide) rfl
  refine ⟨?_, ?_, ?_, ?_⟩
  · simp only [k0_cond1, e0, e1, e2]; word_cmp
  · simp only [k0_cond2, e0, e1, e2]; word_cmp
  · simp only [k0_cond3, e0, e1, e2]; word_cmp
  · simp only [k0_cond4, e0, e1, e2]; word_cmp

/-- The body at grid point `t`: query blocks `t % 4` and `7 - t % 4` are written, the rest of the output block stays as found. -/
theorem run (c : Dev nD) (t : Fin grid0.N) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S1x8x512x256 .bf16) (harg9 : arg9.IsWhole)

    (x0 x1 : FVec Ideal S512x512 .bf16) (x2 x3 : FVec Ideal S4096x512 .bf16) (x4 x5 : FVec Ideal S512x256 .bf16)
    (d : FVec Ideal S1x8x512x256 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d' : FVec Ideal S1x8x512x256 .bf16, ⌜∀ (e : Fin 8) (r : Fin 512) (l : Fin 256), d' (ix4 0 e r l)
                = if e.val = 7 - t.val % 4 then blockOut (7 - t.val % 4) x1 x2 x3 x5 r l else if e.val = t.val % 4 then blockOut (t.val % 4) x0 x2 x3 x4 r l else d (ix4 0 e r l)⌝
              ∗ owns (c : Thread nD τ) arg9 fullShare d')) -∗ K ⟨⟩))
      ⊢ wp frame (wpE (defs₀ (F := Ideal)) Variants.none c none) E (cc0_mla_attention (F := Ideal) (grid0.coords t) arg3 harg3 arg4 harg4 arg5 harg5 arg6 harg6 arg7 harg7 arg8 harg8 arg9 harg9) K := by
  obtain ⟨h0, h1, h2, h3⟩ := one_case t
  have h4 : t.val % 4 < 4 := Nat.mod_lt _ (by decide)
  rcases (by omega : t.val % 4 = 0 ∨ t.val % 4 = 1 ∨ t.val % 4 = 2 ∨ t.val % 4 = 3) with h | h | h | h <;>
    (rw [h] at h0 h1 h2 h3; simp only [h])
  · exact runA c (grid0.coords t) arg3 harg3 arg4 harg4 arg5 harg5 arg6 harg6 arg7 harg7 arg8 harg8 arg9 harg9 (h0.mpr rfl) (fun h' => absurd (h1.mp h') (by decide)) (fun h' => absurd (h2.mp h') (by decide)) (fun h' => absurd (h3.mp h') (by decide)) x0 x1 x2 x3 x4 x5 d E K
  · exact runB c (grid0.coords t) arg3 harg3 arg4 harg4 arg5 harg5 arg6 harg6 arg7 harg7 arg8 harg8 arg9 harg9 (fun h' => absurd (h0.mp h') (by decide)) (h1.mpr rfl) (fun h' => absurd (h2.mp h') (by decide)) (fun h' => absurd (h3.mp h') (by decide)) x0 x1 x2 x3 x4 x5 d E K
  · exact runC c (grid0.coords t) arg3 harg3 arg4 harg4 arg5 harg5 arg6 harg6 arg7 harg7 arg8 harg8 arg9 harg9 (fun h' => absurd (h0.mp h') (by decide)) (fun h' => absurd (h1.mp h') (by decide)) (h2.mpr rfl) (fun h' => absurd (h3.mp h') (by decide)) x0 x1 x2 x3 x4 x5 d E K
  · exact runD c (grid0.coords t) arg3 harg3 arg4 harg4 arg5 harg5 arg6 harg6 arg7 harg7 arg8 harg8 arg9 harg9 (fun h' => absurd (h0.mp h') (by decide)) (fun h' => absurd (h1.mp h') (by decide)) (fun h' => absurd (h2.mp h') (by decide)) (h3.mpr rfl) x0 x1 x2 x3 x4 x5 d E K

/-! ## The windows' buffers at a point -/

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x512x256 .bf16 := win0_6.stage (cfg0.slots t 6)
abbrev hs0_6 (t : Fin cfg0.N) : (ms0_6 t).IsWhole := hstage0_6 ((cfg0.slots t 6).cast nbuf0_6)

/-! ## The data of the call -/

/-- The output window, of which a relation is kept. -/
def kept0 : Fin 7 → Bool := fun w => w.val == 6

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d

/-- The attention's result over this core's arrays. -/
abbrev attnOf (c : Dev nD) : Fin 8 → Fin 4 → Fin 8 → Fin 512 → Fin 256 → EReal :=
  attn (m ((c : Thread nD τ).loc main_arg0)) (m ((c : Thread nD τ).loc main_arg1))
    (m ((c : Thread nD τ).loc main_arg2)) (m ((c : Thread nD τ).loc main_arg3))

/-- What is known of the output block after a point: the query blocks its group has reached so far are the result's. -/
def reached (c : Dev nD) (t : Fin cfg0.N) (X : FVec Ideal S1x8x512x256 .bf16) : Prop :=
  ∀ (e : Fin 8) (r : Fin 512) (l : Fin 256), (e.val ≤ t.val % 4 ∨ 7 - t.val % 4 ≤ e.val) →
    X (ix4 0 e r l) = attnOf m c (bOf t) (hOf t) e r l

def Rl (c : Dev nD) (w : Fin cfg0.W) (t : Fin cfg0.N) : ((cfg0.win w).block.Idx → Elt Ideal (cfg0.win w).elt) → Prop :=
  match w with
  | ⟨0, _⟩ => fun _ => True
  | ⟨1, _⟩ => fun _ => True
  | ⟨2, _⟩ => fun _ => True
  | ⟨3, _⟩ => fun _ => True
  | ⟨4, _⟩ => fun _ => True
  | ⟨5, _⟩ => fun _ => True
  | ⟨6, _⟩ => fun X => reached m c t X

/-- What the output block may hold when the body starts. -/
abbrev found (c : Dev nD) (t : Fin cfg0.N) (Y : FVec Ideal S1x8x512x256 .bf16) : Prop :=
  ((dats m 0 c).toRRel kept0 (Rl m c)).Finds 6 t Y

/-- Within a group, the body finds what the point before left. -/
theorem found_prev (c : Dev nD) (t : Fin cfg0.N) (h : t.val % 4 ≠ 0) (Y : FVec Ideal S1x8x512x256 .bf16)
    (hY : found m c t Y) (e : Fin 8) (r : Fin 512) (l : Fin 256) (he : e.val + 1 ≤ t.val % 4 ∨ 8 - t.val % 4 ≤ e.val) :
    Y (ix4 0 e r l) = attnOf m c (bOf t) (hOf t) e r l := by
  have hN : t.val < 128 := lt_of_lt_of_eq t.isLt (show cfg0.N = 128 from N_0)
  have hYf := (((dats m 0 c).toRRel kept0 (Rl m c)).finds_of_pos (w := 6) (t := t) rfl (by omega) Y).mp hY
  rcases hYf with hf | hl
  · have := (flush0_6 _).mp hf
    simp only at this
    omega
  · have hr : reached m c ⟨t.val - 1, Nat.lt_of_le_of_lt (Nat.sub_le _ _) t.isLt⟩ Y :=
      (dats m 0 c).toRRel_leaves (w := 6) rfl hl
    have := hr e r l (by simp only; omega)
    rw [this]
    congr 1
    · apply Fin.ext; simp only [bOf]; omega
    · apply Fin.ext; simp only [hOf]; omega

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y : FVec Ideal S1x8x512x256 .bf16, ⌜found m c t Y⌝ ∗ owns (c : Thread nD τ) (ms0_6 t) fullShare Y))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X : FVec Ideal S1x8x512x256 .bf16, ⌜reached m c t X⌝ ∗ owns (c : Thread nD τ) (ms0_6 t) fullShare X))

/-- The body at a grid point: what its group has reached so far is the result's. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).Φ t.succ = (dats m 0 c).Φ t.castSucc from rfl,
    show (dats m 0 c).owesAt () t.succ = (dats m 0 c).owesAt () t.castSucc from rfl]
  have hN : t.val < 128 := lt_of_lt_of_eq t.isLt (show cfg0.N = 128 from N_0)
  iintro ⟨HΦ, Ho, ⟨%d0, H0⟩, ⟨%d1, H1⟩, ⟨%d2, H2⟩, ⟨%d3, H3⟩, ⟨%d4, H4⟩, ⟨%d5, H5⟩, ⟨%d6, %hd6, H6⟩⟩
  iapply (run c t _ _ _ _ _ _ _ _ _ _ _ _ _ _ (iblk m c 0 t) (iblk m c 1 t) (iblk m c 2 t) (iblk m c 3 t) (iblk m c 4 t) (iblk m c 5 t) d6 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, ⟨%d', %hd', H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d'
  isplitr
  · ipureintro
    intro e r l he
    rw [hd' e r l, iblk_0, iblk_1, iblk_2, iblk_3, iblk_4, iblk_5]
    split_ifs with h7 h0
    · have e' : eOf' t = e := Fin.ext (by simp only [eOf']; omega)
      rw [e', ← h7]; rfl
    · have e' : eOf t = e := Fin.ext (by simp only [eOf]; omega)
      rw [e', ← h0]; rfl
    · exact found_prev m c t (by omega) d6 hd6 e r l (by omega)
  iexact H6

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) :
    BodyObligationRel (dats m 0 c) (defs₀ (F := Ideal)) Variants.none () Set.univ kept0 (Rl m c) := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := Ideal))) (s₀ m ρ) (fun r =>
    (Pipeline.RDat.FramePost (cfgs 0) (fun c => (dats m 0 c).toRRel kept0 (Rl m c)) (V m)) r ∧ r.2.sem = fun _ => 0) :=
  Pipeline.RDat.θ_run_frame_track_shared (Q' := _) cfgs (0 : Fin 1) launch₀0 defs₀ Variants.none
    (fun c => (dats m 0 c).toRRel kept0 (Rl m c)) m ρ main
    (hbody := fun c => (body_obligation m c).toRRel) (hq := fun _ _ _ => rfl)
    (howed := fun _ _ => rfl) (V := V m) (hmain := hmain m Variants.none) (hA := A_eq m)
    (hin := fun _ => .rfl) (hout := fun _ => .rfl)

/-- The result array, from this core's four arrays. -/
def result (c : Dev nD) : FVec Ideal S8x8x512x1024 .bf16 :=
  fun y => attnOf m c (y 0) ⟨(y 3).val / 256, by have := (y 3).isLt; simp at this; omega⟩ (y 1) (y 2) ⟨(y 3).val % 256, by omega⟩

/-- After the run the output array is the result. -/
theorem out_eq (r : PUnit × MemSt nD τ sig (Elt Ideal))
    (h : Pipeline.RDat.FramePost (cfgs 0) (fun c => (dats m 0 c).toRRel kept0 (Rl m c)) (V m) r) (c : Dev nD) :
    r.2.mem ((c.tc : Thread nD τ).loc main_v0) = result m c := by
  obtain ⟨after, hl, harr⟩ := h.exists_exact c
  refine (harr 6).trans ?_
  refine (((dats m 0 c).toRRel kept0 (Rl m c)).withAfter after).arrAt_eq_of_covers 6 (result m c) (by decide +kernel) fun t hf y => ?_
  have hN : t.val < 128 := lt_of_lt_of_eq t.isLt (show cfg0.N = 128 from N_0)
  have hr : reached m c t (after 6 t) := (dats m 0 c).toRRel_leaves (w := 6) rfl (hl 6 t hf)
  have h3 := (flush0_6 t).mp hf
  have h1 : (y 1).val < 8 := (y 1).isLt
  have h2 : (y 2).val < 512 := (y 2).isLt
  have h4 : (y 3).val < 256 := (y 3).isLt
  have he := hr ⟨(y 1).val, h1⟩ ⟨(y 2).val, h2⟩ ⟨(y 3).val, h4⟩ (by simp only; omega)
  unfold result
  blk_simp [index_6 t]
  have hy : y = ix4 0 ⟨(y 1).val, h1⟩ ⟨(y 2).val, h2⟩ ⟨(y 3).val, h4⟩ := by
    funext a; fin_cases a <;> first | rfl | exact Fin.ext (by have := (y 0).isLt; simp at this; simp [this])
  refine (congrArg (after 6 t) hy).trans (he.trans ?_)
  congr 1
  · apply Fin.ext; blk_simp [index_6 t, bOf]
  · apply Fin.ext; simp only [hOf]; omega
  · apply Fin.ext; blk_simp [index_6 t]
  · apply Fin.ext; blk_simp [index_6 t]
  · apply Fin.ext; simp only []; omega

/-- Every run ends, with the arguments unchanged, the counters at zero and the result in the output array. -/
theorem run_value : θ_run defs (onTc (τ := τ) (main (F := Ideal))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨out_eq m r h.1 c,
      (Pipeline.RDat.FramePost.arr_in h.1 c 1 rfl).trans ((A_eq m c 1).trans (V_main_arg0 m c)),
      (Pipeline.RDat.FramePost.arr_in h.1 c 2 rfl).trans ((A_eq m c 2).trans (V_main_arg1 m c)),
      (Pipeline.RDat.FramePost.arr_in h.1 c 3 rfl).trans ((A_eq m c 3).trans (V_main_arg2 m c)),
      (Pipeline.RDat.FramePost.arr_in h.1 c 5 rfl).trans ((A_eq m c 5).trans (V_main_arg3 m c))⟩)
    (run_main_quiescent m ρ)

/-- The frame, with the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (run_value m ρ))
    ((θ_run defs _ _).mono (fun _ h => h.2) (run_main_quiescent m ρ))

end Cert.KernelIdeal.Hand

end
-- ==== Proof.Attn.Value.lean ====
/-
  The optimised attention and the reference agree, element by element, when queries and keys are real numbers
  and the ones column of the values holds ones.
-/
module

public import proofs.«01_k».proof.Proof.Attn.Ref
public import proofs.«01_k».proof.Proof.Attn.Body

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.Pointwise

/-- A score of real queries and keys, as a real number. -/
def realScore (Q K : Arr) (b h : Fin 8) (p j : Fin 4096) : ℝ := ∑ d : Fin 256, (elt Q b p h d).toReal * (elt K b j h d).toReal

theorem score_real (Q K : Arr) (hQ : ∀ i, ∃ r : ℝ, Q i = (r : EReal)) (hK : ∀ i, ∃ r : ℝ, K i = (r : EReal))
    (b h : Fin 8) (p j : Fin 4096) : score Q K b h p j = ((realScore Q K b h p j : ℝ) : EReal) := by
  unfold score realScore
  rw [← Cert.KernelIdeal.Hand.coe_sum]
  refine Finset.sum_congr rfl fun d _ => ?_
  obtain ⟨x, hx⟩ := hQ (ix2 ⟨4096 * b.val + p.val, by omega⟩ ⟨256 * h.val + d.val, by omega⟩)
  obtain ⟨y, hy⟩ := hK (ix2 ⟨4096 * b.val + j.val, by omega⟩ ⟨256 * h.val + d.val, by omega⟩)
  unfold elt
  rw [hx, hy, EReal.toReal_coe, EReal.toReal_coe, EReal.coe_mul]

/-- The attention's weighted sums over the scores of the reference: head `h`, coordinate `d`, position `p`. -/
theorem row_eq (Q K V : Arr) (g : Fin 128 → EReal) (hQ : ∀ i, ∃ r : ℝ, Q i = (r : EReal)) (hK : ∀ i, ∃ r : ℝ, K i = (r : EReal))
    (hV : ∀ (row : Fin 32768) (n : Fin 8), V (ix2 row ⟨256 * n.val + 128, by omega⟩) = 1)
    (b h : Fin 8) (p : Fin 4096) (d : Fin 128) :
    (∑ j : Fin 4096, elt V b j h ⟨d.val, by omega⟩
        * Ideal.div (Ideal.exp (masked Q K b h p j - top Q K b h p)) (0 + ∑ k : Fin 4096, Ideal.exp (masked Q K b h p k - top Q K b h p))) * g d
      = Cert.KernelIdeal.Hand.rowOut p.val (fun e => elt Q b p h e) (fun j e => elt K b j h e) (fun j e => elt V b j h e) g d := by
  obtain ⟨M, hM⟩ := top_real Q K (fun b h p j => ⟨_, score_real Q K hQ hK b h p j⟩) b h p
  have hm : ∀ j, masked Q K b h p j
      = if j.val ≤ p.val then ((realScore Q K b h p j : ℝ) : EReal) * ((Real.log 2 : ℝ) : EReal) else ⊥ := by
    intro j; unfold masked; rw [score_real Q K hQ hK]
  have hw : ∀ j, Cert.KernelIdeal.Hand.weight p.val (fun e => elt Q b p h e) (fun j e => elt K b j h e) j
      = Ideal.exp2 (if j.val ≤ p.val then ((realScore Q K b h p j : ℝ) : EReal) else ⊥) := by
    intro j; unfold Cert.KernelIdeal.Hand.weight; rw [← score_real Q K hQ hK]; rfl
  have hone : ∀ j : Fin 4096, elt V b j h ⟨128, by omega⟩ = 1 := fun j => hV ⟨4096 * b.val + j.val, by omega⟩ h
  unfold Cert.KernelIdeal.Hand.rowOut Cert.KernelIdeal.Hand.rowAcc
  simp only [hm, hM, hw, hone]
  rw [Cert.KernelIdeal.Hand.softmax_row p.val (realScore Q K b h p) (fun j => elt V b j h ⟨d.val, by omega⟩) M]

/-- The optimised attention in the reference's coordinates: head pair `hh`, column `l` of the pair. -/
theorem attn_row (Q K V : Arr) (G : FVec Ideal S32768x3072 .bf16) (b : Fin 8) (hh : Fin 4) (e : Fin 8) (r : Fin 512) (l : Fin 256) :
    Cert.KernelIdeal.Hand.attn Q K V G b hh e r l
      = Cert.KernelIdeal.Hand.rowOut (512 * e.val + r.val)
          (fun d => elt Q b ⟨512 * e.val + r.val, by omega⟩ ⟨2 * hh.val + l.val / 128, by omega⟩ d)
          (fun j d => elt K b j ⟨2 * hh.val + l.val / 128, by omega⟩ d) (fun j d => elt V b j ⟨2 * hh.val + l.val / 128, by omega⟩ d)
          (fun x => gateElt G b ⟨512 * e.val + r.val, by omega⟩ ⟨128 * (2 * hh.val + l.val / 128) + x.val, by omega⟩)
          ⟨l.val % 128, by omega⟩ := by
  unfold Cert.KernelIdeal.Hand.attn Cert.KernelIdeal.Hand.blockOut
  have hq : ∀ X : Arr, (fun d : Fin 256 => Cert.KernelIdeal.Hand.qPart X b hh e (ix2 r ⟨256 * (l.val / 128) + d.val, by omega⟩))
      = fun d => elt X b ⟨512 * e.val + r.val, by omega⟩ ⟨2 * hh.val + l.val / 128, by omega⟩ d := fun X => by
    funext d
    unfold Cert.KernelIdeal.Hand.qPart elt
    refine congrArg X ?_
    funext a
    match a with
    | ⟨0, _⟩ => apply Fin.ext; show 4096 * b.val + 512 * e.val + r.val = 4096 * b.val + (512 * e.val + r.val); omega
    | ⟨1, _⟩ => apply Fin.ext; show 512 * hh.val + (256 * (l.val / 128) + d.val) = 256 * (2 * hh.val + l.val / 128) + d.val; omega
  have hk : ∀ X : Arr, (fun (j : Fin 4096) (d : Fin 256) => Cert.KernelIdeal.Hand.kPart X b hh (ix2 j ⟨256 * (l.val / 128) + d.val, by omega⟩))
      = fun j d => elt X b j ⟨2 * hh.val + l.val / 128, by omega⟩ d := fun X => by
    funext j d
    unfold Cert.KernelIdeal.Hand.kPart elt
    refine congrArg X ?_
    funext a
    match a with
    | ⟨0, _⟩ => rfl
    | ⟨1, _⟩ => apply Fin.ext; show 512 * hh.val + (256 * (l.val / 128) + d.val) = 256 * (2 * hh.val + l.val / 128) + d.val; omega
  have hg : (fun x : Fin 128 => Cert.KernelIdeal.Hand.gPart G b hh e (ix2 r ⟨128 * (l.val / 128) + x.val, by omega⟩))
      = fun x => gateElt G b ⟨512 * e.val + r.val, by omega⟩ ⟨128 * (2 * hh.val + l.val / 128) + x.val, by omega⟩ := by
    funext x
    unfold Cert.KernelIdeal.Hand.gPart gateElt
    refine congrArg G ?_
    funext a
    match a with
    | ⟨0, _⟩ => apply Fin.ext; show 4096 * b.val + 512 * e.val + r.val = 4096 * b.val + (512 * e.val + r.val); omega
    | ⟨1, _⟩ => apply Fin.ext; show 256 * hh.val + (128 * (l.val / 128) + x.val) = 128 * (2 * hh.val + l.val / 128) + x.val; omega
  have hp : r.val + 512 * e.val = 512 * e.val + r.val := by omega
  rw [hq Q, hk K, hk V, hg, hp]

/-- The reference's result is the optimised attention's. -/
theorem v37_eq (Q K V : Arr) (G : FVec Ideal S32768x3072 .bf16) (hQ : ∀ i, ∃ r : ℝ, Q i = (r : EReal)) (hK : ∀ i, ∃ r : ℝ, K i = (r : EReal))
    (hV : ∀ (row : Fin 32768) (n : Fin 8), V (ix2 row ⟨256 * n.val + 128, by omega⟩) = 1)
    (b e : Fin 8) (r : Fin 512) (n : Fin 1024) :
    val_main_v37 (F := Ideal) Q K V G (ix4 b e r n)
      = Cert.KernelIdeal.Hand.attn Q K V G b ⟨n.val / 256, by omega⟩ e r ⟨n.val % 256, by omega⟩ := by
  have hn : n = ⟨128 * (n.val / 128) + n.val % 128, by omega⟩ := Fin.ext (by show n.val = 128 * (n.val / 128) + n.val % 128; omega)
  have hh : (⟨2 * (n.val / 256) + n.val % 256 / 128, by omega⟩ : Fin 8) = ⟨n.val / 128, by omega⟩ := Fin.ext (by show 2 * (n.val / 256) + n.val % 256 / 128 = n.val / 128; omega)
  have hd : (⟨n.val % 256 % 128, by omega⟩ : Fin 128) = ⟨n.val % 128, by omega⟩ := Fin.ext (by show n.val % 256 % 128 = n.val % 128; omega)
  have hv := v37_row Q K V G b e r ⟨n.val / 128, by omega⟩ ⟨n.val % 128, by omega⟩
  have hr := row_eq Q K V (fun x => gateElt G b ⟨512 * e.val + r.val, by omega⟩ ⟨128 * (n.val / 128) + x.val, by omega⟩) hQ hK hV b
    ⟨n.val / 128, by omega⟩ ⟨512 * e.val + r.val, by omega⟩ ⟨n.val % 128, by omega⟩
  rw [attn_row]
  have hg : (fun x : Fin 128 => gateElt G b ⟨512 * e.val + r.val, by omega⟩ ⟨128 * (2 * (n.val / 256) + n.val % 256 / 128) + x.val, by omega⟩)
      = fun x => gateElt G b ⟨512 * e.val + r.val, by omega⟩ ⟨128 * (n.val / 128) + x.val, by omega⟩ := by
    funext x
    refine congrArg _ (Fin.ext ?_)
    show 128 * (2 * (n.val / 256) + n.val % 256 / 128) + x.val = 128 * (n.val / 128) + x.val
    omega
  show val_main_v37 (F := Ideal) Q K V G (ix4 b e r n) = Cert.KernelIdeal.Hand.rowOut _
    (fun d => elt Q b _ (⟨2 * (n.val / 256) + n.val % 256 / 128, by omega⟩ : Fin 8) d)
    (fun j d => elt K b j (⟨2 * (n.val / 256) + n.val % 256 / 128, by omega⟩ : Fin 8) d)
    (fun j d => elt V b j (⟨2 * (n.val / 256) + n.val % 256 / 128, by omega⟩ : Fin 8) d)
    (fun x : Fin 128 => gateElt G b ⟨512 * e.val + r.val, by omega⟩ ⟨128 * (2 * (n.val / 256) + n.val % 256 / 128) + x.val, by omega⟩)
    (⟨n.val % 256 % 128, by omega⟩ : Fin 128)
  rw [hg, hh, hd]
  refine Eq.trans (congrArg (fun x => val_main_v37 (F := Ideal) Q K V G (ix4 b e r x)) hn) (hv.trans hr)

end Cert.ReferenceIdeal.Hand
-- ==== Proof.Attn.Frame.lean ====
/-
  The attention over machine words: every run ends, leaves the arguments unchanged and every counter at zero.
-/
module

public import proofs.«01_k».proof.Proof.Gen.Kernel.Frame
public import proofs.«01_k».proof.Proof.Gen.Kernel.Skeleton
public import Idealize.ShloMosaic.Lib.Pipeline.DatRel
public import Idealize.ShloMosaic.Lib.Pipeline.FrameBody
public import Idealize.ShloMosaic.Lib.WordCmp
public import Idealize.ShloMosaic.Lib.Claim
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- At a grid point exactly one of the body's four cases is taken. -/
theorem one_case (t : Fin grid0.N) :
    (k0_cond1 (grid0.coords t) = 1#1 ↔ t.val % 4 = 0) ∧ (k0_cond2 (grid0.coords t) = 1#1 ↔ t.val % 4 = 1)
      ∧ (k0_cond3 (grid0.coords t) = 1#1 ↔ t.val % 4 = 2) ∧ (k0_cond4 (grid0.coords t) = 1#1 ↔ t.val % 4 = 3) := by
  have ht : t.val < 128 := Nat.lt_of_lt_of_eq t.isLt N_0
  have e0 : (grid0.coords t 0).val = t.val / 16 % 8 := Pipeline.Grid.coords_val t 0 (by decide) rfl
  have e1 : (grid0.coords t 1).val = t.val / 4 % 4 := Pipeline.Grid.coords_val t 1 (by decide) rfl
  have e2 : (grid0.coords t 2).val = t.val / 1 % 4 := Pipeline.Grid.coords_val t 2 (by decide) rfl
  refine ⟨?_, ?_, ?_, ?_⟩
  · simp only [k0_cond1, e0, e1, e2]; word_cmp
  · simp only [k0_cond2, e0, e1, e2]; word_cmp
  · simp only [k0_cond3, e0, e1, e2]; word_cmp
  · simp only [k0_cond4, e0, e1, e2]; word_cmp

set_option maxHeartbeats 4000000 in
/-- The body at a point keeps the inputs' blocks and leaves some output block. -/
theorem run (c : Dev nD) (i : grid0.Coords) (arg3 : Memref sig .tc .vmem S512x512 .bf16) (harg3 : arg3.IsWhole) (arg4 : Memref sig .tc .vmem S512x512 .bf16) (harg4 : arg4.IsWhole) (arg5 : Memref sig .tc .vmem S4096x512 .bf16) (harg5 : arg5.IsWhole) (arg6 : Memref sig .tc .vmem S4096x512 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S1x8x512x256 .bf16) (harg9 : arg9.IsWhole)

    (hc : (k0_cond1 i = 1#1 ∧ ¬k0_cond2 i = 1#1 ∧ ¬k0_cond3 i = 1#1 ∧ ¬k0_cond4 i = 1#1)
      ∨ (¬k0_cond1 i = 1#1 ∧ k0_cond2 i = 1#1 ∧ ¬k0_cond3 i = 1#1 ∧ ¬k0_cond4 i = 1#1)
      ∨ (¬k0_cond1 i = 1#1 ∧ ¬k0_cond2 i = 1#1 ∧ k0_cond3 i = 1#1 ∧ ¬k0_cond4 i = 1#1)
      ∨ (¬k0_cond1 i = 1#1 ∧ ¬k0_cond2 i = 1#1 ∧ ¬k0_cond3 i = 1#1 ∧ k0_cond4 i = 1#1))
    (x0 x1 : FVec F S512x512 .bf16) (x2 x3 : FVec F S4096x512 .bf16) (x4 x5 : FVec F S512x256 .bf16)
    (d : FVec F S1x8x512x256 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare d
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ (∃ d' : FVec F S1x8x512x256 .bf16, owns (c : Thread nD τ) arg9 fullShare d')) -∗ K ⟨⟩))
      ⊢ wp frame (wpE (defs₀ (F := F)) Variants.none c none) E (cc0_mla_attention (F := F) i arg3 harg3 arg4 harg4 arg5 harg5 arg6 harg6 arg7 harg7 arg8 harg8 arg9 harg9) K := by
  rcases hc with ⟨hc0, hc1, hc2, hc3⟩ | ⟨hc0, hc1, hc2, hc3⟩ | ⟨hc0, hc1, hc2, hc3⟩ | ⟨hc0, hc1, hc2, hc3⟩
  all_goals
    simp only [cc0_mla_attention_eq_skeleton]; unfold cc0_mla_attention_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    sl_exec (disch := first | sl_exact hc0 | sl_exact hc1 | sl_exact hc2 | sl_exact hc3)
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    iexists _, _
    isplitr
    swap
    · iexact H6
    ipureintro; rfl

/-! ## The windows' buffers at a point -/

abbrev ms0_0 (t : Fin cfg0.N) : Memref sig .tc .vmem S512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x512x256 .bf16 := win0_6.stage (cfg0.slots t 6)
abbrev hs0_6 (t : Fin cfg0.N) : (ms0_6 t).IsWhole := hstage0_6 ((cfg0.slots t 6).cast nbuf0_6)

/-! ## The data of the call -/

/-- The output window, of which a relation is kept. -/
def kept0 : Fin 7 → Bool := fun w => w.val == 6

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d

/-- Nothing is said of any block. -/
def Rl (c : Dev nD) (w : Fin cfg0.W) (t : Fin cfg0.N) : ((cfg0.win w).block.Idx → Elt F (cfg0.win w).elt) → Prop := fun _ => True

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ Y : FVec F S1x8x512x256 .bf16, ⌜((dats m 0 c).toRRel kept0 (Rl c)).Finds 6 t Y⌝ ∗ owns (c : Thread nD τ) (ms0_6 t) fullShare Y))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X : FVec F S1x8x512x256 .bf16, ⌜True⌝ ∗ owns (c : Thread nD τ) (ms0_6 t) fullShare X))

/-- The body at a grid point. -/
theorem sound_body (c : Dev nD) (t : Fin cfg0.N) :
    bodyPre m c t ⊢ wp frame (wpE (defs₀ (F := F)) Variants.none c none) Set.univ (bodyAt0 t) (fun _ => bodyPost m c t) := by
  have hc := one_case t
  unfold bodyPre bodyPost bodyAt0
  simp only [before0_0, before0_1, before0_2, before0_3, before0_4, before0_5, after0_0, after0_1, after0_2, after0_3, after0_4, after0_5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, %hd6, H6⟩⟩
  iapply (run c (grid0.coords t) _ _ _ _ _ _ _ _ _ _ _ _ _ _ (by simp only [hc]; omega) (iblk m c 0 t) (iblk m c 1 t) (iblk m c 2 t) (iblk m c 3 t) (iblk m c 4 t) (iblk m c 5 t) d6 _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, ⟨%d', H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d'
  isplitr
  · ipureintro; trivial
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats m 0 c) (defs₀ (F := F)) Variants.none () Set.univ kept0 (Rl c) := fun t => by
  rw [bigSep_W0, bigSep_W0, defs₀_row]
  exact triple_restated (sound_body m c t) rfl .rfl fun _ => .rfl

/-! ## The run -/

set_option backward.isDefEq.respectTransparency.types false in
theorem run_main_quiescent : θ_run defs (onTc (τ := τ) (main (F := F))) (s₀ m ρ) (fun r =>
    (Pipeline.RDat.FramePost (cfgs 0) (fun c => (dats m 0 c).toRRel kept0 (Rl c)) (V m)) r ∧ r.2.sem = fun _ => 0) :=
  Pipeline.RDat.θ_run_frame_track_shared (Q' := _) cfgs (0 : Fin 1) launch₀0 defs₀ Variants.none
    (fun c => (dats m 0 c).toRRel kept0 (Rl c)) m ρ main
    (hbody := fun c => (body_obligation m c).toRRel) (hq := fun _ _ _ => rfl)
    (howed := fun _ _ => rfl) (V := V m) (hmain := hmain m Variants.none) (hA := A_eq m)
    (hin := fun _ => .rfl) (hout := fun _ => .rfl)

/-- The frame, with the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
      (Pipeline.RDat.FramePost.arr_in h.1 c 1 rfl).trans ((A_eq m c 1).trans (V_main_arg0 m c)),
      (Pipeline.RDat.FramePost.arr_in h.1 c 2 rfl).trans ((A_eq m c 2).trans (V_main_arg1 m c)),
      (Pipeline.RDat.FramePost.arr_in h.1 c 3 rfl).trans ((A_eq m c 3).trans (V_main_arg2 m c)),
      (Pipeline.RDat.FramePost.arr_in h.1 c 5 rfl).trans ((A_eq m c 5).trans (V_main_arg3 m c))⟩, h.2⟩)
    (run_main_quiescent m ρ)

end Cert.Kernel.Hand

end
-- ==== Proof.Attn.Pre.lean ====
/-
  What the precondition says of the arrays: every query and key is a real number, and column 128 of every head of the values is 1.
-/
module

public import proofs.«01_k».proof.Defs
public import Idealize.ShloMosaic.Lib.ReduceAll
public import Idealize.ShloMosaic.Lib.ValueIdx
public import Idealize.ShloMosaic.Lib.Pipeline.Value
public import Idealize.ShloMosaic.Lib.Pointwise
public import Idealize.ShloMosaic.PureOps.Ideal.Laws

@[expose] public section

set_option maxRecDepth 16384

noncomputable section

namespace Cert.Pre_finite_scores.Hand

open Cert.Pre_finite_scores
open Idealize.ShloMosaic Idealize.ShloMosaic.TcCoe Idealize.ShloMosaic.Pointwise

/-- The precondition's side conditions hold. -/
instance facts : Cert.Pre_finite_scores.Facts where
  bitsLt_bf16_f32 := by decide
  shapeCasts_S32768x2048_S32768x8x256 := by decide
  slices_S32768x8x256_S32768x8x1_0_0_128 := by decide
  shapeCasts_S32768x8x1_S32768x8 := by decide
  bcast_S_S32768x2048 := by decide
  reducesTo_S32768x2048_S_d0_1 := by decide
  h_S_ := by decide
  bcast_S_S32768x8 := by decide
  reducesTo_S32768x8_S_d0_1 := by decide

theorem and_one {x y : BitVec 1} (h : IntOp.andi x y = 1#1) : x = 1#1 ∧ y = 1#1 := by
  revert h; revert x y; decide

theorem inf_f32 : Ideal.ofBits .f32 0x7F800000#32 = (⊤ : EReal) := by
  simp [Ideal.ofBits, Ideal.ieee]

theorem one_f32 : Ideal.ofBits .f32 0x3F800000#32 = (1 : EReal) := by
  simp [Ideal.ofBits, Ideal.ieee]; rw [← EReal.coe_mul]; norm_num

theorem lt_of_cmp {x y : EReal} (h : Ideal.cmp .olt x y = 1#1) : x < y := by
  unfold Ideal.cmp at h
  by_contra hn
  simp [hn] at h

theorem eq_of_cmp {x y : EReal} (h : Ideal.cmp .oeq x y = 1#1) : x = y := by
  unfold Ideal.cmp at h
  by_contra hn
  simp [hn] at h

theorem real_of_abs_lt (x : EReal) (h : max x (-x) < ⊤) : ∃ r : ℝ, x = (r : EReal) := by
  induction x with
  | bot => simp at h
  | top => simp at h
  | coe r => exact ⟨r, rfl⟩

theorem facts_of (Q K V : FVec Ideal S32768x2048 .bf16) (G : FVec Ideal S32768x3072 .bf16)
    (h : fn (F := Ideal) Q K V G = fun _ => 1#1) :
    (∀ i, ∃ r : ℝ, Q i = (r : EReal)) ∧ (∀ i, ∃ r : ℝ, K i = (r : EReal))
      ∧ ∀ (row : Fin 32768) (n : Fin 8), V (ix2 row ⟨256 * n.val + 128, by omega⟩) = 1 := by
  have h0 := congrFun h (fun a => a.elim0)
  dsimp only [fn, fn_part1] at h0
  obtain ⟨h1, h3⟩ := and_one h0
  obtain ⟨h1, h2⟩ := and_one h1
  refine ⟨fun i => ?_, fun i => ?_, fun row n => ?_⟩
  · exact real_of_abs_lt _ (lt_of_cmp (by have := Host.reduce_andi_all _ _ _ _ _ h1 i; rw [← inf_f32]; exact this))
  · exact real_of_abs_lt _ (lt_of_cmp (by have := Host.reduce_andi_all _ _ _ _ _ h2 i; rw [← inf_f32]; exact this))
  · have h4 := Host.reduce_andi_all _ _ _ _ _ h3 (ix2 row n)
    have h5 := eq_of_cmp (y := (1 : EReal)) (by rw [← one_f32]; exact h4)
    rw [← h5]
    rw [shapeCast_apply _ Facts.shapeCasts_S32768x8x1_S32768x8 (ix2 row n) (ix3 row n 0) (by
      rw [Shape.rowMajor_val_two, Shape.rowMajor_val_three]; show (row.val * 8 + n.val) * 1 + 0 = row.val * 8 + n.val; omega)]
    rw [extractStridedSlice_apply ![0, 0, 128] _ Facts.slices_S32768x8x256_S32768x8x1_0_0_128 (ix3 row n 0) (ix3 row n ⟨128, by omega⟩)
      (fun a => match a with
        | ⟨0, _⟩ => by show row.val = 0 + row.val; omega
        | ⟨1, _⟩ => by show n.val = 0 + n.val; omega
        | ⟨2, _⟩ => rfl)]
    rw [shapeCast_apply _ Facts.shapeCasts_S32768x2048_S32768x8x256 (ix3 row n ⟨128, by omega⟩) (ix2 row ⟨256 * n.val + 128, by omega⟩) (by
      rw [Shape.rowMajor_val_two, Shape.rowMajor_val_three]
      show row.val * 2048 + (256 * n.val + 128) = (row.val * 8 + n.val) * 256 + 128; omega)]
    rfl

end Cert.Pre_finite_scores.Hand

end
-- ==== Proof.Proj.Merge.lean ====
/- The gated sum of the three branch projections: the kernel's array is the reference's. -/
module

public import proofs.«01_k».proof.Proof.Gen.MergeIdeal.Value
public import proofs.«01_k».proof.Proof.Gen.MergeRefIdeal.Read
public import Idealize.ShloMosaic.Lib.Pipeline.ValueKit

@[expose] public section

set_option maxRecDepth 16384

noncomputable section

namespace Cert.MergeIdeal.Hand

open Cert.MergeIdeal Cert.MergeIdeal.Gen Cert.MergeRefIdeal.Read Idealize.ShloMosaic Idealize.ShloMosaic.TcCoe Idealize.SL.Sem

variable (m : (ℓ : Loc nD τ sig) → Buf (Elt Ideal) ℓ)

theorem index_rows : ∀ t : Fin cfg0.N, (cfg0.win 0).index t = ![t.val, 0] ∧ (cfg0.win 1).index t = ![t.val, 0]
    ∧ (cfg0.win 2).index t = ![t.val, 0] ∧ (cfg0.win 7).index t = ![t.val, 0] := by decide +kernel
theorem index_gates : ∀ t : Fin cfg0.N, (cfg0.win 3).index t = ![t.val, 0] ∧ (cfg0.win 4).index t = ![t.val, 1]
    ∧ (cfg0.win 5).index t = ![t.val, 2] := by decide +kernel
theorem index_w : ∀ t : Fin cfg0.N, (cfg0.win 6).index t = ![0, 0, 0, 0] := by decide +kernel

theorem out_eq (c : Dev nD) :
    (dats m 0 c).arrAt 7 cfg0.N = val_main_v28 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  refine (dats m 0 c).arrAt_eq_of_covers 7 _ (by decide +kernel) fun t hf y => ?_
  obtain ⟨i0, i1, i2, i7⟩ := index_rows t
  obtain ⟨i3, i4, i5⟩ := index_gates t
  blk_simp
  rw [after0_7]
  frame_out
  simp only [val_main_v0, val_main_v1, val_main_v2, val_main_v3, val_main_v4, val_main_v5, val_main_v6, val_main_v7, val_main_v8, val_main_v9, val_main_v10,
    val_main_v11, val_main_v12, val_main_v13, val_main_v14, val_main_v15, val_main_v16, val_main_v17, val_main_v18, val_main_v19,
    val_main_v20, val_main_v21, val_main_v22, val_main_v23, val_main_v24, val_main_v25, val_main_v26, val_main_v27, val_main_v28]
  unfold k0_pay1
  pointwise
  blk_point [iblk, V, i0, i1, i2, i3, i4, i5, i7, index_w t]

end Cert.MergeIdeal.Hand

end
-- ==== Proof.Proj.Out.lean ====
/- The output projection: the kernel's array is the reference's. -/
module

public import proofs.«01_k».proof.Proof.Gen.OutIdeal.Value
public import proofs.«01_k».proof.Proof.Gen.OutRefIdeal.Read
public import Idealize.ShloMosaic.Lib.Pipeline.ValueKit

@[expose] public section

set_option maxRecDepth 16384

noncomputable section

namespace Cert.OutIdeal.Hand

open Cert.OutIdeal Cert.OutIdeal.Gen Idealize.ShloMosaic Idealize.ShloMosaic.TcCoe Idealize.SL.Sem

variable (m : (ℓ : Loc nD τ sig) → Buf (Elt Ideal) ℓ)

theorem index_0 : ∀ t : Fin cfg0.N, (cfg0.win 0).index t = ![t.val, 0] := by decide +kernel
theorem index_1 : ∀ t : Fin cfg0.N, (cfg0.win 1).index t = ![0, 0, 0] := by decide +kernel
theorem index_2 : ∀ t : Fin cfg0.N, (cfg0.win 2).index t = ![t.val, 0] := by decide +kernel
theorem index_3 : ∀ t : Fin cfg0.N, (cfg0.win 3).index t = ![t.val, 0] := by decide +kernel

theorem out_eq (c : Dev nD) :
    (dats m 0 c).arrAt 3 cfg0.N = Cert.OutRefIdeal.Read.val_main_v5 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  blk_simp
  rw [after0_3]
  frame_out
  unfold k0_pay1 Cert.OutRefIdeal.Read.val_main_v5 Cert.OutRefIdeal.Read.val_main_v4 Cert.OutRefIdeal.Read.val_main_v3 Cert.OutRefIdeal.Read.val_main_v2 Cert.OutRefIdeal.Read.val_main_v1 Cert.OutRefIdeal.Read.val_main_v0
  pointwise
  blk_point [iblk, V, index_0 t, index_1 t, index_2 t, index_3 t]

end Cert.OutIdeal.Hand

end
-- ==== Proof.Proj.Norm.lean ====
/- The normalised rows and their latent projection: the kernel's arrays are the reference's. -/
module

public import proofs.«01_k».proof.Proof.Gen.NormIdeal.Value
public import proofs.«01_k».proof.Proof.Gen.NormRefIdeal.Read
public import Idealize.ShloMosaic.Lib.Pipeline.ValueKit

@[expose] public section

set_option maxRecDepth 16384

noncomputable section

namespace Cert.NormIdeal.Hand

open Cert.NormIdeal Cert.NormIdeal.Gen Cert.NormRefIdeal.Read Idealize.ShloMosaic Idealize.ShloMosaic.TcCoe Idealize.SL.Sem

variable (m : (ℓ : Loc nD τ sig) → Buf (Elt Ideal) ℓ)

theorem index_rows : ∀ t : Fin cfg0.N, (cfg0.win 0).index t = ![t.val, 0] ∧ (cfg0.win 3).index t = ![t.val, 0]
    ∧ (cfg0.win 4).index t = ![t.val, 0] := by decide +kernel
theorem index_w : ∀ t : Fin cfg0.N, (cfg0.win 1).index t = ![0, 0] ∧ (cfg0.win 2).index t = ![0, 11] := by decide +kernel

theorem rows_eq (c : Dev nD) :
    (dats m 0 c).arrAt 3 cfg0.N = val_main_v13 (F := Ideal) (m ((c : Thread nD τ).loc main_arg0))
      (m ((c : Thread nD τ).loc main_arg1)) := by
  refine (dats m 0 c).arrAt_eq_of_covers 3 _ (by decide +kernel) fun t hf y => ?_
  obtain ⟨i0, i3, i4⟩ := index_rows t
  obtain ⟨i1, i2⟩ := index_w t
  blk_simp
  rw [after0_3]
  frame_out
  simp only [val_main_v0, val_main_v1, val_main_v2, val_main_v3, val_main_v4, val_main_v5, val_main_v6, val_main_v7, val_main_v8, val_main_v9, val_main_v10,
    val_main_v11, val_main_v12, val_main_v13, val_main_cst, val_main_cst_0, val_main_cst_1]
  unfold k0_pay1
  pointwise
  blk_point [iblk, V, i0, i1, i2, i3]

theorem proj_eq (c : Dev nD) :
    (dats m 0 c).arrAt 4 cfg0.N = val_main_v16 (F := Ideal) (m ((c : Thread nD τ).loc main_arg0))
      (m ((c : Thread nD τ).loc main_arg1)) (m ((c : Thread nD τ).loc main_arg2)) := by
  refine (dats m 0 c).arrAt_eq_of_covers 4 _ (by decide +kernel) fun t hf y => ?_
  obtain ⟨i0, i3, i4⟩ := index_rows t
  obtain ⟨i1, i2⟩ := index_w t
  blk_simp
  rw [after0_4]
  frame_out
  simp only [val_main_v0, val_main_v1, val_main_v2, val_main_v3, val_main_v4, val_main_v5, val_main_v6, val_main_v7, val_main_v8, val_main_v9, val_main_v10,
    val_main_v11, val_main_v12, val_main_v13, val_main_v14, val_main_v15, val_main_v16, val_main_cst, val_main_cst_0, val_main_cst_1]
  unfold k0_pay2 k0_pay1
  pointwise
  blk_point [iblk, V, i0, i1, i2, i4]

end Cert.NormIdeal.Hand

end
-- ==== Proof.Proj.Sigmoid.lean ====
/- The two ways to write the sigmoid function agree on all extended reals. -/
module

public import Idealize.ShloMosaic.PureOps.Ideal

@[expose] public section

noncomputable section

namespace Cert.Hand

open Idealize.ShloMosaic

theorem half_word : Ideal.ofBits .f32 1056964608#32 = ((1 / 2 : ℝ) : EReal) := by
  simp [Ideal.ofBits, Ideal.ieee]
  rw [← EReal.coe_mul]; norm_num

theorem real_sigmoid (r : ℝ) : 1 / 2 * Real.tanh (1 / 2 * r) + 1 / 2 = (1 + Real.exp (-r))⁻¹ := by
  have h : Real.exp (-r) = Real.exp (-(1 / 2 * r)) * Real.exp (-(1 / 2 * r)) := by rw [← Real.exp_add]; congr 1; ring
  have e : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, h]
  generalize Real.exp (1 / 2 * r) = a at *
  generalize Real.exp (-(1 / 2 * r)) = b at *
  field_simp
  linear_combination 2 * b * e

/-- `1/2 · tanh (x/2) + 1/2 = 1 / (1 + exp (-x))`. -/
theorem sigmoid_eq (x : EReal) :
    Ideal.ofBits .f32 1056964608#32 * Ideal.tanh (Ideal.ofBits .f32 1056964608#32 * x) + Ideal.ofBits .f32 1056964608#32 = Ideal.logistic x := by
  rw [half_word]
  induction x with
  | bot => rw [EReal.coe_mul_bot_of_pos (by norm_num), Ideal.tanh_bot, Ideal.logistic_bot,
      show (-1 : EReal) = ((-1 : ℝ) : EReal) by simp, ← EReal.coe_mul, ← EReal.coe_add]; norm_num
  | top => rw [EReal.coe_mul_top_of_pos (by norm_num), Ideal.tanh_top, Ideal.logistic_top,
      show (1 : EReal) = ((1 : ℝ) : EReal) by simp, ← EReal.coe_mul, ← EReal.coe_add]; norm_num
  | coe r => rw [Ideal.logistic_coe, ← EReal.coe_mul, Ideal.tanh_coe, ← EReal.coe_mul, ← EReal.coe_add, real_sigmoid]

/-- The reference's text of it. -/
theorem logistic_eq (x : EReal) :
    Ideal.div 1 (1 + Ideal.exp (-x)) = Ideal.logistic x := rfl

end Cert.Hand

end
-- ==== Proof.Proj.Silu.lean ====
/- The gate of the attention and mixing branches: the kernel's array is the reference's. -/
module

public import proofs.«01_k».proof.Proof.Gen.SiluIdeal.Value
public import proofs.«01_k».proof.Proof.Gen.SiluRefIdeal.Read
public import proofs.«01_k».proof.Proof.Proj.Sigmoid
public import Idealize.ShloMosaic.Lib.Pipeline.ValueKit

@[expose] public section

set_option maxRecDepth 16384

noncomputable section

namespace Cert.SiluIdeal.Hand

open Cert.SiluIdeal Cert.SiluIdeal.Gen Cert.SiluRefIdeal.Read Idealize.ShloMosaic Idealize.ShloMosaic.TcCoe Idealize.SL.Sem

variable (m : (ℓ : Loc nD τ sig) → Buf (Elt Ideal) ℓ)

theorem index_eq : ∀ t : Fin cfg0.N, (cfg0.win 0).index t = ![t.val / 2, 0] ∧ (cfg0.win 1).index t = ![0, 7 + t.val % 2]
    ∧ (cfg0.win 2).index t = ![t.val / 2, t.val % 2] := by decide +kernel

theorem out_eq (c : Dev nD) :
    (dats m 0 c).arrAt 2 cfg0.N = val_main_v5 (F := Ideal) (m ((c : Thread nD τ).loc main_arg0))
      (m ((c : Thread nD τ).loc main_arg1)) := by
  refine (dats m 0 c).arrAt_eq_of_covers 2 _ (by decide +kernel) fun t hf y => ?_
  obtain ⟨i0, i1, i2⟩ := index_eq t
  blk_simp
  rw [after0_2]
  frame_out
  simp only [val_main_v0, val_main_v1, val_main_v2, val_main_v3, val_main_v4, val_main_v5, val_main_call0_v0, val_main_call0_v1, val_main_call0_v2,
    val_main_call0_v3, val_main_call0_v4, val_main_call0_v5, val_main_call0_cst, val_main_call0_cst_0]
  unfold k0_pay1
  pointwise
  rw [Cert.Hand.sigmoid_eq]
  rw [Cert.Hand.logistic_eq]
  blk_point [iblk, V, i0, i1, i2]

end Cert.SiluIdeal.Hand

end
-- ==== Proof.Proj.Sgu.lean ====
/- The linear-attention operands and the spatial gating unit: the kernel's arrays are the reference's. -/
module

public import proofs.«01_k».proof.Proof.Gen.SguIdeal.Value
public import proofs.«01_k».proof.Proof.Gen.SguRefIdeal.Read
public import Idealize.ShloMosaic.Lib.Pipeline.ValueKit

@[expose] public section

set_option maxRecDepth 16384

noncomputable section

namespace Cert.SguIdeal.Hand

open Cert.SguIdeal Cert.SguIdeal.Gen Cert.SguRefIdeal.Read Idealize.ShloMosaic Idealize.ShloMosaic.TcCoe Idealize.SL.Sem

variable (m : (ℓ : Loc nD τ sig) → Buf (Elt Ideal) ℓ)

theorem index_rows : ∀ t : Fin cfg0.N, (cfg0.win 0).index t = ![t.val, 0] ∧ (cfg0.win 3).index t = ![t.val, 1]
    ∧ (cfg0.win 7).index t = ![t.val, 0] ∧ (cfg0.win 8).index t = ![t.val, 0] := by decide +kernel
theorem index_w : ∀ t : Fin cfg0.N, (cfg0.win 1).index t = ![0, 3] ∧ (cfg0.win 2).index t = ![0, 4]
    ∧ (cfg0.win 4).index t = ![0, 0] ∧ (cfg0.win 5).index t = ![0, 0, 0] ∧ (cfg0.win 6).index t = ![0, 0, 0] := by decide +kernel

theorem X0_1_apply (c : Dev nD) (t : Fin cfg0.N) (k l : Fin 2048) :
    X0_1 m c t (ix2 k l) = m ((c : Thread nD τ).loc main_arg1) (ix2 k (⟨6144 + l.val, by omega⟩ : Fin 15360)) := by
  obtain ⟨i1, i2, i4, i5, i6⟩ := index_w t
  unfold X0_1 Pipeline.Window.fill
  rw [dif_pos (moved0_1 t _)]
  blk_ext [iblk, V, i1]
theorem X0_2_apply (c : Dev nD) (t : Fin cfg0.N) (k l : Fin 2048) :
    X0_2 m c t (ix2 k l) = m ((c : Thread nD τ).loc main_arg1) (ix2 k (⟨8192 + l.val, by omega⟩ : Fin 15360)) := by
  obtain ⟨i1, i2, i4, i5, i6⟩ := index_w t
  unfold X0_2 Pipeline.Window.fill
  rw [dif_pos (moved0_2 t _)]
  blk_ext [iblk, V, i2]

/-- One element of the gated mix of a block: row `r` of its chunk mixes the rows of the chunk that are not after it. -/
def mixAt (GU VN G : S512x1024.Idx → EReal) (WS BS : S8x128x128.Idx → EReal) (y0 : Fin 512) (y1 : Fin 1024) : EReal :=
  GU (ix2 y0 y1) * (∑ s : Fin 128, Scalar.select (IntOp.cmpi CmpIPredicate.sge (BitVec.ofNat 32 (y0.val % 128)) (BitVec.ofNat 32 s.val))
      (WS (ix3 ⟨y1.val / 128, by omega⟩ ⟨y0.val % 128, by omega⟩ s) * VN (ix2 ⟨y0.val / 128 * 128 + s.val, by omega⟩ y1)) 0
    + BS (ix3 ⟨y1.val / 128, by omega⟩ ⟨y0.val % 128, by omega⟩ ⟨y1.val % 128, by omega⟩)) * G (ix2 y0 y1)

theorem chunk_lt (r : Fin 512) (s : Fin 128) : r.val / 128 * 128 + s.val < 512 := by omega

theorem mix_piece (GU VN G : S512x1024.Idx → EReal) (WS BS : S8x128x128.Idx → EReal) (y0 : Fin 512) (y1 : Fin 1024)
    (x0 x1 : Fin 128) (g : Fin 8) (r : Fin 512) (l : Fin 1024) (rows : Fin 128 → Fin 512)
    (h0 : x0.val = y0.val % 128) (h1 : x1.val = y1.val % 128) (hg : g.val = y1.val / 128) (hr : r.val = y0.val) (hl : l.val = y1.val)
    (hrows : ∀ s, (rows s).val = y0.val / 128 * 128 + s.val) :
    GU (ix2 r l) * (∑ s, Scalar.select (IntOp.cmpi CmpIPredicate.sge (BitVec.ofNat 32 x0.val) (BitVec.ofNat 32 s.val))
      (WS (ix3 g x0 s) * VN (ix2 (rows s) l)) 0 + BS (ix3 g x0 x1)) * G (ix2 r l) = mixAt GU VN G WS BS y0 y1 := by
  obtain rfl : r = y0 := Fin.ext hr
  obtain rfl : l = y1 := Fin.ext hl
  obtain rfl : x0 = ⟨r.val % 128, Nat.mod_lt _ (by decide)⟩ := Fin.ext h0
  obtain rfl : x1 = ⟨l.val % 128, Nat.mod_lt _ (by decide)⟩ := Fin.ext h1
  obtain rfl : g = ⟨l.val / 128, Nat.div_lt_of_lt_mul l.isLt⟩ := Fin.ext hg
  obtain rfl : rows = fun s => ⟨r.val / 128 * 128 + s.val, chunk_lt r s⟩ := funext fun s => Fin.ext (hrows s)
  rfl

theorem row_lt (t : Fin cfg0.N) (r : Fin 512) : t.val * 512 + r.val < 32768 := by
  have h : t.val < 64 := t.isLt
  omega
/-- Row `r` of the block of 512 rows at point `t`. -/
def row (t : Fin cfg0.N) (r : Fin 512) : Fin 32768 := ⟨t.val * 512 + r.val, row_lt t r⟩

/-- The first half of the activated projection of a block. -/
theorem gelu_eq (c : Dev nD) (t : Fin cfg0.N) (r : Fin 512) (l : Fin 1024) :
    k0_pay5 (iblk m c 0 t) (X0_1 m c t) (ix2 r l) = val_main_v19 (F := Ideal) (m ((c : Thread nD τ).loc main_arg0))
      (m ((c : Thread nD τ).loc main_arg1)) (ix2 (row t r) l) := by
  obtain ⟨i0, i3, i7, i8⟩ := index_rows t
  obtain ⟨i1, i2, i4, i5, i6⟩ := index_w t
  simp only [k0_pay5, k0_pay4, val_main_v0, val_main_v4, val_main_v5, val_main_v6, val_main_v7, val_main_v8, val_main_v9, val_main_v10, val_main_v11, val_main_v12, val_main_v13, val_main_v14, val_main_v15, val_main_v16, val_main_v17, val_main_v18, val_main_v19, val_main_cst, val_main_cst_0, val_main_cst_1, val_main_cst_2]
  pointwise
  simp only [X0_1_apply]
  blk_point [iblk, V, i0, i1, row]

/-- The second half, normalised along its rows. -/
theorem norm_eq (c : Dev nD) (t : Fin cfg0.N) (r : Fin 512) (l : Fin 1024) :
    k0_pay6 (iblk m c 0 t) (X0_1 m c t) (iblk m c 4 t) (ix2 r l) = val_main_v48 (F := Ideal) (m ((c : Thread nD τ).loc main_arg0))
      (m ((c : Thread nD τ).loc main_arg1)) (m ((c : Thread nD τ).loc main_arg3)) (ix2 (row t r) l) := by
  obtain ⟨i0, i3, i7, i8⟩ := index_rows t
  obtain ⟨i1, i2, i4, i5, i6⟩ := index_w t
  simp only [k0_pay6, k0_pay4, val_main_v0, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_cst, val_main_cst_0, val_main_cst_1, val_main_cst_2, val_main_cst_3, val_main_cst_4, val_main_cst_5, val_main_cst_6, val_main_cst_7, val_main_cst_8, val_main_cst_9]
  pointwise
  simp only [X0_1_apply]
  blk_point [iblk, V, i0, i1, i4, row]

/-- The place of element `(r, l)` of the block at point `t`. -/
theorem place_7 (t : Fin cfg0.N) (y : ((cfg0.win 7).xblock (cfg0.grid.coords t)).Idx) :
    ((cfg0.win 7).blk t).view.emb y = ix2 (row t (y 0)) (y 1 : Fin 2048) := by
  obtain ⟨i0, i3, i7, i8⟩ := index_rows t
  blk_ext [i7, row]
theorem place_8 (t : Fin cfg0.N) (y : ((cfg0.win 8).xblock (cfg0.grid.coords t)).Idx) :
    ((cfg0.win 8).blk t).view.emb y = ix2 (row t (y 0)) (y 1 : Fin 1024) := by
  obtain ⟨i0, i3, i7, i8⟩ := index_rows t
  blk_ext [i8, row]

theorem block_7 (c : Dev nD) (t : Fin cfg0.N) (r : Fin 512) (l : Fin 2048) :
    k0_pay3 (iblk m c 0 t) (X0_2 m c t) (ix2 r l) = val_main_v58 (F := Ideal) (m ((c : Thread nD τ).loc main_arg0))
      (m ((c : Thread nD τ).loc main_arg1)) (ix2 (row t r) l) := by
  obtain ⟨i0, i3, i7, i8⟩ := index_rows t
  obtain ⟨i1, i2, i4, i5, i6⟩ := index_w t
  simp only [k0_pay3, val_main_v0, val_main_v1, val_main_v2, val_main_v3, val_main_v58]
  pointwise
  simp only [X0_2_apply]
  blk_point [iblk, V, i0, i2, row]

theorem proj_eq (c : Dev nD) :
    (dats m 0 c).arrAt 7 cfg0.N = val_main_v58 (F := Ideal) (m ((c : Thread nD τ).loc main_arg0))
      (m ((c : Thread nD τ).loc main_arg1)) := by
  refine (dats m 0 c).arrAt_eq_of_covers 7 _ (by decide +kernel) fun t hf y => ?_
  rw [place_7]
  refine Eq.trans ?_ (block_7 m c t (y 0) (y 1))
  blk_simp
  rw [after0_7]
  unfold outsAt0
  frame_out
  exact congrArg (k0_pay3 (iblk m c 0 t) (X0_2 m c t)) (funext fun a => match a with | ⟨0, _⟩ => rfl | ⟨1, _⟩ => rfl)

/-- The bias block repeats the bias along the lanes. -/
theorem bias_eq (c : Dev nD) (t : Fin cfg0.N) (g : Fin 8) (r d : Fin 128) :
    iblk m c 6 t (ix3 g r d) = m ((c : Thread nD τ).loc main_arg5) (ix2 g r) := by
  obtain ⟨i1, i2, i4, i5, i6⟩ := index_w t
  blk_point [iblk, V, i6]

/-- The gated mix of a block is the reference's at the block's place. -/
theorem block_8 (c : Dev nD) (t : Fin cfg0.N) (r : Fin 512) (l : Fin 1024) :
    mixAt (k0_pay5 (iblk m c 0 t) (X0_1 m c t)) (k0_pay6 (iblk m c 0 t) (X0_1 m c t) (iblk m c 4 t))
      (iblk m c 3 t) (iblk m c 5 t) (iblk m c 6 t) r l
    = val_main_v64 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (ix2 (row t r) l) := by
  obtain ⟨i0, i3, i7, i8⟩ := index_rows t
  obtain ⟨i1, i2, i4, i5, i6⟩ := index_w t
  unfold mixAt
  simp only [val_main_v49, val_main_v50, val_main_v51, val_main_v52, val_main_v53, val_main_v54, val_main_v55, val_main_v56, val_main_v57, val_main_v58, val_main_v59, val_main_v60, val_main_v61, val_main_v62, val_main_v63, val_main_v64, val_main_call0_c, val_main_call0_cst, val_main_call0_v0, val_main_call0_v1, val_main_call0_v2, val_main_call0_v3, val_main_call0_v4, val_main_call0_v5, val_main_call0_v6]
  rw [gelu_eq]
  simp only [norm_eq]
  pointwise
  have hm : (row t r).val % 128 = r.val % 128 := by unfold row; dsimp only; omega
  simp only [hm, IntOp.addi, BitVec.add_zero]
  refine congrArg₂ (· * ·) (congrArg₂ (· * ·) rfl (congrArg₂ (· + ·) (Finset.sum_congr rfl fun x _ => ?_) ?_)) ?_
  · have hrow : row t ⟨r.val / 128 * 128 + x.val, by omega⟩ = ⟨(row t r).val / 128 * 128 + x.val, by have := (row t r).isLt; omega⟩ := by
      apply Fin.ext; unfold row; dsimp only; omega
    rw [hrow, mul_comm]
    congr 2
    blk_ext [iblk, V, i5]
  · exact bias_eq m c t _ _ _
  · blk_ext [iblk, V, i3, row]

theorem mix_eq (c : Dev nD) :
    (dats m 0 c).arrAt 8 cfg0.N = val_main_v64 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) := by
  refine (dats m 0 c).arrAt_eq_of_covers 8 _ (by decide +kernel) fun t hf y => ?_
  obtain ⟨i0, i3, i7, i8⟩ := index_rows t
  obtain ⟨i1, i2, i4, i5, i6⟩ := index_w t
  blk_simp
  rw [after0_8]
  unfold outsAt0
  frame_out
  refine Eq.trans (b := mixAt (k0_pay5 (iblk m c 0 t) (X0_1 m c t)) (k0_pay6 (iblk m c 0 t) (X0_1 m c t) (iblk m c 4 t))
    (iblk m c 3 t) (iblk m c 5 t) (iblk m c 6 t) (y 0) (y 1)) ?_ ?_
  · generalize k0_pay5 (iblk m c 0 t) (X0_1 m c t) = GU
    generalize k0_pay6 (iblk m c 0 t) (X0_1 m c t) (iblk m c 4 t) = VN
    generalize iblk m c 3 t = G
    generalize iblk m c 5 t = WS
    generalize iblk m c 6 t = BS
    canon_tiles x h
    all_goals
      open_payloads
      pointwise
      refine mix_piece GU VN G WS BS _ _ (x 0) (x 1) _ _ _ _ ?_ ?_ ?_ ?_ ?_ fun s => ?_ <;> (try dsimp only) <;> omega
  · refine (block_8 m c t (y 0) (y 1)).trans ?_
    generalize val_main_v64 (F := Ideal) _ _ _ _ _ _ = X
    exact congrArg X (place_8 t y).symm

end Cert.SguIdeal.Hand

end
-- ==== Proof.Proj.Gate.lean ====
/- The merge gates: the kernel's array of gates is the reference's. -/
module

public import proofs.«01_k».proof.Proof.Gen.GateGlaIdeal.Value
public import proofs.«01_k».proof.Proof.Gen.GateRefIdeal.Read
public import proofs.«01_k».proof.Proof.Proj.Sigmoid
public import proofs.«01_k».proof.On_merge_gates
public import Idealize.ShloMosaic.Lib.Pipeline.ValueKit

@[expose] public section

set_option maxRecDepth 16384

noncomputable section

/-- The mask's side conditions hold. -/
instance Cert.On_merge_gates.Hand.facts : Cert.On_merge_gates.Facts where
  bcast_S_S32768x6144 := by decide
  bcast_S_S32768x1024 := by decide

namespace Cert.GateGlaIdeal.Hand

open Cert.GateGlaIdeal Cert.GateGlaIdeal.Gen Cert.GateRefIdeal.Read Idealize.ShloMosaic Idealize.ShloMosaic.TcCoe Idealize.SL.Sem

variable (m : (ℓ : Loc nD τ sig) → Buf (Elt Ideal) ℓ)

theorem index_eq : ∀ t : Fin cfg0.N, (cfg0.win 0).index t = ![t.val, 0] ∧ (cfg0.win 1).index t = ![0, 0]
    ∧ (cfg0.win 10).index t = ![t.val, 0] := by decide +kernel

theorem X0_1_apply (c : Dev nD) (t : Fin cfg0.N) (k : Fin 2048) (l : Fin 6144) :
    X0_1 m c t (ix2 k l) = m ((c : Thread nD τ).loc main_arg1) (ix2 k (⟨l.val, by omega⟩ : Fin 15360)) := by
  obtain ⟨i0, i1, i10⟩ := index_eq t
  unfold X0_1 Pipeline.Window.fill
  rw [dif_pos (moved0_1 t _)]
  blk_ext [iblk, V, i1]

theorem row_lt (t : Fin cfg0.N) (r : Fin 256) : t.val * 256 + r.val < 32768 := by
  have h : t.val < 128 := t.isLt
  omega
/-- Row `r` of the block of 256 rows at point `t`. -/
def row (t : Fin cfg0.N) (r : Fin 256) : Fin 32768 := ⟨t.val * 256 + r.val, row_lt t r⟩

/-- One gate of a block: the sigmoid of a row of `H` times a column of `W`. -/
def gateAt (H : S256x2048.Idx → EReal) (W : S2048x6144.Idx → EReal) (r : Fin 256) (l : Fin 6144) : EReal :=
  Ideal.logistic (∑ k : Fin 2048, H (ix2 r k) * W (ix2 k l))

theorem place_10 (t : Fin cfg0.N) (y : ((cfg0.win 10).xblock (cfg0.grid.coords t)).Idx) :
    ((cfg0.win 10).blk t).view.emb y = ix2 (row t (y 0)) (y 1 : Fin 6144) := by
  obtain ⟨i0, i1, i10⟩ := index_eq t
  blk_ext [i10, row]

theorem block_10 (c : Dev nD) (t : Fin cfg0.N) (r : Fin 256) (l : Fin 6144) :
    gateAt (iblk m c 0 t) (X0_1 m c t) r l = val_main_v10 (F := Ideal) (m ((c : Thread nD τ).loc main_arg0))
      (m ((c : Thread nD τ).loc main_arg1)) (ix2 (row t r) l) := by
  obtain ⟨i0, i1, i10⟩ := index_eq t
  unfold gateAt
  simp only [val_main_v0, val_main_v1, val_main_v2, val_main_v3, val_main_v4, val_main_v5, val_main_v6, val_main_v7, val_main_v8, val_main_v9, val_main_v10, val_main_cst, val_main_cst_0]
  pointwise
  rw [Cert.Hand.logistic_eq]
  simp only [X0_1_apply]
  blk_point [iblk, V, i0, row]

/-- A gate computed in one half of the columns. -/
theorem gate_piece (H : S256x2048.Idx → EReal) (W : S2048x6144.Idx → EReal) (r r' : Fin 256) (l l' : Fin 6144)
    (hr : r'.val = r.val) (hl : l'.val = l.val) :
    Ideal.ofBits .f32 1056964608#32 * Ideal.tanh (Ideal.ofBits .f32 1056964608#32 * ∑ k : Fin 2048, H (ix2 r' k) * W (ix2 k l'))
      + Ideal.ofBits .f32 1056964608#32 = gateAt H W r l := by
  obtain rfl : r' = r := Fin.ext hr
  obtain rfl : l' = l := Fin.ext hl
  exact Cert.Hand.sigmoid_eq _

theorem gate_eq (c : Dev nD) :
    (dats m 0 c).arrAt 10 cfg0.N = val_main_v10 (F := Ideal) (m ((c : Thread nD τ).loc main_arg0))
      (m ((c : Thread nD τ).loc main_arg1)) := by
  refine (dats m 0 c).arrAt_eq_of_covers 10 _ (by decide +kernel) fun t hf y => ?_
  rw [place_10]
  refine Eq.trans ?_ (block_10 m c t (y 0) (y 1))
  blk_simp
  rw [after0_10]
  by_cases h0 : t.val % 16 = 0
  on_goal 1 => rw [outsAt0_A m c t h0]
  on_goal 2 => rw [outsAt0_B m c t h0]
  all_goals
    dsimp only
    generalize X0_1 m c t = W
    generalize iblk m c 0 t = H
    frame_out
    canon_tiles x h
    all_goals
      open_payloads
      pointwise
      refine gate_piece H W _ (x 0) _ _ ?_ ?_ <;> (try dsimp only) <;> omega

end Cert.GateGlaIdeal.Hand

end
-- ==== Proof.Proj.PrepHost.lean ====
/- The arrays of queries, keys and values before the attention: what the arrays that the call prepares hold. -/
module

public import proofs.«01_k».proof.Proof.Gen.PrepIdeal.Value
public import Idealize.ShloMosaic.Lib.Pipeline.ValueKit
public import Idealize.ShloMosaic.Lib.StableHlo.ReadAt

@[expose] public section

set_option maxRecDepth 16384

noncomputable section

namespace Cert.PrepIdeal.Hand

open Cert.PrepIdeal Cert.PrepIdeal.Gen Idealize.ShloMosaic Idealize.ShloMosaic.TcCoe Idealize.SL.Sem

variable (m : (ℓ : Loc nD τ sig) → Buf (Elt Ideal) ℓ)

theorem zero_word : (FloatOps.sitofp FTy.f32 0#32 : Ideal .f32) = (0 : EReal) := by
  simp [FloatOps.sitofp]

/-- What the arrays that @main prepares hold. -/
theorem V_v22 (c : Dev nD) (k : Fin 512) : V m c main_v22 (ix2 (0 : Fin 1) k) = m ((c : Thread nD τ).loc main_arg3) (ix1 k) := by
  unfold V
  after_reads_at
theorem V_v23 (c : Dev nD) (k : Fin 512) : V m c main_v23 (ix2 (0 : Fin 1) k) = m ((c : Thread nD τ).loc main_arg4) (ix1 k) := by
  unfold V
  after_reads_at
theorem V_v24 (c : Dev nD) (k : Fin 512) (l : Fin 2048) : V m c main_v24 (ix2 k l) = (if h : l.val / 256 < 8 ∧ l.val % 256 < 192
    then m ((c : Thread nD τ).loc main_arg5) (ix2 k (⟨l.val / 256 * 192 + l.val % 256, by omega⟩ : Fin 1536)) else (0 : EReal)) := by
  unfold V
  after_reads_at
  exact dite_congr rfl (fun _ => rfl) fun _ => zero_word
theorem V_v25 (c : Dev nD) (k : Fin 512) (l : Fin 1024) : V m c main_v25 (ix2 k l)
    = m ((c : Thread nD τ).loc main_arg6) (ix2 k (⟨l.val / 128 * 256 + l.val % 128, by omega⟩ : Fin 2048)) := by
  unfold V
  after_reads_at
theorem V_v26 (c : Dev nD) (k : Fin 512) (l : Fin 1024) : V m c main_v26 (ix2 k l)
    = m ((c : Thread nD τ).loc main_arg6) (ix2 k (⟨l.val / 128 * 256 + (128 + l.val % 128), by omega⟩ : Fin 2048)) := by
  unfold V
  after_reads_at
theorem V_v11 (c : Dev nD) (l : Fin 128) : V m c main_v11 (ix2 (0 : Fin 1) l)
    = HMul.hMul (α := EReal) (β := EReal) (γ := EReal) (m ((c : Thread nD τ).loc main_arg7) (ix1 (⟨l.val, by omega⟩ : Fin 192))) (Ideal.ofBits FTy.f32 1037384597#32) := by
  unfold V
  after_reads_at
theorem V_v16 (c : Dev nD) (l : Fin 128) : V m c main_v16 (ix2 (0 : Fin 1) l) = (if h : l.val < 64
    then HMul.hMul (α := EReal) (β := EReal) (γ := EReal) (m ((c : Thread nD τ).loc main_arg7) (ix1 (⟨128 + l.val, by omega⟩ : Fin 192))) (Ideal.ofBits FTy.f32 1037384597#32) else (0 : EReal)) := by
  unfold V
  after_reads_at
  exact dite_congr rfl (fun _ => rfl) fun _ => zero_word
theorem V_v18 (c : Dev nD) (l : Fin 128) : V m c main_v18 (ix2 (0 : Fin 1) l)
    = m ((c : Thread nD τ).loc main_arg8) (ix1 (⟨l.val, by omega⟩ : Fin 192)) := by
  unfold V
  after_reads_at
theorem V_v21 (c : Dev nD) (l : Fin 128) : V m c main_v21 (ix2 (0 : Fin 1) l) = (if h : l.val < 64
    then m ((c : Thread nD τ).loc main_arg8) (ix1 (⟨128 + l.val, by omega⟩ : Fin 192)) else (0 : EReal)) := by
  unfold V
  after_reads_at
  exact dite_congr rfl (fun _ => rfl) fun _ => zero_word

end Cert.PrepIdeal.Hand

end
-- ==== Proof.Proj.Prep.lean ====
/- The arrays of queries, keys and values before the attention: what the blocks of the call hold. -/
module

public import proofs.«01_k».proof.Proof.Gen.PrepIdeal.Value
public import proofs.«01_k».proof.Proof.Gen.PrepRefIdeal.Read
public import Idealize.ShloMosaic.Lib.Pipeline.ValueKit
public import proofs.«01_k».proof.Proof.Proj.PrepHost

@[expose] public section

set_option maxRecDepth 16384

noncomputable section

namespace Cert.PrepIdeal.Hand

open Cert.PrepIdeal Cert.PrepIdeal.Gen Cert.PrepRefIdeal.Read Idealize.ShloMosaic Idealize.ShloMosaic.TcCoe Idealize.SL.Sem

variable (m : (ℓ : Loc nD τ sig) → Buf (Elt Ideal) ℓ)

theorem index_rows : ∀ t : Fin cfg0.N, (cfg0.win 0).index t = ![t.val, 0] ∧ (cfg0.win 1).index t = ![t.val, 1]
    ∧ (cfg0.win 2).index t = ![t.val, 8] ∧ (cfg0.win 3).index t = ![t.val, 0] ∧ (cfg0.win 4).index t = ![t.val, 0]
    ∧ (cfg0.win 14).index t = ![t.val, 0] ∧ (cfg0.win 15).index t = ![t.val, 0] ∧ (cfg0.win 16).index t = ![t.val, 0] := by decide +kernel
theorem index_w : ∀ t : Fin cfg0.N, (cfg0.win 5).index t = ![0, 0] ∧ (cfg0.win 6).index t = ![0, 0] ∧ (cfg0.win 7).index t = ![0, 0]
    ∧ (cfg0.win 8).index t = ![0, 0] ∧ (cfg0.win 9).index t = ![0, 0] ∧ (cfg0.win 10).index t = ![0, 0] ∧ (cfg0.win 11).index t = ![0, 0]
    ∧ (cfg0.win 12).index t = ![0, 0] ∧ (cfg0.win 13).index t = ![0, 0] := by decide +kernel

theorem row_lt (t : Fin cfg0.N) (r : Fin 512) : t.val * 512 + r.val < 32768 := by
  have h : t.val < 64 := t.isLt
  omega
/-- Row `r` of the block of 512 rows at point `t`. -/
def row (t : Fin cfg0.N) (r : Fin 512) : Fin 32768 := ⟨t.val * 512 + r.val, row_lt t r⟩

theorem in_0 (c : Dev nD) (t : Fin cfg0.N) (r : Fin 512) (k : Fin 512) :
    X0_0 m c t (ix2 r k) = m ((c : Thread nD τ).loc main_arg0) (ix2 (row t r) (⟨k.val, by omega⟩ : Fin 1280)) := by
  obtain ⟨i0, i1, i2, i3, i4, -⟩ := index_rows t
  unfold X0_0 Pipeline.Window.fill
  rw [dif_pos (moved0_0 t _)]
  blk_ext [iblk, V, i0, row]
theorem in_1 (c : Dev nD) (t : Fin cfg0.N) (r : Fin 512) (k : Fin 512) :
    X0_1 m c t (ix2 r k) = m ((c : Thread nD τ).loc main_arg0) (ix2 (row t r) (⟨512 + k.val, by omega⟩ : Fin 1280)) := by
  obtain ⟨i0, i1, i2, i3, i4, -⟩ := index_rows t
  unfold X0_1 Pipeline.Window.fill
  rw [dif_pos (moved0_1 t _)]
  blk_ext [iblk, V, i1, row]
theorem in_2 (c : Dev nD) (t : Fin cfg0.N) (r : Fin 512) (k : Fin 128) :
    iblk m c 2 t (ix2 r k) = m ((c : Thread nD τ).loc main_arg0) (ix2 (row t r) (⟨1024 + k.val, by omega⟩ : Fin 1280)) := by
  obtain ⟨i0, i1, i2, i3, i4, -⟩ := index_rows t
  blk_ext [iblk, V, i2, row]
theorem in_3 (c : Dev nD) (t : Fin cfg0.N) (r : Fin 512) (k : Fin 128) :
    iblk m c 3 t (ix2 r k) = m ((c : Thread nD τ).loc main_arg1) (ix2 (row t r) k) := by
  obtain ⟨i0, i1, i2, i3, i4, -⟩ := index_rows t
  blk_ext [iblk, V, i3, row]
theorem in_4 (c : Dev nD) (t : Fin cfg0.N) (r : Fin 512) (k : Fin 128) :
    iblk m c 4 t (ix2 r k) = m ((c : Thread nD τ).loc main_arg2) (ix2 (row t r) k) := by
  obtain ⟨i0, i1, i2, i3, i4, -⟩ := index_rows t
  blk_ext [iblk, V, i4, row]
theorem in_5 (c : Dev nD) (t : Fin cfg0.N) (l : Fin 512) : iblk m c 5 t (ix2 (0 : Fin 1) l)
    = m ((c : Thread nD τ).loc main_arg3) (ix1 l) := by
  obtain ⟨i5, i6, i7, i8, i9, i10, i11, i12, i13⟩ := index_w t
  refine Eq.trans (b := V m c main_v22 (ix2 (0 : Fin 1) l)) ?_ (V_v22 m c l)
  blk_ext [iblk, i5]
theorem in_6 (c : Dev nD) (t : Fin cfg0.N) (l : Fin 512) : iblk m c 6 t (ix2 (0 : Fin 1) l)
    = m ((c : Thread nD τ).loc main_arg4) (ix1 l) := by
  obtain ⟨i5, i6, i7, i8, i9, i10, i11, i12, i13⟩ := index_w t
  refine Eq.trans (b := V m c main_v23 (ix2 (0 : Fin 1) l)) ?_ (V_v23 m c l)
  blk_ext [iblk, i6]
theorem in_7 (c : Dev nD) (t : Fin cfg0.N) (k : Fin 512) (l : Fin 2048) : iblk m c 7 t (ix2 k l)
    = (if h : l.val / 256 < 8 ∧ l.val % 256 < 192
    then m ((c : Thread nD τ).loc main_arg5) (ix2 k (⟨l.val / 256 * 192 + l.val % 256, by omega⟩ : Fin 1536)) else (0 : EReal)) := by
  obtain ⟨i5, i6, i7, i8, i9, i10, i11, i12, i13⟩ := index_w t
  refine Eq.trans (b := V m c main_v24 (ix2 k l)) ?_ (V_v24 m c k l)
  blk_ext [iblk, i7]
theorem in_8 (c : Dev nD) (t : Fin cfg0.N) (k : Fin 512) (l : Fin 1024) : iblk m c 8 t (ix2 k l)
    = m ((c : Thread nD τ).loc main_arg6) (ix2 k (⟨l.val / 128 * 256 + l.val % 128, by omega⟩ : Fin 2048)) := by
  obtain ⟨i5, i6, i7, i8, i9, i10, i11, i12, i13⟩ := index_w t
  refine Eq.trans (b := V m c main_v25 (ix2 k l)) ?_ (V_v25 m c k l)
  blk_ext [iblk, i8]
theorem in_9 (c : Dev nD) (t : Fin cfg0.N) (k : Fin 512) (l : Fin 1024) : iblk m c 9 t (ix2 k l)
    = m ((c : Thread nD τ).loc main_arg6) (ix2 k (⟨l.val / 128 * 256 + (128 + l.val % 128), by omega⟩ : Fin 2048)) := by
  obtain ⟨i5, i6, i7, i8, i9, i10, i11, i12, i13⟩ := index_w t
  refine Eq.trans (b := V m c main_v26 (ix2 k l)) ?_ (V_v26 m c k l)
  blk_ext [iblk, i9]
theorem in_10 (c : Dev nD) (t : Fin cfg0.N) (l : Fin 128) : iblk m c 10 t (ix2 (0 : Fin 1) l)
    = HMul.hMul (α := EReal) (β := EReal) (γ := EReal) (m ((c : Thread nD τ).loc main_arg7) (ix1 (⟨l.val, by omega⟩ : Fin 192))) (Ideal.ofBits FTy.f32 1037384597#32) := by
  obtain ⟨i5, i6, i7, i8, i9, i10, i11, i12, i13⟩ := index_w t
  refine Eq.trans (b := V m c main_v11 (ix2 (0 : Fin 1) l)) ?_ (V_v11 m c l)
  blk_ext [iblk, i10]
theorem in_11 (c : Dev nD) (t : Fin cfg0.N) (l : Fin 128) : iblk m c 11 t (ix2 (0 : Fin 1) l)
    = (if h : l.val < 64
    then HMul.hMul (α := EReal) (β := EReal) (γ := EReal) (m ((c : Thread nD τ).loc main_arg7) (ix1 (⟨128 + l.val, by omega⟩ : Fin 192))) (Ideal.ofBits FTy.f32 1037384597#32) else (0 : EReal)) := by
  obtain ⟨i5, i6, i7, i8, i9, i10, i11, i12, i13⟩ := index_w t
  refine Eq.trans (b := V m c main_v16 (ix2 (0 : Fin 1) l)) ?_ (V_v16 m c l)
  blk_ext [iblk, i11]
theorem in_12 (c : Dev nD) (t : Fin cfg0.N) (l : Fin 128) : iblk m c 12 t (ix2 (0 : Fin 1) l)
    = m ((c : Thread nD τ).loc main_arg8) (ix1 (⟨l.val, by omega⟩ : Fin 192)) := by
  obtain ⟨i5, i6, i7, i8, i9, i10, i11, i12, i13⟩ := index_w t
  refine Eq.trans (b := V m c main_v18 (ix2 (0 : Fin 1) l)) ?_ (V_v18 m c l)
  blk_ext [iblk, i12]
theorem in_13 (c : Dev nD) (t : Fin cfg0.N) (l : Fin 128) : iblk m c 13 t (ix2 (0 : Fin 1) l)
    = (if h : l.val < 64
    then m ((c : Thread nD τ).loc main_arg8) (ix1 (⟨128 + l.val, by omega⟩ : Fin 192)) else (0 : EReal)) := by
  obtain ⟨i5, i6, i7, i8, i9, i10, i11, i12, i13⟩ := index_w t
  refine Eq.trans (b := V m c main_v21 (ix2 (0 : Fin 1) l)) ?_ (V_v21 m c l)
  blk_ext [iblk, i13]

/-- One element of a latent normalised along its row. -/
def normAt (X : S512x512.Idx → EReal) (G : S1x512.Idx → EReal) (r k : Fin 512) : EReal :=
  X (ix2 r k) * Ideal.rsqrt (Ideal.div (∑ j, X (ix2 r j) * X (ix2 r j)) (Ideal.ofBits FTy.f32 1140850688#32) + Ideal.ofBits FTy.f32 897988541#32)
    * G (ix2 (0 : Fin 1) k)

theorem pay4_at (X : S512x512.Idx → EReal) (G : S1x512.Idx → EReal) (W : S512x2048.Idx → EReal) (r : Fin 512) (l : Fin 2048) :
    k0_pay4 (F := Ideal) X G W (ix2 r l) = ∑ k, normAt X G r k * W (ix2 k l) := by
  simp only [k0_pay4, normAt]
  pointwise
theorem pay58_at (X : S512x512.Idx → EReal) (G : S1x512.Idx → EReal) (W : S512x1024.Idx → EReal) (r : Fin 512) (l : Fin 1024) :
    k0_pay58 (F := Ideal) X G W (ix2 r l) = ∑ k, normAt X G r k * W (ix2 k l) := by
  simp only [k0_pay58, k0_pay57, normAt]
  pointwise
theorem pay59_at (X : S512x512.Idx → EReal) (G : S1x512.Idx → EReal) (W : S512x1024.Idx → EReal) (r : Fin 512) (l : Fin 1024) :
    k0_pay59 (F := Ideal) X G W (ix2 r l) = ∑ k, normAt X G r k * W (ix2 k l) := by
  simp only [k0_pay59, k0_pay57, normAt]
  pointwise

theorem cq_eq (c : Dev nD) (t : Fin cfg0.N) (r k : Fin 512) : normAt (X0_0 m c t) (iblk m c 5 t) r k
    = val_main_v17 (F := Ideal) (m ((c : Thread nD τ).loc main_arg0)) (m ((c : Thread nD τ).loc main_arg3)) (ix2 (row t r) k) := by
  simp only [normAt, in_0, in_5, val_main_v4, val_main_v5, val_main_v6, val_main_v7, val_main_v8, val_main_v9, val_main_v10, val_main_v11, val_main_v12, val_main_v13, val_main_v14, val_main_v15, val_main_v16, val_main_v17, val_main_cst, val_main_cst_0, val_main_cst_1]
  pointwise
theorem ckv_eq (c : Dev nD) (t : Fin cfg0.N) (r k : Fin 512) : normAt (X0_1 m c t) (iblk m c 6 t) r k
    = val_main_v33 (F := Ideal) (m ((c : Thread nD τ).loc main_arg0)) (m ((c : Thread nD τ).loc main_arg4)) (ix2 (row t r) k) := by
  simp only [normAt, in_1, in_6, val_main_v19, val_main_v20, val_main_v21, val_main_v22, val_main_v23, val_main_v24, val_main_v25, val_main_v26, val_main_v27, val_main_v28, val_main_v29, val_main_v30, val_main_v31, val_main_v32, val_main_v33, val_main_cst_2, val_main_cst_3, val_main_cst_4]
  pointwise

theorem q_lt (l : Fin 2048) (hl : l.val % 256 < 192) : l.val / 256 * 192 + l.val % 256 < 1536 := by omega
theorem k_lt (l : Fin 1024) : l.val / 128 * 256 + l.val % 128 < 2048 := by omega
theorem v_lt (l : Fin 1024) : l.val / 128 * 256 + (128 + l.val % 128) < 2048 := by omega

/-- The projected queries, without and with the padding of a head from 192 to 256 columns. -/
theorem q_proj (c : Dev nD) (t : Fin cfg0.N) (r : Fin 512) (l : Fin 2048) (j : Fin 1536) (hl : l.val % 256 < 192)
    (hj : j.val = l.val / 256 * 192 + l.val % 256) :
    k0_pay4 (X0_0 m c t) (iblk m c 5 t) (iblk m c 7 t) (ix2 r l) = val_main_v18 (F := Ideal) (m ((c : Thread nD τ).loc main_arg0))
      (m ((c : Thread nD τ).loc main_arg3)) (m ((c : Thread nD τ).loc main_arg5)) (ix2 (row t r) j) := by
  obtain rfl : j = ⟨l.val / 256 * 192 + l.val % 256, q_lt l hl⟩ := Fin.ext hj
  refine (pay4_at _ _ _ r l).trans ?_
  simp only [cq_eq, in_7, val_main_v18]
  pointwise
  exact Finset.sum_congr rfl fun k _ => by rw [dif_pos ⟨by omega, hl⟩]
theorem q_pad (c : Dev nD) (t : Fin cfg0.N) (r : Fin 512) (l : Fin 2048) (hl : ¬ l.val % 256 < 192) :
    k0_pay4 (X0_0 m c t) (iblk m c 5 t) (iblk m c 7 t) (ix2 r l) = (0 : EReal) := by
  refine (pay4_at _ _ _ r l).trans (Finset.sum_eq_zero fun k _ => ?_)
  rw [in_7, dif_neg fun h => hl h.2]
  exact mul_zero _
theorem k_proj (c : Dev nD) (t : Fin cfg0.N) (r : Fin 512) (l : Fin 1024) (j : Fin 2048) (hj : j.val = l.val / 128 * 256 + l.val % 128) :
    k0_pay58 (X0_1 m c t) (iblk m c 6 t) (iblk m c 8 t) (ix2 r l) = val_main_v34 (F := Ideal) (m ((c : Thread nD τ).loc main_arg0))
      (m ((c : Thread nD τ).loc main_arg4)) (m ((c : Thread nD τ).loc main_arg6)) (ix2 (row t r) j) := by
  obtain rfl : j = ⟨l.val / 128 * 256 + l.val % 128, k_lt l⟩ := Fin.ext hj
  refine (pay58_at _ _ _ r l).trans ?_
  simp only [ckv_eq, in_8, val_main_v34]
  pointwise
theorem v_proj (c : Dev nD) (t : Fin cfg0.N) (r : Fin 512) (l : Fin 1024) (j : Fin 2048) (hj : j.val = l.val / 128 * 256 + (128 + l.val % 128)) :
    k0_pay59 (X0_1 m c t) (iblk m c 6 t) (iblk m c 9 t) (ix2 r l) = val_main_v34 (F := Ideal) (m ((c : Thread nD τ).loc main_arg0))
      (m ((c : Thread nD τ).loc main_arg4)) (m ((c : Thread nD τ).loc main_arg6)) (ix2 (row t r) j) := by
  obtain rfl : j = ⟨l.val / 128 * 256 + (128 + l.val % 128), v_lt l⟩ := Fin.ext hj
  refine (pay59_at _ _ _ r l).trans ?_
  simp only [ckv_eq, in_9, val_main_v34]
  pointwise

end Cert.PrepIdeal.Hand

end
-- ==== Proof.Proj.PrepBody.lean ====
/- The arrays of queries, keys and values before the attention: what the call's body stores. -/
module

public import proofs.«01_k».proof.Proof.Gen.PrepIdeal.Value
public import Idealize.ShloMosaic.Lib.Pipeline.ValueKit

@[expose] public section

set_option maxRecDepth 16384

noncomputable section

namespace Cert.PrepIdeal.Hand

open Cert.PrepIdeal Cert.PrepIdeal.Gen Idealize.ShloMosaic Idealize.ShloMosaic.TcCoe Idealize.SL.Sem

variable (m : (ℓ : Loc nD τ sig) → Buf (Elt Ideal) ℓ)

theorem ix2_self (x : S512x128.Idx) : ix2 (x 0) (x 1) = x := by
  funext a
  exact match a with
    | ⟨0, _⟩ => rfl
    | ⟨1, _⟩ => rfl

/-- The inverse root mean square of two halves of 192 values between them. -/
def inv (a b : Fin 128 → EReal) : EReal :=
  Ideal.rsqrt ((∑ k, a k * a k + ∑ k, b k * b k) * (Named.named κ "inv_qk" 1001040555#32 : Ideal .f32) + Ideal.ofBits FTy.f32 897988541#32)

/-- One lane of the rotation by the tables of cosines and signed sines: `u` is the lane, `p` and `q` the lanes 32 above and below. -/
def turn (d : Fin 128) (u p q c s : EReal) : EReal :=
  u * c + Scalar.select (IntOp.cmpi CmpIPredicate.eq (IntOp.andi (BitVec.ofNat 32 d.val) 32#32) 0#32) p q * s

/-- The lane 32 above and the lane 32 below, around the tile. -/
def up (d : Fin 128) : Fin 128 := ⟨(d.val + 32) % 128, by omega⟩
def down (d : Fin 128) : Fin 128 := ⟨(d.val + 96) % 128, by omega⟩

/-- The two tiles of head `h` in row `r` of the padded queries, and the one tile of its keys or values. -/
def colLow (h : Fin 8) (k : Fin 128) : Fin 2048 := ⟨h.val * 256 + k.val, by omega⟩
def colHigh (h : Fin 8) (k : Fin 128) : Fin 2048 := ⟨h.val * 256 + 128 + k.val, by omega⟩
def colTile (h : Fin 8) (k : Fin 128) : Fin 1024 := ⟨h.val * 128 + k.val, by omega⟩
def lowQ (Q : S512x2048.Idx → EReal) (r : Fin 512) (h : Fin 8) (k : Fin 128) : EReal := Q (ix2 r (colLow h k))
def highQ (Q : S512x2048.Idx → EReal) (r : Fin 512) (h : Fin 8) (k : Fin 128) : EReal := Q (ix2 r (colHigh h k))
def tile (K : S512x1024.Idx → EReal) (r : Fin 512) (h : Fin 8) (k : Fin 128) : EReal := K (ix2 r (colTile h k))

/-- The head of a column and its lane in the head. -/
def head (l : Fin 2048) : Fin 8 := ⟨l.val / 256, by omega⟩
def lane (l : Fin 2048) : Fin 128 := ⟨l.val % 128, by omega⟩

def qLow (Q : S512x2048.Idx → EReal) (G : S1x128.Idx → EReal) (r : Fin 512) (h : Fin 8) (d : Fin 128) : EReal :=
  lowQ Q r h d * inv (lowQ Q r h) (highQ Q r h) * G (ix2 (0 : Fin 1) d)
def qGain (Q : S512x2048.Idx → EReal) (G : S1x128.Idx → EReal) (r : Fin 512) (h : Fin 8) (d : Fin 128) : EReal :=
  highQ Q r h d * inv (lowQ Q r h) (highQ Q r h) * G (ix2 (0 : Fin 1) d)
def qHigh (Q : S512x2048.Idx → EReal) (G : S1x128.Idx → EReal) (C S : S512x128.Idx → EReal) (r : Fin 512) (h : Fin 8) (d : Fin 128) : EReal :=
  turn d (qGain Q G r h d) (qGain Q G r h (up d)) (qGain Q G r h (down d)) (C (ix2 r d)) (S (ix2 r d))
/-- One stored query. -/
def qAt (Q : S512x2048.Idx → EReal) (G₁ G₂ : S1x128.Idx → EReal) (C S : S512x128.Idx → EReal) (r : Fin 512) (l : Fin 2048) : EReal :=
  if l.val % 256 < 128 then qLow Q G₁ r (head l) (lane l) else qHigh Q G₂ C S r (head l) (lane l)

def kLow (K : S512x1024.Idx → EReal) (R : S512x128.Idx → EReal) (G : S1x128.Idx → EReal) (r : Fin 512) (h : Fin 8) (d : Fin 128) : EReal :=
  tile K r h d * inv (tile K r h) (fun k => R (ix2 r k)) * G (ix2 (0 : Fin 1) d)
def kGain (R : S512x128.Idx → EReal) (G : S1x128.Idx → EReal) (r : Fin 512) (d : Fin 128) : EReal := R (ix2 r d) * G (ix2 (0 : Fin 1) d)
def kHigh (K : S512x1024.Idx → EReal) (R : S512x128.Idx → EReal) (G : S1x128.Idx → EReal) (C S : S512x128.Idx → EReal) (r : Fin 512) (h : Fin 8)
    (d : Fin 128) : EReal :=
  turn d (kGain R G r d) (kGain R G r (up d)) (kGain R G r (down d)) (C (ix2 r d)) (S (ix2 r d)) * inv (tile K r h) (fun k => R (ix2 r k))
/-- One stored key. -/
def kAt (K : S512x1024.Idx → EReal) (R : S512x128.Idx → EReal) (G₁ G₂ : S1x128.Idx → EReal) (C S : S512x128.Idx → EReal) (r : Fin 512)
    (l : Fin 2048) : EReal :=
  if l.val % 256 < 128 then kLow K R G₁ r (head l) (lane l) else kHigh K R G₂ C S r (head l) (lane l)

/-- One stored value: behind a head's values a column of ones, then zeros. -/
def vAt (V : S512x1024.Idx → EReal) (r : Fin 512) (l : Fin 2048) : EReal :=
  if l.val % 256 < 128 then tile V r (head l) (lane l)
  else Scalar.select (IntOp.cmpi CmpIPredicate.eq (BitVec.ofNat 32 (lane l).val) 0#32) 1 0

theorem q_low_piece (Q : S512x2048.Idx → EReal) (G₁ G₂ : S1x128.Idx → EReal) (C S : S512x128.Idx → EReal) (r r' : Fin 512) (l a : Fin 2048)
    (d : Fin 128) (n p : Fin 128 → Fin 2048) (hr : r'.val = r.val) (hl : l.val % 256 < 128) (hd : d.val = l.val % 128)
    (ha : a.val = l.val / 256 * 256 + d.val) (hn : ∀ k, (n k).val = l.val / 256 * 256 + k.val) (hp : ∀ k, (p k).val = l.val / 256 * 256 + 128 + k.val) :
    Q (ix2 r' a) * Ideal.rsqrt ((∑ k, Q (ix2 r' (n k)) * Q (ix2 r' (n k)) + ∑ k, Q (ix2 r' (p k)) * Q (ix2 r' (p k)))
      * (Named.named κ "inv_qk" 1001040555#32 : Ideal .f32) + Ideal.ofBits FTy.f32 897988541#32) * G₁ (ix2 (0 : Fin 1) d) = qAt Q G₁ G₂ C S r l := by
  obtain rfl : r' = r := Fin.ext hr
  obtain rfl : d = lane l := Fin.ext hd
  obtain rfl : a = colLow (head l) (lane l) := Fin.ext ha
  obtain rfl : n = colLow (head l) := funext fun k => Fin.ext (hn k)
  obtain rfl : p = colHigh (head l) := funext fun k => Fin.ext (hp k)
  exact (if_pos hl).symm

theorem q_high_piece (Q : S512x2048.Idx → EReal) (G₁ G₂ : S1x128.Idx → EReal) (C S : S512x128.Idx → EReal) (r : Fin 512) (l a a₁ a₂ : Fin 2048)
    (x : S512x128.Idx) (d₁ d₂ : Fin 128) (n p : Fin 128 → Fin 2048) (hr : (x 0).val = r.val) (hl : ¬ l.val % 256 < 128) (hd : (x 1).val = l.val % 128)
    (hd₁ : d₁.val = (l.val % 128 + 32) % 128) (hd₂ : d₂.val = (l.val % 128 + 96) % 128)
    (ha : a.val = l.val / 256 * 256 + 128 + (x 1).val) (ha₁ : a₁.val = l.val / 256 * 256 + 128 + d₁.val) (ha₂ : a₂.val = l.val / 256 * 256 + 128 + d₂.val)
    (hn : ∀ k, (n k).val = l.val / 256 * 256 + k.val) (hp : ∀ k, (p k).val = l.val / 256 * 256 + 128 + k.val) :
    Q (ix2 (x 0) a) * Ideal.rsqrt ((∑ k, Q (ix2 (x 0) (n k)) * Q (ix2 (x 0) (n k)) + ∑ k, Q (ix2 (x 0) (p k)) * Q (ix2 (x 0) (p k)))
      * (Named.named κ "inv_qk" 1001040555#32 : Ideal .f32) + Ideal.ofBits FTy.f32 897988541#32) * G₂ (ix2 (0 : Fin 1) (x 1)) * C x
    + Scalar.select (IntOp.cmpi CmpIPredicate.eq (IntOp.andi (BitVec.ofNat 32 (x 1).val) 32#32) 0#32)
      (Q (ix2 (x 0) a₁) * Ideal.rsqrt ((∑ k, Q (ix2 (x 0) (n k)) * Q (ix2 (x 0) (n k)) + ∑ k, Q (ix2 (x 0) (p k)) * Q (ix2 (x 0) (p k)))
        * (Named.named κ "inv_qk" 1001040555#32 : Ideal .f32) + Ideal.ofBits FTy.f32 897988541#32) * G₂ (ix2 (0 : Fin 1) d₁))
      (Q (ix2 (x 0) a₂) * Ideal.rsqrt ((∑ k, Q (ix2 (x 0) (n k)) * Q (ix2 (x 0) (n k)) + ∑ k, Q (ix2 (x 0) (p k)) * Q (ix2 (x 0) (p k)))
        * (Named.named κ "inv_qk" 1001040555#32 : Ideal .f32) + Ideal.ofBits FTy.f32 897988541#32) * G₂ (ix2 (0 : Fin 1) d₂)) * S x
    = qAt Q G₁ G₂ C S r l := by
  obtain ⟨r', d, rfl⟩ : ∃ r' d, x = ix2 r' d := ⟨x 0, x 1, (ix2_self x).symm⟩
  obtain rfl : r' = r := Fin.ext hr
  obtain rfl : d = lane l := Fin.ext hd
  obtain rfl : a = colHigh (head l) (lane l) := Fin.ext (ha.trans (congrArg (l.val / 256 * 256 + 128 + ·) hd))
  obtain rfl : d₁ = up (lane l) := Fin.ext hd₁
  obtain rfl : d₂ = down (lane l) := Fin.ext hd₂
  obtain rfl : a₁ = colHigh (head l) (up (lane l)) := Fin.ext ha₁
  obtain rfl : a₂ = colHigh (head l) (down (lane l)) := Fin.ext ha₂
  obtain rfl : n = colLow (head l) := funext fun k => Fin.ext (hn k)
  obtain rfl : p = colHigh (head l) := funext fun k => Fin.ext (hp k)
  exact (if_neg hl).symm

theorem k_low_piece (K : S512x1024.Idx → EReal) (R : S512x128.Idx → EReal) (G₁ G₂ : S1x128.Idx → EReal) (C S : S512x128.Idx → EReal) (r r' : Fin 512)
    (l : Fin 2048) (a : Fin 1024) (d : Fin 128) (n : Fin 128 → Fin 1024) (hr : r'.val = r.val) (hl : l.val % 256 < 128) (hd : d.val = l.val % 128)
    (ha : a.val = l.val / 256 * 128 + d.val) (hn : ∀ k, (n k).val = l.val / 256 * 128 + k.val) :
    K (ix2 r' a) * Ideal.rsqrt ((∑ k, K (ix2 r' (n k)) * K (ix2 r' (n k)) + ∑ k, R (ix2 r' k) * R (ix2 r' k))
      * (Named.named κ "inv_qk" 1001040555#32 : Ideal .f32) + Ideal.ofBits FTy.f32 897988541#32) * G₁ (ix2 (0 : Fin 1) d) = kAt K R G₁ G₂ C S r l := by
  obtain rfl : r' = r := Fin.ext hr
  obtain rfl : d = lane l := Fin.ext hd
  obtain rfl : a = colTile (head l) (lane l) := Fin.ext ha
  obtain rfl : n = colTile (head l) := funext fun k => Fin.ext (hn k)
  exact (if_pos hl).symm

theorem k_high_piece (K : S512x1024.Idx → EReal) (R : S512x128.Idx → EReal) (G₁ G₂ : S1x128.Idx → EReal) (C S : S512x128.Idx → EReal) (r : Fin 512)
    (l : Fin 2048) (x : S512x128.Idx) (d₁ d₂ : Fin 128) (n : Fin 128 → Fin 1024) (hr : (x 0).val = r.val) (hl : ¬ l.val % 256 < 128)
    (hd : (x 1).val = l.val % 128) (hd₁ : d₁.val = (l.val % 128 + 32) % 128) (hd₂ : d₂.val = (l.val % 128 + 96) % 128)
    (hn : ∀ k, (n k).val = l.val / 256 * 128 + k.val) :
    (R x * G₂ (ix2 (0 : Fin 1) (x 1)) * C x
      + Scalar.select (IntOp.cmpi CmpIPredicate.eq (IntOp.andi (BitVec.ofNat 32 (x 1).val) 32#32) 0#32)
        (R (ix2 (x 0) d₁) * G₂ (ix2 (0 : Fin 1) d₁)) (R (ix2 (x 0) d₂) * G₂ (ix2 (0 : Fin 1) d₂)) * S x)
    * Ideal.rsqrt ((∑ k, K (ix2 (x 0) (n k)) * K (ix2 (x 0) (n k)) + ∑ k, R (ix2 (x 0) k) * R (ix2 (x 0) k))
      * (Named.named κ "inv_qk" 1001040555#32 : Ideal .f32) + Ideal.ofBits FTy.f32 897988541#32) = kAt K R G₁ G₂ C S r l := by
  obtain ⟨r', d, rfl⟩ : ∃ r' d, x = ix2 r' d := ⟨x 0, x 1, (ix2_self x).symm⟩
  obtain rfl : r' = r := Fin.ext hr
  obtain rfl : d = lane l := Fin.ext hd
  obtain rfl : d₁ = up (lane l) := Fin.ext hd₁
  obtain rfl : d₂ = down (lane l) := Fin.ext hd₂
  obtain rfl : n = colTile (head l) := funext fun k => Fin.ext (hn k)
  exact (if_neg hl).symm

theorem v_low_piece (V : S512x1024.Idx → EReal) (r r' : Fin 512) (l : Fin 2048) (a : Fin 1024) (hr : r'.val = r.val) (hl : l.val % 256 < 128)
    (ha : a.val = l.val / 256 * 128 + l.val % 128) : V (ix2 r' a) = vAt V r l := by
  obtain rfl : r' = r := Fin.ext hr
  obtain rfl : a = colTile (head l) (lane l) := Fin.ext ha
  exact (if_pos hl).symm

theorem v_high_piece (V : S512x1024.Idx → EReal) (r : Fin 512) (l : Fin 2048) (d : Fin 128) (hl : ¬ l.val % 256 < 128)
    (hd : d.val = l.val % 128) : Scalar.select (IntOp.cmpi CmpIPredicate.eq (BitVec.ofNat 32 d.val) 0#32) 1 0
      = vAt V r l := by
  obtain rfl : d = lane l := Fin.ext hd
  exact (if_neg hl).symm

theorem body_16 (c : Dev nD) (t : Fin cfg0.N) (y : S512x2048.Idx) : (outsAt0 m c t).2.2 y
    = vAt (k0_pay59 (X0_1 m c t) (iblk m c 6 t) (iblk m c 9 t)) (y 0) (y 1) := by
  unfold outsAt0
  dsimp only
  generalize X0_0 m c t = x0
  generalize X0_1 m c t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  frame_out
  generalize k0_pay59 x1 x6 x9 = V
  canon_tiles x h
  all_goals
    open_payloads
    pointwise
    first
      | refine v_low_piece V _ (x 0) _ _ ?_ ?_ ?_ <;> (try dsimp only) <;> omega
      | refine v_high_piece V _ _ (x 1) ?_ ?_ <;> (try dsimp only) <;> omega

theorem body_14 (c : Dev nD) (t : Fin cfg0.N) (y : S512x2048.Idx) : (outsAt0 m c t).1 y
    = qAt (k0_pay4 (X0_0 m c t) (iblk m c 5 t) (iblk m c 7 t)) (iblk m c 10 t) (iblk m c 11 t) (iblk m c 3 t) (iblk m c 4 t) (y 0) (y 1) := by
  unfold outsAt0
  dsimp only
  generalize X0_0 m c t = x0
  generalize X0_1 m c t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  frame_out
  simp only [k0_pay7, k0_pay8, k0_pay9]
  generalize k0_pay4 x0 x5 x7 = Q
  canon_tiles x h
  all_goals
    open_payloads
    pointwise
    first
      | refine q_low_piece Q x10 x11 x3 x4 _ (x 0) _ _ (x 1) _ _ ?_ ?_ ?_ ?_ (fun k => ?_) (fun k => ?_) <;> (try dsimp only) <;> omega
      | refine q_high_piece Q x10 x11 x3 x4 _ _ _ _ _ x _ _ _ _ ?_ ?_ ?_ ?_ ?_ ?_ ?_ ?_ (fun k => ?_) (fun k => ?_) <;> (try dsimp only) <;> omega

theorem body_15 (c : Dev nD) (t : Fin cfg0.N) (y : S512x2048.Idx) : (outsAt0 m c t).2.1 y
    = kAt (k0_pay58 (X0_1 m c t) (iblk m c 6 t) (iblk m c 8 t)) (iblk m c 2 t) (iblk m c 12 t) (iblk m c 13 t) (iblk m c 3 t) (iblk m c 4 t) (y 0) (y 1) := by
  unfold outsAt0
  dsimp only
  generalize X0_0 m c t = x0
  generalize X0_1 m c t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  generalize iblk m c 12 t = x12
  generalize iblk m c 13 t = x13
  frame_out
  generalize k0_pay58 x1 x6 x8 = K
  canon_tiles x h
  all_goals
    open_payloads
    pointwise
    first
      | refine k_low_piece K x2 x12 x13 x3 x4 _ (x 0) _ _ (x 1) _ ?_ ?_ ?_ ?_ (fun k => ?_) <;> (try dsimp only) <;> omega
      | refine k_high_piece K x2 x12 x13 x3 x4 _ _ x _ _ _ ?_ ?_ ?_ ?_ ?_ (fun k => ?_) <;> (try dsimp only) <;> omega

end Cert.PrepIdeal.Hand

end
-- ==== Proof.Proj.PrepRef.lean ====
/- The arrays of queries, keys and values before the attention: the reference's, element by element. -/
module

public import proofs.«01_k».proof.Proof.Gen.PrepRefIdeal.Read
public import Idealize.ShloMosaic.Lib.Pipeline.ValueKit

@[expose] public section

set_option maxRecDepth 16384

noncomputable section

namespace Cert.PrepRefIdeal.Hand

open Cert.PrepRefIdeal Cert.PrepRefIdeal.Read Idealize.ShloMosaic Idealize.ShloMosaic.TcCoe Idealize.SL.Sem

/-- The inverse root mean square of the 192 values of a head. -/
def refInv (x : Fin 192 → EReal) : EReal :=
  Ideal.rsqrt (Ideal.div (∑ j, x j * x j) (Ideal.ofBits FTy.f32 1128267776#32) + Ideal.ofBits FTy.f32 897988541#32)

variable (a0 : S32768x1280.Idx → EReal) (a1 a2 : S32768x128.Idx → EReal) (a3 a4 : S512.Idx → EReal) (a5 : S512x1536.Idx → EReal)
  (a6 : S512x2048.Idx → EReal) (a7 a8 : S192.Idx → EReal)

/-- The queries of a row and head. -/
def rowQ (R : Fin 32768) (h : Fin 8) (j : Fin 192) : EReal := val_main_v18 (F := Ideal) a0 a3 a5 (ix2 R (⟨h.val * 192 + j.val, by omega⟩ : Fin 1536))
/-- The keys of a row and head: 128 values of the head's own and 64 that the heads share. -/
def rowK (R : Fin 32768) (h : Fin 8) (j : Fin 192) : EReal :=
  if hj : j.val < 128 then val_main_v34 (F := Ideal) a0 a4 a6 (ix2 R (⟨h.val * 256 + j.val, by omega⟩ : Fin 2048))
  else a0 (ix2 R (⟨1024 + (j.val - 128), by omega⟩ : Fin 1280))

theorem v53_at (R : Fin 32768) (h : Fin 8) (j : Fin 192) : val_main_v53 (F := Ideal) a0 a3 a5 a7 (ix3 R h j)
    = rowQ a0 a3 a5 R h j * refInv (rowQ a0 a3 a5 R h) * a7 (ix1 j) := by
  simp only [rowQ, refInv, val_main_v19, val_main_v41, val_main_v42, val_main_v43, val_main_v44, val_main_v45, val_main_v46, val_main_v47, val_main_v48, val_main_v49, val_main_v50, val_main_v51, val_main_v52, val_main_v53, val_main_cst_5, val_main_cst_6, val_main_cst_7]
  generalize val_main_v18 (F := Ideal) a0 a3 a5 = K
  pointwise
theorem v82_at (R : Fin 32768) (h : Fin 8) (j : Fin 192) : val_main_v82 (F := Ideal) a0 a4 a6 a8 (ix3 R h j)
    = rowK a0 a4 a6 R h j * refInv (rowK a0 a4 a6 R h) * a8 (ix1 j) := by
  simp only [rowK, refInv, val_main_v35, val_main_v36, val_main_v37, val_main_v38, val_main_v39, val_main_v40, val_main_v70, val_main_v71, val_main_v72, val_main_v73, val_main_v74, val_main_v75, val_main_v76, val_main_v77, val_main_v78, val_main_v79, val_main_v80, val_main_v81, val_main_v82, val_main_cst_8, val_main_cst_9, val_main_cst_10]
  generalize val_main_v34 (F := Ideal) a0 a4 a6 = K
  pointwise
/-- The factor of the queries. -/
def scale : EReal := Ideal.ofBits FTy.f32 1037384597#32

theorem q_low (R : Fin 32768) (l : Fin 2048) (h : Fin 8) (j : Fin 192) (hh : h.val = l.val / 256) (hj : j.val = l.val % 256) (h1 : l.val % 256 < 128) :
    val_main_v111 (F := Ideal) a0 a1 a2 a3 a5 a7 (ix2 R l) = val_main_v53 (F := Ideal) a0 a3 a5 a7 (ix3 R h j) * scale := by
  simp only [val_main_v0, val_main_v1, val_main_v2, val_main_v3, val_main_v54, val_main_v55, val_main_v56, val_main_v57, val_main_v58, val_main_v59, val_main_v60, val_main_v61, val_main_v62, val_main_v63, val_main_v64, val_main_v65, val_main_v66, val_main_v67, val_main_v68, val_main_v69, val_main_v99, val_main_v100, val_main_v101, val_main_v102, val_main_v103, val_main_v111, val_main_cst_11, val_main_cst_12, scale]
  generalize val_main_v53 (F := Ideal) a0 a3 a5 a7 = N
  pointwise
  rw [dif_pos (by omega), dif_pos h1]
  blk_point
theorem q_first (R : Fin 32768) (l : Fin 2048) (h : Fin 8) (j j' : Fin 192) (e e' : Fin 128) (hh : h.val = l.val / 256) (hj : j.val = l.val % 256)
    (hj' : j'.val = l.val % 256 + 32) (he : e.val = l.val % 256 - 128) (he' : e'.val = l.val % 256 - 96) (h1 : ¬ l.val % 256 < 128)
    (h2 : l.val % 256 - 128 < 32) :
    val_main_v111 (F := Ideal) a0 a1 a2 a3 a5 a7 (ix2 R l) = (val_main_v53 (F := Ideal) a0 a3 a5 a7 (ix3 R h j) * a1 (ix2 R e)
      - val_main_v53 (F := Ideal) a0 a3 a5 a7 (ix3 R h j') * a2 (ix2 R e')) * scale := by
  simp only [val_main_v0, val_main_v1, val_main_v2, val_main_v3, val_main_v54, val_main_v55, val_main_v56, val_main_v57, val_main_v58, val_main_v59, val_main_v60, val_main_v61, val_main_v62, val_main_v63, val_main_v64, val_main_v65, val_main_v66, val_main_v67, val_main_v68, val_main_v69, val_main_v99, val_main_v100, val_main_v101, val_main_v102, val_main_v103, val_main_v111, val_main_cst_11, val_main_cst_12, scale]
  generalize val_main_v53 (F := Ideal) a0 a3 a5 a7 = N
  pointwise
  rw [dif_pos (by omega), dif_neg h1, dif_pos h2]
  blk_point
theorem q_second (R : Fin 32768) (l : Fin 2048) (h : Fin 8) (j j' : Fin 192) (e e' : Fin 128) (hh : h.val = l.val / 256) (hj : j.val = l.val % 256)
    (hj' : j'.val = l.val % 256 - 32) (he : e.val = l.val % 256 - 160) (he' : e'.val = l.val % 256 - 128) (h1 : ¬ l.val % 256 < 128)
    (h2 : ¬ l.val % 256 - 128 < 32) (h3 : l.val % 256 < 192) :
    val_main_v111 (F := Ideal) a0 a1 a2 a3 a5 a7 (ix2 R l) = (val_main_v53 (F := Ideal) a0 a3 a5 a7 (ix3 R h j) * a1 (ix2 R e)
      + val_main_v53 (F := Ideal) a0 a3 a5 a7 (ix3 R h j') * a2 (ix2 R e')) * scale := by
  simp only [val_main_v0, val_main_v1, val_main_v2, val_main_v3, val_main_v54, val_main_v55, val_main_v56, val_main_v57, val_main_v58, val_main_v59, val_main_v60, val_main_v61, val_main_v62, val_main_v63, val_main_v64, val_main_v65, val_main_v66, val_main_v67, val_main_v68, val_main_v69, val_main_v99, val_main_v100, val_main_v101, val_main_v102, val_main_v103, val_main_v111, val_main_cst_11, val_main_cst_12, scale]
  generalize val_main_v53 (F := Ideal) a0 a3 a5 a7 = N
  pointwise
  rw [dif_pos h3, dif_neg h1, dif_neg h2]
  blk_point
theorem q_zero (R : Fin 32768) (l : Fin 2048) (h3 : ¬ l.val % 256 < 192) :
    val_main_v111 (F := Ideal) a0 a1 a2 a3 a5 a7 (ix2 R l) = (0 : EReal) := by
  simp only [val_main_v0, val_main_v1, val_main_v2, val_main_v3, val_main_v54, val_main_v55, val_main_v56, val_main_v57, val_main_v58, val_main_v59, val_main_v60, val_main_v61, val_main_v62, val_main_v63, val_main_v64, val_main_v65, val_main_v66, val_main_v67, val_main_v68, val_main_v69, val_main_v99, val_main_v100, val_main_v101, val_main_v102, val_main_v103, val_main_v111, val_main_cst_11, val_main_cst_12]
  generalize val_main_v53 (F := Ideal) a0 a3 a5 a7 = N
  pointwise
  rw [dif_neg h3]

theorem k_low (R : Fin 32768) (l : Fin 2048) (h : Fin 8) (j : Fin 192) (hh : h.val = l.val / 256) (hj : j.val = l.val % 256) (h1 : l.val % 256 < 128) :
    val_main_v112 (F := Ideal) a0 a1 a2 a4 a6 a8 (ix2 R l) = val_main_v82 (F := Ideal) a0 a4 a6 a8 (ix3 R h j) := by
  simp only [val_main_v0, val_main_v1, val_main_v2, val_main_v3, val_main_v83, val_main_v84, val_main_v85, val_main_v86, val_main_v87, val_main_v88, val_main_v89, val_main_v90, val_main_v91, val_main_v92, val_main_v93, val_main_v94, val_main_v95, val_main_v96, val_main_v97, val_main_v98, val_main_v101, val_main_v104, val_main_v105, val_main_v112, val_main_cst_12]
  generalize val_main_v82 (F := Ideal) a0 a4 a6 a8 = N
  pointwise
  rw [dif_pos (by omega), dif_pos h1]
  blk_point
theorem k_first (R : Fin 32768) (l : Fin 2048) (h : Fin 8) (j j' : Fin 192) (e e' : Fin 128) (hh : h.val = l.val / 256) (hj : j.val = l.val % 256)
    (hj' : j'.val = l.val % 256 + 32) (he : e.val = l.val % 256 - 128) (he' : e'.val = l.val % 256 - 96) (h1 : ¬ l.val % 256 < 128)
    (h2 : l.val % 256 - 128 < 32) :
    val_main_v112 (F := Ideal) a0 a1 a2 a4 a6 a8 (ix2 R l) = val_main_v82 (F := Ideal) a0 a4 a6 a8 (ix3 R h j) * a1 (ix2 R e)
      - val_main_v82 (F := Ideal) a0 a4 a6 a8 (ix3 R h j') * a2 (ix2 R e') := by
  simp only [val_main_v0, val_main_v1, val_main_v2, val_main_v3, val_main_v83, val_main_v84, val_main_v85, val_main_v86, val_main_v87, val_main_v88, val_main_v89, val_main_v90, val_main_v91, val_main_v92, val_main_v93, val_main_v94, val_main_v95, val_main_v96, val_main_v97, val_main_v98, val_main_v101, val_main_v104, val_main_v105, val_main_v112, val_main_cst_12]
  generalize val_main_v82 (F := Ideal) a0 a4 a6 a8 = N
  pointwise
  rw [dif_pos (by omega), dif_neg h1, dif_pos h2]
  blk_point
theorem k_second (R : Fin 32768) (l : Fin 2048) (h : Fin 8) (j j' : Fin 192) (e e' : Fin 128) (hh : h.val = l.val / 256) (hj : j.val = l.val % 256)
    (hj' : j'.val = l.val % 256 - 32) (he : e.val = l.val % 256 - 160) (he' : e'.val = l.val % 256 - 128) (h1 : ¬ l.val % 256 < 128)
    (h2 : ¬ l.val % 256 - 128 < 32) (h3 : l.val % 256 < 192) :
    val_main_v112 (F := Ideal) a0 a1 a2 a4 a6 a8 (ix2 R l) = val_main_v82 (F := Ideal) a0 a4 a6 a8 (ix3 R h j) * a1 (ix2 R e)
      + val_main_v82 (F := Ideal) a0 a4 a6 a8 (ix3 R h j') * a2 (ix2 R e') := by
  simp only [val_main_v0, val_main_v1, val_main_v2, val_main_v3, val_main_v83, val_main_v84, val_main_v85, val_main_v86, val_main_v87, val_main_v88, val_main_v89, val_main_v90, val_main_v91, val_main_v92, val_main_v93, val_main_v94, val_main_v95, val_main_v96, val_main_v97, val_main_v98, val_main_v101, val_main_v104, val_main_v105, val_main_v112, val_main_cst_12]
  generalize val_main_v82 (F := Ideal) a0 a4 a6 a8 = N
  pointwise
  rw [dif_pos h3, dif_neg h1, dif_neg h2]
  blk_point
theorem k_zero (R : Fin 32768) (l : Fin 2048) (h3 : ¬ l.val % 256 < 192) :
    val_main_v112 (F := Ideal) a0 a1 a2 a4 a6 a8 (ix2 R l) = (0 : EReal) := by
  simp only [val_main_v0, val_main_v1, val_main_v2, val_main_v3, val_main_v83, val_main_v84, val_main_v85, val_main_v86, val_main_v87, val_main_v88, val_main_v89, val_main_v90, val_main_v91, val_main_v92, val_main_v93, val_main_v94, val_main_v95, val_main_v96, val_main_v97, val_main_v98, val_main_v101, val_main_v104, val_main_v105, val_main_v112, val_main_cst_12]
  generalize val_main_v82 (F := Ideal) a0 a4 a6 a8 = N
  pointwise
  rw [dif_neg h3]

theorem v_low (R : Fin 32768) (l j : Fin 2048) (hj : j.val = l.val / 256 * 256 + (128 + l.val % 256)) (h1 : l.val % 256 < 128) :
    val_main_v113 (F := Ideal) a0 a4 a6 (ix2 R l) = val_main_v34 (F := Ideal) a0 a4 a6 (ix2 R j) := by
  simp only [val_main_v35, val_main_v106, val_main_v107, val_main_v108, val_main_v109, val_main_v110, val_main_v113, val_main_cst_13, val_main_cst_14]
  generalize val_main_v34 (F := Ideal) a0 a4 a6 = K
  pointwise
  rw [dif_pos h1]
  blk_point
theorem v_high (R : Fin 32768) (l : Fin 2048) (h1 : ¬ l.val % 256 < 128) :
    val_main_v113 (F := Ideal) a0 a4 a6 (ix2 R l) = (if l.val % 128 = 0 then 1 else 0 : EReal) := by
  simp only [val_main_v35, val_main_v106, val_main_v107, val_main_v108, val_main_v109, val_main_v110, val_main_v113, val_main_cst_13, val_main_cst_14]
  generalize val_main_v34 (F := Ideal) a0 a4 a6 = K
  pointwise
  rw [dif_neg h1]
  split_ifs <;> first | rfl | omega

end Cert.PrepRefIdeal.Hand

end
-- ==== Proof.Proj.PrepMath.lean ====
/- The arithmetic between the two forms of the queries and keys: sums over padded heads, and factors taken into and out of sums. -/
module

public import proofs.«01_k».proof.Proof.Proj.PrepBody
public import proofs.«01_k».proof.Proof.Proj.PrepRef

@[expose] public section

set_option maxRecDepth 16384

noncomputable section

namespace Cert.PrepIdeal.Hand

open Cert.PrepIdeal Cert.PrepRefIdeal.Hand Idealize.ShloMosaic

theorem eps_pos : ∃ e : ℝ, 0 < e ∧ Ideal.ofBits FTy.f32 897988541#32 = (e : EReal) := by
  refine ⟨8796093 / 2 ^ 43, by positivity, ?_⟩
  simp [Ideal.ofBits, Ideal.ieee]; rw [← EReal.coe_mul]; norm_num

theorem scale_pos : ∃ e : ℝ, 0 < e ∧ scale = (e : EReal) := by
  refine ⟨13974421 / 2 ^ 27, by positivity, ?_⟩
  unfold scale
  simp [Ideal.ofBits, Ideal.ieee]; rw [← EReal.coe_mul]; norm_num

theorem width : Ideal.ofBits FTy.f32 1128267776#32 = ((192 : ℝ) : EReal) := by
  simp [Ideal.ofBits, Ideal.ieee]; rw [← EReal.coe_mul]; norm_num

theorem mean_eq (s : EReal) : s * (Named.named κ "inv_qk" 1001040555#32 : Ideal .f32) = Ideal.div s (Ideal.ofBits FTy.f32 1128267776#32) := by
  rw [show (Named.named κ "inv_qk" 1001040555#32 : Ideal .f32) = ((192⁻¹ : ℝ) : EReal) from
    IdealRules.named_const.ideal_named_scalar _ _ _ _ rfl, width]
  unfold Ideal.div
  rw [if_neg (by exact_mod_cast (by norm_num : (192 : ℝ) ≠ 0)), EReal.coe_inv]

theorem sq_nonneg' (x : EReal) : 0 ≤ x * x := by
  induction x with
  | bot => simp
  | top => simp
  | coe r => exact_mod_cast mul_self_nonneg r

/-- The inverse root mean square is a factor that may be taken into a sum. -/
theorem refInv_fin (x : Fin 192 → EReal) : 0 ≤ refInv x ∧ refInv x ≠ ⊤ := by
  obtain ⟨e, he, h⟩ := eps_pos
  unfold refInv
  rw [h, width]
  have hs : 0 ≤ ∑ j, x j * x j := Finset.sum_nonneg fun j _ => sq_nonneg' (x j)
  generalize (∑ j, x j * x j) = s at hs
  unfold Ideal.div
  rw [if_neg (by exact_mod_cast (by norm_num : (192 : ℝ) ≠ 0)), ← EReal.coe_inv]
  induction s with
  | bot => simp at hs
  | top =>
    rw [EReal.top_mul_coe_of_pos (by norm_num), EReal.top_add_coe]
    exact ⟨le_refl (0 : EReal), EReal.zero_ne_top⟩
  | coe r =>
    have hr : 0 ≤ r := by exact_mod_cast hs
    have hv : 0 < r * (192 : ℝ)⁻¹ + e := by positivity
    rw [← EReal.coe_mul, ← EReal.coe_add]
    rw [show Ideal.rsqrt ((r * (192 : ℝ)⁻¹ + e : ℝ) : EReal) = (((√(r * (192 : ℝ)⁻¹ + e))⁻¹ : ℝ) : EReal) from
      (if_neg (not_lt.mpr hv.le)).trans (if_neg hv.ne')]
    exact ⟨by exact_mod_cast inv_nonneg.mpr (Real.sqrt_nonneg _), EReal.coe_ne_top _⟩

/-- Two padded tiles hold the sum of squares of the 192 values of a head. -/
theorem inv_eq (a b : Fin 128 → EReal) (x : Fin 192 → EReal) (ha : ∀ k (j : Fin 192), j.val = k.val → a k = x j)
    (hb : ∀ k (j : Fin 192), j.val = 128 + k.val → b k = x j) (hz : ∀ k, 64 ≤ k.val → b k = 0) : inv a b = refInv x := by
  unfold inv refInv
  rw [mean_eq]
  have hs : (∑ j : Fin 192, x j * x j) = ∑ k, a k * a k + ∑ k, b k * b k := by
    have h1 : (∑ j : Fin 192, x j * x j) = ∑ k : Fin 128, x (Fin.castAdd 64 k) * x (Fin.castAdd 64 k) + ∑ k : Fin 64, x (Fin.natAdd 128 k) * x (Fin.natAdd 128 k) :=
      Fin.sum_univ_add (a := 128) (b := 64) fun j => x j * x j
    have h2 : (∑ k : Fin 128, b k * b k) = ∑ k : Fin 64, b (Fin.castAdd 64 k) * b (Fin.castAdd 64 k) + ∑ k : Fin 64, b (Fin.natAdd 64 k) * b (Fin.natAdd 64 k) :=
      Fin.sum_univ_add (a := 64) (b := 64) fun k => b k * b k
    have h3 : (∑ k : Fin 64, b (Fin.natAdd 64 k) * b (Fin.natAdd 64 k)) = 0 :=
      Finset.sum_eq_zero fun k _ => by rw [hz _ (by simp)]; exact mul_zero _
    rw [h1, h2, h3, add_zero]
    refine congrArg₂ (· + ·) (Finset.sum_congr rfl fun k _ => ?_) (Finset.sum_congr rfl fun k _ => ?_)
    · rw [ha k (Fin.castAdd 64 k) rfl]
    · rw [hb (Fin.castAdd 64 k) (Fin.natAdd 128 k) rfl]
  rw [hs]

/-- A lane whose sines are stored negated, its factor taken out of the difference. -/
theorem sub_out (x y s c s' f : EReal) (h : s' = -s) (h0 : 0 ≤ f) (h1 : f ≠ ⊤) :
    x * f * c + y * f * s' = (x * c - y * s) * f := by
  rw [h, sub_eq_add_neg, EReal.right_distrib_of_nonneg_of_ne_top h0 h1, mul_neg, mul_right_comm x, mul_right_comm y, EReal.neg_mul]
theorem add_out (x y s c f : EReal) (h0 : 0 ≤ f) (h1 : f ≠ ⊤) : x * f * c + y * f * s = (x * c + y * s) * f := by
  rw [EReal.right_distrib_of_nonneg_of_ne_top h0 h1, mul_right_comm x, mul_right_comm y]

/-- Which of its two neighbours a lane takes. -/
theorem turn_low (d : Fin 128) (u p q c s : EReal) (h : d.val / 32 % 2 = 0) : turn d u p q c s = u * c + p * s := by
  have hm : ∀ d : Fin 128, d.val / 32 % 2 = 0 → IntOp.cmpi CmpIPredicate.eq (IntOp.andi (BitVec.ofNat 32 d.val) 32#32) 0#32 = 1#1 := by decide +kernel
  unfold turn
  rw [hm d h]
  rfl
theorem turn_high (d : Fin 128) (u p q c s : EReal) (h : d.val / 32 % 2 = 1) : turn d u p q c s = u * c + q * s := by
  have hm : ∀ d : Fin 128, d.val / 32 % 2 = 1 → IntOp.cmpi CmpIPredicate.eq (IntOp.andi (BitVec.ofNat 32 d.val) 32#32) 0#32 = 0#1 := by decide +kernel
  unfold turn
  rw [hm d h]
  rfl

end Cert.PrepIdeal.Hand

end
-- ==== Proof.Proj.PrepHead.lean ====
/- The kernel's stored queries, keys and values of a row are the reference's, given what the blocks hold. -/
module

public import proofs.«01_k».proof.Proof.Proj.PrepMath

@[expose] public section

set_option maxRecDepth 16384

noncomputable section

namespace Cert.PrepIdeal.Hand

open Cert.PrepIdeal Cert.PrepRefIdeal.Hand Cert.PrepRefIdeal.Read Idealize.ShloMosaic

variable (a0 : S32768x1280.Idx → EReal) (a1 a2 : S32768x128.Idx → EReal) (a3 a4 : S512.Idx → EReal) (a5 : S512x1536.Idx → EReal)
  (a6 : S512x2048.Idx → EReal) (a7 a8 : S192.Idx → EReal)

theorem q_block (Q : S512x2048.Idx → EReal) (G₁ G₂ : S1x128.Idx → EReal) (C S : S512x128.Idx → EReal) (r : Fin 512) (R : Fin 32768)
    (hQ : ∀ (l : Fin 2048) (j : Fin 1536), l.val % 256 < 192 → j.val = l.val / 256 * 192 + l.val % 256 →
      Q (ix2 r l) = val_main_v18 (F := Ideal) a0 a3 a5 (ix2 R j))
    (hZ : ∀ l : Fin 2048, ¬ l.val % 256 < 192 → Q (ix2 r l) = 0)
    (hG₁ : ∀ (d : Fin 128) (j : Fin 192), j.val = d.val → G₁ (ix2 (0 : Fin 1) d) = a7 (ix1 j) * scale)
    (hG₂ : ∀ (d : Fin 128) (j : Fin 192), j.val = 128 + d.val → G₂ (ix2 (0 : Fin 1) d) = a7 (ix1 j) * scale)
    (hC : ∀ d, C (ix2 r d) = a1 (ix2 R d)) (hS : ∀ d, S (ix2 r d) = a2 (ix2 R d))
    (h₁ : ∀ d e : Fin 128, d.val < 32 → e.val = 32 + d.val → a1 (ix2 R d) = a1 (ix2 R e))
    (h₂ : ∀ d e : Fin 128, d.val < 32 → e.val = 32 + d.val → a2 (ix2 R d) = -a2 (ix2 R e)) (l : Fin 2048) :
    qAt Q G₁ G₂ C S r l = val_main_v111 (F := Ideal) a0 a1 a2 a3 a5 a7 (ix2 R l) := by
  have low : ∀ h (k : Fin 128) (j : Fin 192), j.val = k.val → lowQ Q r h k = rowQ a0 a3 a5 R h j := fun h k j hj =>
    hQ _ _ (by show (h.val * 256 + k.val) % 256 < 192; omega)
      (by show h.val * 192 + j.val = (h.val * 256 + k.val) / 256 * 192 + (h.val * 256 + k.val) % 256; omega)
  have high : ∀ h (k : Fin 128) (j : Fin 192), j.val = 128 + k.val → highQ Q r h k = rowQ a0 a3 a5 R h j := fun h k j hj =>
    hQ _ _ (by show (h.val * 256 + 128 + k.val) % 256 < 192; omega)
      (by show h.val * 192 + j.val = (h.val * 256 + 128 + k.val) / 256 * 192 + (h.val * 256 + 128 + k.val) % 256; omega)
  have zero : ∀ h (k : Fin 128), 64 ≤ k.val → highQ Q r h k = 0 := fun h k hk =>
    hZ _ (by show ¬ (h.val * 256 + 128 + k.val) % 256 < 192; omega)
  have hI : ∀ h, inv (lowQ Q r h) (highQ Q r h) = refInv (rowQ a0 a3 a5 R h) := fun h => inv_eq _ _ _ (low h) (high h) (zero h)
  have gain : ∀ h (d : Fin 128) (j : Fin 192), j.val = 128 + d.val →
      qGain Q G₂ r h d = val_main_v53 (F := Ideal) a0 a3 a5 a7 (ix3 R h j) * scale := fun h d j hj => by
    rw [qGain, hI, high h d j hj, hG₂ d j hj, v53_at, mul_assoc _ (a7 _)]
  have gain0 : ∀ h (d : Fin 128), 64 ≤ d.val → qGain Q G₂ r h d = 0 := fun h d hd => by
    rw [qGain, zero h d hd, zero_mul, zero_mul]
  have hs : 0 ≤ scale ∧ scale ≠ ⊤ := by
    obtain ⟨e, he, h⟩ := scale_pos
    rw [h]
    exact ⟨by exact_mod_cast he.le, EReal.coe_ne_top _⟩
  unfold qAt
  split
  · next hl =>
    rw [q_low a0 a1 a2 a3 a5 a7 R l (head l) ⟨l.val % 256, by omega⟩ rfl rfl hl, v53_at, qLow, hI,
      low (head l) (lane l) ⟨l.val % 256, by omega⟩ (by show l.val % 256 = l.val % 128; omega),
      hG₁ (lane l) ⟨l.val % 256, by omega⟩ (by show l.val % 256 = l.val % 128; omega), mul_assoc _ (a7 _)]
  · next hl =>
    unfold qHigh
    rw [hC, hS]
    by_cases h64 : l.val % 256 < 192
    · by_cases h32 : l.val % 256 - 128 < 32
      · rw [turn_low _ _ _ _ _ _ (by show l.val % 128 / 32 % 2 = 0; omega),
          gain _ (lane l) ⟨l.val % 256, h64⟩ (by show l.val % 256 = 128 + l.val % 128; omega),
          gain _ (up (lane l)) ⟨l.val % 256 + 32, by omega⟩ (by show l.val % 256 + 32 = 128 + (l.val % 128 + 32) % 128; omega),
          q_first a0 a1 a2 a3 a5 a7 R l (head l) ⟨l.val % 256, h64⟩ ⟨l.val % 256 + 32, by omega⟩ (lane l) ⟨l.val % 256 - 96, by omega⟩ rfl rfl rfl
            (by show l.val % 128 = l.val % 256 - 128; omega) rfl hl h32]
        exact sub_out _ _ _ _ _ _ (h₂ _ _ (by show l.val % 128 < 32; omega) (by show l.val % 256 - 96 = 32 + l.val % 128; omega)) hs.1 hs.2
      · rw [turn_high _ _ _ _ _ _ (by show l.val % 128 / 32 % 2 = 1; omega),
          gain _ (lane l) ⟨l.val % 256, h64⟩ (by show l.val % 256 = 128 + l.val % 128; omega),
          gain _ (down (lane l)) ⟨l.val % 256 - 32, by omega⟩ (by show l.val % 256 - 32 = 128 + (l.val % 128 + 96) % 128; omega),
          q_second a0 a1 a2 a3 a5 a7 R l (head l) ⟨l.val % 256, h64⟩ ⟨l.val % 256 - 32, by omega⟩ ⟨l.val % 256 - 160, by omega⟩ (lane l) rfl rfl rfl
            rfl (by show l.val % 128 = l.val % 256 - 128; omega) hl h32 h64,
          ← h₁ ⟨l.val % 256 - 160, by omega⟩ (lane l) (by show l.val % 256 - 160 < 32; omega) (by show l.val % 128 = 32 + (l.val % 256 - 160); omega)]
        exact add_out _ _ _ _ _ hs.1 hs.2
    · rw [q_zero a0 a1 a2 a3 a5 a7 R l h64, gain0 _ (lane l) (by show 64 ≤ l.val % 128; omega)]
      by_cases h32 : l.val % 128 / 32 % 2 = 0
      · rw [turn_low _ _ _ _ _ _ h32]
        by_cases h96 : l.val % 128 < 96
        · rw [gain0 _ (up (lane l)) (by show 64 ≤ (l.val % 128 + 32) % 128; omega), zero_mul, zero_mul, add_zero]
        · omega
      · rw [turn_high _ _ _ _ _ _ (by show l.val % 128 / 32 % 2 = 1; omega),
          gain0 _ (down (lane l)) (by show 64 ≤ (l.val % 128 + 96) % 128; omega), zero_mul, zero_mul, add_zero]

theorem k_block (K : S512x1024.Idx → EReal) (P : S512x128.Idx → EReal) (G₁ G₂ : S1x128.Idx → EReal) (C S : S512x128.Idx → EReal) (r : Fin 512)
    (R : Fin 32768)
    (hK : ∀ (l : Fin 1024) (j : Fin 2048), j.val = l.val / 128 * 256 + l.val % 128 →
      K (ix2 r l) = val_main_v34 (F := Ideal) a0 a4 a6 (ix2 R j))
    (hP : ∀ (k : Fin 128) (j : Fin 1280), j.val = 1024 + k.val → P (ix2 r k) = a0 (ix2 R j))
    (hG₁ : ∀ (d : Fin 128) (j : Fin 192), j.val = d.val → G₁ (ix2 (0 : Fin 1) d) = a8 (ix1 j))
    (hG₂ : ∀ (d : Fin 128) (j : Fin 192), j.val = 128 + d.val → G₂ (ix2 (0 : Fin 1) d) = a8 (ix1 j))
    (hC : ∀ d, C (ix2 r d) = a1 (ix2 R d)) (hS : ∀ d, S (ix2 r d) = a2 (ix2 R d))
    (h₁ : ∀ d e : Fin 128, d.val < 32 → e.val = 32 + d.val → a1 (ix2 R d) = a1 (ix2 R e))
    (h₂ : ∀ d e : Fin 128, d.val < 32 → e.val = 32 + d.val → a2 (ix2 R d) = -a2 (ix2 R e))
    (h₃ : ∀ j : Fin 1280, 1088 ≤ j.val → j.val < 1152 → a0 (ix2 R j) = 0) (l : Fin 2048) :
    kAt K P G₁ G₂ C S r l = val_main_v112 (F := Ideal) a0 a1 a2 a4 a6 a8 (ix2 R l) := by
  have low : ∀ h (k : Fin 128) (j : Fin 192), j.val = k.val → tile K r h k = rowK a0 a4 a6 R h j := fun h k j hj => by
    refine Eq.trans (hK _ (⟨h.val * 256 + j.val, by omega⟩ : Fin 2048) ?_) (by rw [rowK, dif_pos (show j.val < 128 by omega)])
    show h.val * 256 + j.val = (h.val * 128 + k.val) / 128 * 256 + (h.val * 128 + k.val) % 128
    omega
  have high : ∀ h (k : Fin 128) (j : Fin 192), j.val = 128 + k.val → P (ix2 r k) = rowK a0 a4 a6 R h j := fun h k j hj => by
    refine Eq.trans (hP k (⟨1024 + (j.val - 128), by omega⟩ : Fin 1280) ?_) (by rw [rowK, dif_neg (show ¬ j.val < 128 by omega)])
    show 1024 + (j.val - 128) = 1024 + k.val
    omega
  have zero : ∀ k : Fin 128, 64 ≤ k.val → P (ix2 r k) = 0 := fun k hk =>
    (hP k (⟨1024 + k.val, by omega⟩ : Fin 1280) rfl).trans (h₃ _ (by show 1088 ≤ 1024 + k.val; omega) (by show 1024 + k.val < 1152; omega))
  have hI : ∀ h, inv (tile K r h) (fun k => P (ix2 r k)) = refInv (rowK a0 a4 a6 R h) := fun h => inv_eq _ _ _ (low h) (high h) zero
  have gain : ∀ h (d : Fin 128) (j : Fin 192), j.val = 128 + d.val →
      kGain P G₂ r d * refInv (rowK a0 a4 a6 R h) = val_main_v82 (F := Ideal) a0 a4 a6 a8 (ix3 R h j) := fun h d j hj => by
    rw [kGain, high h d j hj, hG₂ d j hj, v82_at, mul_right_comm]
  have gain0 : ∀ d : Fin 128, 64 ≤ d.val → kGain P G₂ r d = 0 := fun d hd => by
    rw [kGain, zero d hd, zero_mul]
  unfold kAt
  split
  · next hl =>
    rw [k_low a0 a1 a2 a4 a6 a8 R l (head l) ⟨l.val % 256, by omega⟩ rfl rfl hl, v82_at, kLow, hI,
      low (head l) (lane l) ⟨l.val % 256, by omega⟩ (by show l.val % 256 = l.val % 128; omega),
      hG₁ (lane l) ⟨l.val % 256, by omega⟩ (by show l.val % 256 = l.val % 128; omega)]
  · next hl =>
    unfold kHigh
    rw [hC, hS, hI]
    have hs := refInv_fin (rowK a0 a4 a6 R (head l))
    by_cases h64 : l.val % 256 < 192
    · by_cases h32 : l.val % 256 - 128 < 32
      · rw [turn_low _ _ _ _ _ _ (by show l.val % 128 / 32 % 2 = 0; omega),
          k_first a0 a1 a2 a4 a6 a8 R l (head l) ⟨l.val % 256, h64⟩ ⟨l.val % 256 + 32, by omega⟩ (lane l) ⟨l.val % 256 - 96, by omega⟩ rfl rfl rfl
            (by show l.val % 128 = l.val % 256 - 128; omega) rfl hl h32,
          ← gain _ (lane l) ⟨l.val % 256, h64⟩ (by show l.val % 256 = 128 + l.val % 128; omega),
          ← gain _ (up (lane l)) ⟨l.val % 256 + 32, by omega⟩ (by show l.val % 256 + 32 = 128 + (l.val % 128 + 32) % 128; omega),
          ← add_out _ _ _ _ _ hs.1 hs.2, sub_eq_add_neg, ← mul_neg,
          ← h₂ (lane l) ⟨l.val % 256 - 96, by omega⟩ (by show l.val % 128 < 32; omega) (by show l.val % 256 - 96 = 32 + l.val % 128; omega)]
      · rw [turn_high _ _ _ _ _ _ (by show l.val % 128 / 32 % 2 = 1; omega),
          k_second a0 a1 a2 a4 a6 a8 R l (head l) ⟨l.val % 256, h64⟩ ⟨l.val % 256 - 32, by omega⟩ ⟨l.val % 256 - 160, by omega⟩ (lane l) rfl rfl rfl
            rfl (by show l.val % 128 = l.val % 256 - 128; omega) hl h32 h64,
          ← gain _ (lane l) ⟨l.val % 256, h64⟩ (by show l.val % 256 = 128 + l.val % 128; omega),
          ← gain _ (down (lane l)) ⟨l.val % 256 - 32, by omega⟩ (by show l.val % 256 - 32 = 128 + (l.val % 128 + 96) % 128; omega),
          ← add_out _ _ _ _ _ hs.1 hs.2,
          h₁ ⟨l.val % 256 - 160, by omega⟩ (lane l) (by show l.val % 256 - 160 < 32; omega) (by show l.val % 128 = 32 + (l.val % 256 - 160); omega)]
    · rw [k_zero a0 a1 a2 a4 a6 a8 R l h64, gain0 (lane l) (by show 64 ≤ l.val % 128; omega)]
      by_cases h32 : l.val % 128 / 32 % 2 = 0
      · rw [turn_low _ _ _ _ _ _ h32, gain0 (up (lane l)) (by show 64 ≤ (l.val % 128 + 32) % 128; omega), zero_mul, zero_mul, add_zero, zero_mul]
      · rw [turn_high _ _ _ _ _ _ (by show l.val % 128 / 32 % 2 = 1; omega),
          gain0 (down (lane l)) (by show 64 ≤ (l.val % 128 + 96) % 128; omega), zero_mul, zero_mul, add_zero, zero_mul]

theorem v_block (V : S512x1024.Idx → EReal) (r : Fin 512) (R : Fin 32768)
    (hV : ∀ (l : Fin 1024) (j : Fin 2048), j.val = l.val / 128 * 256 + (128 + l.val % 128) →
      V (ix2 r l) = val_main_v34 (F := Ideal) a0 a4 a6 (ix2 R j)) (l : Fin 2048) :
    vAt V r l = val_main_v113 (F := Ideal) a0 a4 a6 (ix2 R l) := by
  unfold vAt
  split
  · next hl =>
    rw [v_low a0 a4 a6 R l ⟨l.val / 256 * 256 + (128 + l.val % 256), by omega⟩ rfl hl]
    refine hV _ _ ?_
    show l.val / 256 * 256 + (128 + l.val % 256) = (l.val / 256 * 128 + l.val % 128) / 128 * 256 + (128 + (l.val / 256 * 128 + l.val % 128) % 128)
    omega
  · next hl =>
    rw [v_high a0 a4 a6 R l hl]
    have hm : ∀ d : Fin 128, IntOp.cmpi CmpIPredicate.eq (BitVec.ofNat 32 d.val) 0#32 = if d.val = 0 then 1#1 else 0#1 := by decide +kernel
    rw [hm]
    show Scalar.select (if l.val % 128 = 0 then 1#1 else 0#1) 1 0 = if l.val % 128 = 0 then (1 : EReal) else 0
    split <;> rfl

end Cert.PrepIdeal.Hand

end
-- ==== Proof.Proj.PrepPre.lean ====
/- What the precondition on the rotation tables says: the cosines are stored twice, the sines once with each sign, and the columns behind the shared keys are zero. -/
module

public import proofs.«01_k».proof.Proof.Attn.Pre
public import proofs.«01_k».proof.Pre_rotary_tables

@[expose] public section

set_option maxRecDepth 16384

noncomputable section

namespace Cert.Pre_rotary_tables.Hand

open Cert.Pre_rotary_tables Cert.Pre_finite_scores.Hand
open Idealize.ShloMosaic Idealize.ShloMosaic.TcCoe Idealize.ShloMosaic.Pointwise

/-- The precondition's side conditions hold. -/
instance facts : Cert.Pre_rotary_tables.Facts where
  slices_S32768x128_S32768x32_0_0 := by decide
  slices_S32768x128_S32768x32_0_32 := by decide
  reducesTo_S32768x32_S_d0_1 := by decide
  h_S_ := by decide
  slices_S32768x1280_S32768x64_0_1088 := by decide
  bcast_S_S32768x64 := by decide
  reducesTo_S32768x64_S_d0_1 := by decide

theorem facts_of (P : FVec Ideal S32768x1280 .f32) (C S : FVec Ideal S32768x128 .f32) (a3 a4 : FVec Ideal S512 .f32)
    (a5 : FVec Ideal S512x1536 .f32) (a6 : FVec Ideal S512x2048 .f32) (a7 a8 : FVec Ideal S192 .f32)
    (h : fn (F := Ideal) P C S a3 a4 a5 a6 a7 a8 = fun _ => 1#1) :
    (∀ (R : Fin 32768) (d e : Fin 128), d.val < 32 → e.val = 32 + d.val → (C (ix2 R d) : EReal) = C (ix2 R e))
      ∧ (∀ (R : Fin 32768) (d e : Fin 128), d.val < 32 → e.val = 32 + d.val → (S (ix2 R d) : EReal) = -(S (ix2 R e) : EReal))
      ∧ ∀ (R : Fin 32768) (j : Fin 1280), 1088 ≤ j.val → j.val < 1152 → P (ix2 R j) = (0 : EReal) := by
  have h0 := congrFun h (fun a => a.elim0)
  dsimp only [fn] at h0
  obtain ⟨h1, h3⟩ := and_one h0
  obtain ⟨h1, h2⟩ := and_one h1
  refine ⟨fun R d e hd he => ?_, fun R d e hd he => ?_, fun R j hj hj' => ?_⟩
  · have h4 := eq_of_cmp (Host.reduce_andi_all _ _ _ _ _ h1 (ix2 R ⟨d.val, hd⟩))
    rw [extractStridedSlice_apply ![0, 0] _ _ _ (ix2 R d) (fun a => match a with
        | ⟨0, _⟩ => by show R.val = 0 + R.val; omega
        | ⟨1, _⟩ => by show d.val = 0 + d.val; omega),
      extractStridedSlice_apply ![0, 32] _ _ _ (ix2 R e) (fun a => match a with
        | ⟨0, _⟩ => by show R.val = 0 + R.val; omega
        | ⟨1, _⟩ => by show e.val = 32 + d.val; omega)] at h4
    exact h4
  · have h4 := eq_of_cmp (Host.reduce_andi_all _ _ _ _ _ h2 (ix2 R ⟨d.val, hd⟩))
    rw [extractStridedSlice_apply ![0, 0] _ _ _ (ix2 R d) (fun a => match a with
        | ⟨0, _⟩ => by show R.val = 0 + R.val; omega
        | ⟨1, _⟩ => by show d.val = 0 + d.val; omega)] at h4
    refine h4.trans (congrArg (fun x : EReal => -x) ?_)
    exact extractStridedSlice_apply ![0, 32] _ _ _ (ix2 R e) (fun a => match a with
        | ⟨0, _⟩ => by show R.val = 0 + R.val; omega
        | ⟨1, _⟩ => by show e.val = 32 + d.val; omega)
  · have h4 := eq_of_cmp (Host.reduce_andi_all _ _ _ _ _ h3 (ix2 R (⟨j.val - 1088, by omega⟩ : Fin 64)))
    rw [extractStridedSlice_apply ![0, 1088] _ _ _ (ix2 R j) (fun a => match a with
        | ⟨0, _⟩ => by show R.val = 0 + R.val; omega
        | ⟨1, _⟩ => by show j.val = 1088 + (j.val - 1088); omega)] at h4
    refine h4.trans ?_
    show Ideal.ofBits .f32 0x00000000#32 = (0 : EReal)
    simp [Ideal.ofBits, Ideal.ieee]

end Cert.Pre_rotary_tables.Hand

end
-- ==== Proof.Proj.PrepEq.lean ====
/- The three arrays the projection program leaves are the reference's. -/
module

public import proofs.«01_k».proof.Proof.Proj.Prep
public import proofs.«01_k».proof.Proof.Proj.PrepHead
public import proofs.«01_k».proof.Proof.Proj.PrepPre

@[expose] public section

set_option maxRecDepth 16384

noncomputable section

namespace Cert.PrepIdeal.Hand

open Cert.PrepIdeal Cert.PrepIdeal.Gen Cert.PrepRefIdeal.Read Idealize.ShloMosaic Idealize.ShloMosaic.TcCoe Idealize.SL.Sem

variable (m : (ℓ : Loc nD τ sig) → Buf (Elt Ideal) ℓ)

/-- The place of element `(r, l)` of the block at point `t`. -/
theorem place_14 (t : Fin cfg0.N) (y : ((cfg0.win 14).xblock (cfg0.grid.coords t)).Idx) :
    ((cfg0.win 14).blk t).view.emb y = ix2 (row t (y 0)) (y 1 : Fin 2048) := by
  obtain ⟨i0, i1, i2, i3, i4, i14, i15, i16⟩ := index_rows t
  blk_ext [i14, row]
theorem place_15 (t : Fin cfg0.N) (y : ((cfg0.win 15).xblock (cfg0.grid.coords t)).Idx) :
    ((cfg0.win 15).blk t).view.emb y = ix2 (row t (y 0)) (y 1 : Fin 2048) := by
  obtain ⟨i0, i1, i2, i3, i4, i14, i15, i16⟩ := index_rows t
  blk_ext [i15, row]
theorem place_16 (t : Fin cfg0.N) (y : ((cfg0.win 16).xblock (cfg0.grid.coords t)).Idx) :
    ((cfg0.win 16).blk t).view.emb y = ix2 (row t (y 0)) (y 1 : Fin 2048) := by
  obtain ⟨i0, i1, i2, i3, i4, i14, i15, i16⟩ := index_rows t
  blk_ext [i16, row]

theorem q_eq (c : Dev nD)
    (hp : Cert.Pre_rotary_tables.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = fun _ => 1#1) :
    (dats m 0 c).arrAt 14 cfg0.N = val_main_v111 (F := Ideal) (m ((c : Thread nD τ).loc main_arg0)) (m ((c : Thread nD τ).loc main_arg1))
      (m ((c : Thread nD τ).loc main_arg2)) (m ((c : Thread nD τ).loc main_arg3)) (m ((c : Thread nD τ).loc main_arg5))
      (m ((c : Thread nD τ).loc main_arg7)) := by
  obtain ⟨h₁, h₂, -⟩ := Cert.Pre_rotary_tables.Hand.facts_of _ _ _ _ _ _ _ _ _ hp
  refine (dats m 0 c).arrAt_eq_of_covers 14 _ (by decide +kernel) fun t hf y => ?_
  rw [place_14]
  refine Eq.trans ?_ (q_block _ _ _ _ _ _ _ (iblk m c 10 t) (iblk m c 11 t) _ _ (y 0) (row t (y 0)) (fun l j => q_proj m c t (y 0) l j) (fun l => q_pad m c t (y 0) l)
    (fun d j hj => ?_) (fun d j hj => ?_) (fun d => in_3 m c t (y 0) d) (fun d => in_4 m c t (y 0) d)
    (fun d e => h₁ _ d e) (fun d e => h₂ _ d e) (y 1))
  · blk_simp
    rw [after0_14]
    exact body_14 m c t _
  · rw [show j = ⟨d.val, by omega⟩ from Fin.ext hj]
    exact in_10 m c t d
  · by_cases hd : d.val < 64
    · rw [show j = ⟨128 + d.val, by omega⟩ from Fin.ext hj]
      exact (in_11 m c t d).trans (dif_pos hd)
    · omega

theorem k_eq (c : Dev nD)
    (hp : Cert.Pre_rotary_tables.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) = fun _ => 1#1) :
    (dats m 0 c).arrAt 15 cfg0.N = val_main_v112 (F := Ideal) (m ((c : Thread nD τ).loc main_arg0)) (m ((c : Thread nD τ).loc main_arg1))
      (m ((c : Thread nD τ).loc main_arg2)) (m ((c : Thread nD τ).loc main_arg4)) (m ((c : Thread nD τ).loc main_arg6))
      (m ((c : Thread nD τ).loc main_arg8)) := by
  obtain ⟨h₁, h₂, h₃⟩ := Cert.Pre_rotary_tables.Hand.facts_of _ _ _ _ _ _ _ _ _ hp
  refine (dats m 0 c).arrAt_eq_of_covers 15 _ (by decide +kernel) fun t hf y => ?_
  rw [place_15]
  refine Eq.trans ?_ (k_block _ _ _ _ _ _ _ (iblk m c 2 t) (iblk m c 12 t) (iblk m c 13 t) _ _ (y 0) (row t (y 0)) (fun l j => k_proj m c t (y 0) l j)
    (fun k j hj => ?_) (fun d j hj => ?_) (fun d j hj => ?_) (fun d => in_3 m c t (y 0) d) (fun d => in_4 m c t (y 0) d)
    (fun d e => h₁ _ d e) (fun d e => h₂ _ d e) (fun j => h₃ _ j) (y 1))
  · blk_simp
    rw [after0_15]
    exact body_15 m c t _
  · rw [show j = ⟨1024 + k.val, by omega⟩ from Fin.ext hj]
    exact in_2 m c t (y 0) k
  · rw [show j = ⟨d.val, by omega⟩ from Fin.ext hj]
    exact in_12 m c t d
  · by_cases hd : d.val < 64
    · rw [show j = ⟨128 + d.val, by omega⟩ from Fin.ext hj]
      exact (in_13 m c t d).trans (dif_pos hd)
    · omega

theorem v_eq (c : Dev nD) :
    (dats m 0 c).arrAt 16 cfg0.N = val_main_v113 (F := Ideal) (m ((c : Thread nD τ).loc main_arg0)) (m ((c : Thread nD τ).loc main_arg4))
      (m ((c : Thread nD τ).loc main_arg6)) := by
  refine (dats m 0 c).arrAt_eq_of_covers 16 _ (by decide +kernel) fun t hf y => ?_
  rw [place_16]
  refine Eq.trans ?_ (v_block _ _ _ _ (y 0) (row t (y 0)) (fun l j => v_proj m c t (y 0) l j) (y 1))
  blk_simp
  rw [after0_16]
  exact body_16 m c t _

end Cert.PrepIdeal.Hand

end
-- ==== Proof.Proj.Rope.lean ====
/- The tables of the rotary embedding: the kernel's two arrays are the reference's. -/
module

public import proofs.«01_k».proof.Proof.Gen.RopeIdeal.Frame
public import proofs.«01_k».proof.Proof.Gen.RopeRefIdeal.Read
public import Idealize.ShloMosaic.Lib.Pipeline.ValueKit
public import Idealize.ShloMosaic.Lib.StableHlo.ReadAt

@[expose] public section

set_option maxRecDepth 16384

noncomputable section

namespace Cert.RopeIdeal.Hand

open Cert.RopeIdeal Cert.RopeIdeal.Gen Cert.RopeRefIdeal.Read Idealize.ShloMosaic Idealize.ShloMosaic.TcCoe Idealize.SL.Sem

variable (m : (ℓ : Loc nD τ sig) → Buf (Elt Ideal) ℓ)

/-- The kernel's run: it leaves the two tables in its result arrays and the positions as they were. -/
theorem run_blocks (ρ : Dev nD → PrngReg) : θ_run defs (onTc (τ := τ) (main (F := Ideal))) ⟨m, fun _ => 0, ρ⟩ fun r => ∀ c : Dev nD,
      r.2.mem ((c : Thread nD τ).loc main_v24_0) = (dats m 0 c).arrAt 3 cfg0.N
      ∧ r.2.mem ((c : Thread nD τ).loc main_v24_1) = (dats m 0 c).arrAt 4 cfg0.N
      ∧ r.2.mem ((c : Thread nD τ).loc main_arg0) = m ((c : Thread nD τ).loc main_arg0) :=
  (θ_run defs _ _).mono (fun _ h c => ⟨(h c).1 3, (h c).1 4,
      ((h c).2 main_arg0 (Pipeline.mem_restRefs_of main_arg0 (by decide) (by decide))).trans (V_main_arg0 m c)⟩)
    (run_main m ρ)

theorem index_eq : ∀ t : Fin cfg0.N, (cfg0.win 0).index t = ![t.val, 0] ∧ (cfg0.win 1).index t = ![0, 0]
    ∧ (cfg0.win 2).index t = ![0, 0] ∧ (cfg0.win 3).index t = ![t.val, 0] ∧ (cfg0.win 4).index t = ![t.val, 0] := by decide +kernel

/-- A value chosen by a condition, shown equal to `v` in both cases. -/
theorem dite_eq_of_forall {q : Prop} [Decidable q] {a : q → EReal} {b : ¬q → EReal} {v : EReal} (h₁ : ∀ h, a h = v) (h₂ : ∀ h, b h = v) :
    dite q a b = v := by
  by_cases h : q
  · rw [dif_pos h, h₁]
  · rw [dif_neg h, h₂]

theorem V_v14 (c : Dev nD) (l : Fin 128) : V m c main_v14 (ix2 (0 : Fin 1) l)
    = val_main_v10 (F := Ideal) (ix1 (⟨l.val % 32, by omega⟩ : Fin 32)) := by
  unfold V
  after_reads_at
  simp only [val_main_v10, val_main_v9, val_main_v8, val_main_v7, val_main_v6, val_main_v5, val_main_v4, val_main_v3, val_main_v2, val_main_v1,
    val_main_v0, val_main_cst, val_main_cst_0, val_main_cst_1, val_main_cst_2, val_main_cst_3]
  pointwise

theorem V_v22 (c : Dev nD) (l : Fin 128) : V m c main_v22 (ix2 (0 : Fin 1) l)
    = (if l.val % 64 < 32 then (-1 : EReal) else (1 : EReal)) := by
  unfold V
  after_reads_at
  by_cases h : l.val % 64 < 32
  · refine (dif_pos h).trans (Eq.trans ?_ (if_pos h).symm)
    after_reads_at
  · refine (dif_neg h).trans (Eq.trans ?_ (if_neg h).symm)
    after_reads_at

theorem V_v23 (c : Dev nD) (r : Fin 32768) : V m c main_v23 (ix2 r (0 : Fin 1))
    = m ((c : Thread nD τ).loc main_arg0) (ix2 (⟨r.val / 4096, by omega⟩ : Fin 8) (⟨r.val % 4096, by omega⟩ : Fin 4096)) := by
  unfold V
  after_reads_at

/-- The angle of row `r` at column `l`: the position times the frequency. -/
def ang (p : (⟨S8x4096, .i32⟩ : BufTy).Contents (Elt Ideal)) (r : Fin 32768) (l : Fin 128) : EReal :=
  HMul.hMul (α := EReal) (β := EReal) (γ := EReal)
    (FloatOps.sitofp (F := Ideal) FTy.f32 (p (ix2 (⟨r.val / 4096, by omega⟩ : Fin 8) (⟨r.val % 4096, by omega⟩ : Fin 4096))))
    (val_main_v10 (F := Ideal) (ix1 (⟨l.val % 32, by omega⟩ : Fin 32)))

/-- The angle, from the column inside its quarter. -/
theorem ang_eq (p : (⟨S8x4096, .i32⟩ : BufTy).Contents (Elt Ideal)) (r : Fin 32768) (l : Fin 128) (k : Fin 32) (hk : l.val % 32 = k.val) :
    HMul.hMul (α := EReal) (β := EReal) (γ := EReal)
      (FloatOps.sitofp (F := Ideal) FTy.f32 (p (ix2 (⟨r.val / 4096, by omega⟩ : Fin 8) (⟨r.val % 4096, by omega⟩ : Fin 4096))))
      (val_main_v10 (F := Ideal) (ix1 k)) = ang p r l := by
  unfold ang
  rw [show k = ⟨l.val % 32, by omega⟩ from Fin.ext hk.symm]

theorem ref_cos (p : (⟨S8x4096, .i32⟩ : BufTy).Contents (Elt Ideal)) (r : Fin 32768) (l : Fin 128) :
    val_main_v21 (F := Ideal) p (ix2 r l) = Ideal.cos (ang p r l) := by
  simp only [val_main_v21, val_main_v18, val_main_v17, val_main_v16, val_main_v15, val_main_v14, val_main_v13, val_main_v12, val_main_v11]
  pointwise
  repeat' refine dite_eq_of_forall (fun h => ?_) fun h => ?_
  all_goals
    refine congrArg Ideal.cos (ang_eq p r l _ ?_)
    dsimp only
    omega

/-- A factor of one or minus one. -/
theorem mul_sign (a : EReal) (q : Prop) [Decidable q] :
    HMul.hMul (α := EReal) (β := EReal) (γ := EReal) a (if q then (-1 : EReal) else (1 : EReal)) = if q then -a else a := by
  split_ifs
  · rw [mul_neg, mul_one]
  · rw [mul_one]

/-- The reference's sine table: the first half of each head's columns is negated. -/
theorem ref_sin (p : (⟨S8x4096, .i32⟩ : BufTy).Contents (Elt Ideal)) (r : Fin 32768) (l : Fin 128) :
    val_main_v24 (F := Ideal) p (ix2 r l) = HMul.hMul (α := EReal) (β := EReal) (γ := EReal) (Ideal.sin (ang p r l))
      (if l.val % 64 < 32 then (-1 : EReal) else (1 : EReal)) := by
  refine Eq.trans ?_ (mul_sign _ _).symm
  simp only [val_main_v24, val_main_v23, val_main_v22, val_main_v20, val_main_v19, val_main_v16, val_main_v15, val_main_v14, val_main_v13, val_main_v12, val_main_v11]
  pointwise
  by_cases hl : l.val % 64 < 32
  · refine Eq.trans ?_ (if_pos hl).symm
    repeat' refine dite_eq_of_forall (fun h => ?_) fun h => ?_
    all_goals first
      | omega
      | refine congrArg (fun a : EReal => -Ideal.sin a) (ang_eq p r l _ ?_)
        dsimp only
        omega
  · refine Eq.trans ?_ (if_neg hl).symm
    repeat' refine dite_eq_of_forall (fun h => ?_) fun h => ?_
    all_goals first
      | omega
      | refine congrArg Ideal.sin (ang_eq p r l _ ?_)
        dsimp only
        omega

/-- Row `r` of block `t`. -/
theorem row_lt (t : Fin cfg0.N) (r : Fin 1024) : t.val * 1024 + r.val < 32768 := by
  have ht : t.val < 32 := t.isLt
  omega
def row (t : Fin cfg0.N) (r : Fin 1024) : Fin 32768 := ⟨t.val * 1024 + r.val, row_lt t r⟩

theorem in_0 (c : Dev nD) (t : Fin cfg0.N) (r : Fin 1024) : iblk m c 0 t (ix2 r (0 : Fin 1))
    = m ((c : Thread nD τ).loc main_arg0) (ix2 (⟨(row t r).val / 4096, by omega⟩ : Fin 8) (⟨(row t r).val % 4096, by omega⟩ : Fin 4096)) := by
  obtain ⟨i0, i1, i2, i3, i4⟩ := index_eq t
  refine Eq.trans (b := V m c main_v23 (ix2 (row t r) (0 : Fin 1))) ?_ (V_v23 m c (row t r))
  blk_ext [iblk, i0, row]
theorem in_1 (c : Dev nD) (t : Fin cfg0.N) (l : Fin 128) : iblk m c 1 t (ix2 (0 : Fin 1) l)
    = val_main_v10 (F := Ideal) (ix1 (⟨l.val % 32, by omega⟩ : Fin 32)) := by
  obtain ⟨i0, i1, i2, i3, i4⟩ := index_eq t
  refine Eq.trans (b := V m c main_v14 (ix2 (0 : Fin 1) l)) ?_ (V_v14 m c l)
  blk_ext [iblk, i1]
theorem in_2 (c : Dev nD) (t : Fin cfg0.N) (l : Fin 128) : iblk m c 2 t (ix2 (0 : Fin 1) l)
    = (if l.val % 64 < 32 then (-1 : EReal) else (1 : EReal)) := by
  obtain ⟨i0, i1, i2, i3, i4⟩ := index_eq t
  refine Eq.trans (b := V m c main_v22 (ix2 (0 : Fin 1) l)) ?_ (V_v22 m c l)
  blk_ext [iblk, i2]

theorem place_3 (t : Fin cfg0.N) (y : ((cfg0.win 3).xblock (cfg0.grid.coords t)).Idx) :
    ((cfg0.win 3).blk t).view.emb y = ix2 (row t (y 0)) (y 1 : Fin 128) := by
  obtain ⟨i0, i1, i2, i3, i4⟩ := index_eq t
  blk_ext [i3, row]
theorem place_4 (t : Fin cfg0.N) (y : ((cfg0.win 4).xblock (cfg0.grid.coords t)).Idx) :
    ((cfg0.win 4).blk t).view.emb y = ix2 (row t (y 0)) (y 1 : Fin 128) := by
  obtain ⟨i0, i1, i2, i3, i4⟩ := index_eq t
  blk_ext [i4, row]

/-- The kernel's cosine table is the reference's. -/
theorem cos_eq (c : Dev nD) :
    (dats m 0 c).arrAt 3 cfg0.N = val_main_v21 (F := Ideal) (m ((c : Thread nD τ).loc main_arg0)) := by
  refine (dats m 0 c).arrAt_eq_of_covers 3 _ (by decide +kernel) fun t hf y => ?_
  rw [place_3]
  refine Eq.trans ?_ (ref_cos _ (row t (y 0)) (y 1)).symm
  blk_simp
  rw [after0_3]
  frame_out
  simp only [k0_pay1, k0_pay2]
  pointwise
  exact congrArg Ideal.cos (congrArg₂ (HMul.hMul (α := EReal) (β := EReal) (γ := EReal)) (congrArg (FloatOps.sitofp (F := Ideal) FTy.f32) (in_0 m c t (y 0))) (in_1 m c t (y 1)))

/-- The kernel's sine table is the reference's. -/
theorem sin_eq (c : Dev nD) :
    (dats m 0 c).arrAt 4 cfg0.N = val_main_v24 (F := Ideal) (m ((c : Thread nD τ).loc main_arg0)) := by
  refine (dats m 0 c).arrAt_eq_of_covers 4 _ (by decide +kernel) fun t hf y => ?_
  rw [place_4]
  refine Eq.trans ?_ (ref_sin _ (row t (y 0)) (y 1)).symm
  blk_simp
  rw [after0_4]
  frame_out
  simp only [k0_pay1, k0_pay3]
  pointwise
  exact congrArg₂ (HMul.hMul (α := EReal) (β := EReal) (γ := EReal)) (congrArg Ideal.sin (congrArg₂ (HMul.hMul (α := EReal) (β := EReal) (γ := EReal)) (congrArg (FloatOps.sitofp (F := Ideal) FTy.f32) (in_0 m c t (y 0))) (in_1 m c t (y 1)))) (in_2 m c t (y 1))

end Cert.RopeIdeal.Hand

end
-- ==== Proof.Proj.Regroup.lean ====
/- The fused projection's weights in the order the kernels read them: the kernel's array is the reference's. -/
module

public import proofs.«01_k».proof.Proof.Gen.RegroupIdeal.Value
public import proofs.«01_k».proof.Proof.Gen.RegroupRefIdeal.Read
public import Idealize.ShloMosaic.Lib.Pipeline.ValueKit
public import Idealize.ShloMosaic.Lib.StableHlo.ReadAt

@[expose] public section

set_option maxRecDepth 16384

noncomputable section

namespace Cert.RegroupIdeal.Hand

open Cert.RegroupIdeal Cert.RegroupIdeal.Gen Cert.RegroupRefIdeal.Read Idealize.ShloMosaic Idealize.ShloMosaic.TcCoe Idealize.SL.Sem
open Cert.RegroupRefIdeal (S2048x14416 S2048x512 S2048x256 S2048x64 S2048x80)

variable (m : (ℓ : Loc nD τ sig) → Buf (Elt Ideal) ℓ)

theorem index_eq : ∀ t : Fin cfg0.N, (cfg0.win 0).index t = ![0, t.val, 0] ∧ (cfg0.win 1).index t = ![t.val, 0] := by decide +kernel

/-- The column of the given weights that column `l` of the result holds (14416, one past the last, where it holds zero). -/
def src (l : Nat) : Nat :=
  if l < 6144 then 8272 + l
  else if l < 8192 then l - 4032
  else if l < 10240 then l - 3008
  else if l < 10752 then 14416
  else if l < 11776 then l - 9664
  else if l < 12800 then l - 7616
  else if l < 13824 then l - 5552
  else if l < 14080 then 14416
  else if l < 15168 then l - 14080
  else if l < 15232 then 14416
  else if l < 15248 then l - 8000
  else if l < 15264 then l - 8016
  else if l < 15280 then l - 8032
  else 14416

/-- A choice by a bound, shown equal to `k` on both sides of the bound. -/
theorem bound_step {a l x y k : Nat} (h₁ : l < a → x = k) (h₂ : a ≤ l → y = k) : (if l < a then x else y) = k := by
  by_cases h : l < a
  · rw [if_pos h, h₁ h]
  · rw [if_neg h, h₂ (Nat.le_of_not_lt h)]

/-- The source column, range by range. -/
theorem src_eq {l k : Nat} (h0 : l < 6144 → 8272 + l = k) (h1 : 6144 ≤ l → l < 8192 → l - 4032 = k) (h2 : 8192 ≤ l → l < 10240 → l - 3008 = k) (h3 : 10240 ≤ l → l < 10752 → 14416 = k)
    (h4 : 10752 ≤ l → l < 11776 → l - 9664 = k) (h5 : 11776 ≤ l → l < 12800 → l - 7616 = k) (h6 : 12800 ≤ l → l < 13824 → l - 5552 = k) (h7 : 13824 ≤ l → l < 14080 → 14416 = k)
    (h8 : 14080 ≤ l → l < 15168 → l - 14080 = k) (h9 : 15168 ≤ l → l < 15232 → 14416 = k) (h10 : 15232 ≤ l → l < 15248 → l - 8000 = k) (h11 : 15248 ≤ l → l < 15264 → l - 8016 = k) (h12 : 15264 ≤ l → l < 15280 → l - 8032 = k) (h13 : 15280 ≤ l → 14416 = k) : src l = k :=
  bound_step h0 fun g => bound_step (h1 g) fun g => bound_step (h2 g) fun g => bound_step (h3 g) fun g => bound_step (h4 g) fun g => bound_step (h5 g) fun g => bound_step (h6 g) fun g => bound_step (h7 g) fun g => bound_step (h8 g) fun g => bound_step (h9 g) fun g => bound_step (h10 g) fun g => bound_step (h11 g) fun g => bound_step (h12 g) h13

/-- Column `l` of a row of the result, from that row of the given weights. -/
def colAt (f : Fin 14416 → EReal) (l : Nat) : EReal := if h : src l < 14416 then f ⟨src l, h⟩ else 0

theorem col_piece (f : Fin 14416 → EReal) (l : Nat) (k : Fin 14416) (h : src l = k.val) : f k = colAt f l := by
  have hk := k.isLt
  rw [colAt, dif_pos (show src l < 14416 by omega)]
  exact congrArg f (Fin.ext h.symm)

theorem col_zero (f : Fin 14416 → EReal) (l : Nat) (h : src l = 14416) : (0 : EReal) = colAt f l := by
  rw [colAt, dif_neg (show ¬ src l < 14416 by omega)]

/-- A value chosen by a condition, shown equal to `v` in both cases. -/
theorem dite_eq_of_forall {q : Prop} [Decidable q] {a : q → EReal} {b : ¬q → EReal} {v : EReal} (h₁ : ∀ h, a h = v) (h₂ : ∀ h, b h = v) :
    dite q a b = v := by
  by_cases h : q
  · rw [dif_pos h, h₁]
  · rw [dif_neg h, h₂]

theorem v1_at (w : (⟨S2x2048x14416, .f32⟩ : BufTy).Contents (Elt Ideal)) (r : Fin 2048) (l : Fin 14416) :
    val_main_v1 (F := Ideal) w (ix2 r l) = w (ix3 (0 : Fin 2) r l) := by
  unfold val_main_v1 val_main_v0
  pointwise

/-- A slice of the given weights' columns, read at a column of the result. -/
theorem slice_piece {n : Nat} (o : Nat) (hs : S2048x14416.Slices ![0, o] (⟨2, ![2048, n]⟩ : Shape)) (w : (⟨S2x2048x14416, .f32⟩ : BufTy).Contents (Elt Ideal))
    (r : Fin 2048) (l' : Fin n) (l : Nat) (h : src l = o + l'.val) :
    extractStridedSlice (⟨2, ![2048, n]⟩ : Shape) ![0, o] (val_main_v1 (F := Ideal) w) hs (ix2 r l') = colAt (fun k => w (ix3 (0 : Fin 2) r k)) l := by
  have hb : o + n ≤ 14416 := hs.2 1
  have hl := l'.isLt
  refine (extractStridedSlice_apply ![0, o] _ hs (ix2 r l') (ix2 r (⟨o + l'.val, by omega⟩ : Fin 14416)) fun a => ?_).trans
    ((v1_at w r _).trans (col_piece (fun k => w (ix3 (0 : Fin 2) r k)) l _ h))
  fin_cases a
  · exact (Nat.zero_add _).symm
  · rfl

theorem v15_at (i : S2048x512.Idx) : val_main_v15 (F := Ideal) i = (0 : EReal) := by
  simp only [val_main_v15, val_main_cst]
  pointwise
theorem v17_at (i : S2048x256.Idx) : val_main_v17 (F := Ideal) i = (0 : EReal) := by
  simp only [val_main_v17, val_main_cst_0]
  pointwise
theorem v19_at (i : S2048x64.Idx) : val_main_v19 (F := Ideal) i = (0 : EReal) := by
  simp only [val_main_v19, val_main_cst_1]
  pointwise
theorem v21_at (i : S2048x80.Idx) : val_main_v21 (F := Ideal) i = (0 : EReal) := by
  simp only [val_main_v21, val_main_cst_2]
  pointwise

/-- The linear attention's columns. -/
theorem v16_at (w : (⟨S2x2048x14416, .f32⟩ : BufTy).Contents (Elt Ideal)) (r : Fin 2048) (l : Fin 2560) :
    val_main_v16 (F := Ideal) w (ix2 r l) = colAt (fun k => w (ix3 (0 : Fin 2) r k)) (8192 + l.val) := by
  unfold val_main_v16
  pointwise
  refine dite_eq_of_forall (fun h => ?_) fun h => dite_eq_of_forall (fun h => ?_) fun h => dite_eq_of_forall (fun h => ?_) fun h => ?_
  all_goals first
    | refine slice_piece _ _ w r _ _ ?_
      apply src_eq <;> intros <;> (try dsimp only) <;> omega
    | refine (v15_at _).trans (col_zero _ _ ?_)
      apply src_eq <;> intros <;> (try dsimp only) <;> omega

/-- The gates' columns. -/
theorem v18_at (w : (⟨S2x2048x14416, .f32⟩ : BufTy).Contents (Elt Ideal)) (r : Fin 2048) (l : Fin 3328) :
    val_main_v18 (F := Ideal) w (ix2 r l) = colAt (fun k => w (ix3 (0 : Fin 2) r k)) (10752 + l.val) := by
  unfold val_main_v18
  pointwise
  refine dite_eq_of_forall (fun h => ?_) fun h => dite_eq_of_forall (fun h => ?_) fun h => dite_eq_of_forall (fun h => ?_) fun h => ?_
  all_goals first
    | refine slice_piece _ _ w r _ _ ?_
      apply src_eq <;> intros <;> (try dsimp only) <;> omega
    | refine (v17_at _).trans (col_zero _ _ ?_)
      apply src_eq <;> intros <;> (try dsimp only) <;> omega

/-- The latents' columns. -/
theorem v20_at (w : (⟨S2x2048x14416, .f32⟩ : BufTy).Contents (Elt Ideal)) (r : Fin 2048) (l : Fin 1152) :
    val_main_v20 (F := Ideal) w (ix2 r l) = colAt (fun k => w (ix3 (0 : Fin 2) r k)) (14080 + l.val) := by
  unfold val_main_v20
  pointwise
  refine dite_eq_of_forall (fun h => ?_) fun h => dite_eq_of_forall (fun h => ?_) fun h => dite_eq_of_forall (fun h => ?_) fun h => ?_
  all_goals first
    | refine slice_piece _ _ w r _ _ ?_
      apply src_eq <;> intros <;> (try dsimp only) <;> omega
    | refine (v19_at _).trans (col_zero _ _ ?_)
      apply src_eq <;> intros <;> (try dsimp only) <;> omega

/-- The decay's columns. -/
theorem v22_at (w : (⟨S2x2048x14416, .f32⟩ : BufTy).Contents (Elt Ideal)) (r : Fin 2048) (l : Fin 128) :
    val_main_v22 (F := Ideal) w (ix2 r l) = colAt (fun k => w (ix3 (0 : Fin 2) r k)) (15232 + l.val) := by
  unfold val_main_v22
  pointwise
  refine dite_eq_of_forall (fun h => ?_) fun h => dite_eq_of_forall (fun h => ?_) fun h => dite_eq_of_forall (fun h => ?_) fun h => ?_
  all_goals first
    | refine slice_piece _ _ w r _ _ ?_
      apply src_eq <;> intros <;> (try dsimp only) <;> omega
    | refine (v21_at _).trans (col_zero _ _ ?_)
      apply src_eq <;> intros <;> (try dsimp only) <;> omega

/-- The reference, column by column. -/
theorem ref_at (w : (⟨S2x2048x14416, .f32⟩ : BufTy).Contents (Elt Ideal)) (r : Fin 2048) (l : Fin 15360) :
    val_main_v24 (F := Ideal) w (ix2 r l) = colAt (fun k => w (ix3 (0 : Fin 2) r k)) l.val := by
  unfold val_main_v24 val_main_v23
  pointwise
  refine dite_eq_of_forall (fun h => ?_) fun h => dite_eq_of_forall (fun h => ?_) fun h => dite_eq_of_forall (fun h => ?_) fun h => dite_eq_of_forall (fun h => ?_) fun h => dite_eq_of_forall (fun h => ?_) fun h => dite_eq_of_forall (fun h => ?_) fun h => ?_
  · refine slice_piece _ _ w r _ _ ?_
    apply src_eq <;> intros <;> (try dsimp only) <;> omega
  · refine slice_piece _ _ w r _ _ ?_
    apply src_eq <;> intros <;> (try dsimp only) <;> omega
  · refine slice_piece _ _ w r _ _ ?_
    apply src_eq <;> intros <;> (try dsimp only) <;> omega
  · refine (v16_at w r _).trans (congrArg (colAt _) ?_)
    dsimp only
    omega
  · refine (v18_at w r _).trans (congrArg (colAt _) ?_)
    dsimp only
    omega
  · refine (v20_at w r _).trans (congrArg (colAt _) ?_)
    dsimp only
    omega
  · refine (v22_at w r _).trans (congrArg (colAt _) ?_)
    dsimp only
    omega

/-- A block filled by several stores: where the last store reaches, its value, elsewhere what was there. -/
theorem canon_step {S : Shape} {e : EltTy} {y : S.Idx} {v : Elt Ideal e} (r : Rect S) (w : r.shape.Idx → Elt Ideal e)
    (L : List (View.Piece (Elt Ideal) S e)) (h₁ : ∀ x : r.shape.Idx, r.emb x = y → w x = v) (h₂ : y ∉ r.set → View.canon L y = v) :
    View.canon ((⟨r, w⟩ : View.Piece (Elt Ideal) S e) :: L) y = v := by
  by_cases hm : y ∈ r.set
  · obtain ⟨x, rfl⟩ := r.exists_idx_of_mem hm
    rw [show r.idx x = r.emb x from rfl, View.canon_cons_emb]
    exact h₁ x rfl
  · rw [View.canon_cons_of_not_mem _ _ hm]
    exact h₂ hm

/-- A block whose columns `o` to `o + n` were stored last, read at `y`: in those columns the stored value, elsewhere what was there. -/
theorem store_step {y : S128x15360.Idx} {v : Elt Ideal .bf16} (o n : Nat)
    (inb : ∀ a, (![0, o] : Fin S128x15360.rank → Nat) a + (![128, n] : Fin S128x15360.rank → Nat) a ≤ S128x15360.size a)
    (w : (Rect.unit (s := S128x15360) ![0, o] ![128, n] inb).shape.Idx → Elt Ideal .bf16) (L : List (View.Piece (Elt Ideal) S128x15360 .bf16))
    (h₁ : ∀ x : (Rect.unit (s := S128x15360) ![0, o] ![128, n] inb).shape.Idx, (y 0).val = (x 0).val → (y 1).val = o + (x 1).val → (x 1).val < n → w x = v)
    (h₂ : ¬ (o ≤ (y 1).val ∧ (y 1).val < o + n) → View.canon L y = v) :
    View.canon ((⟨Rect.unit (s := S128x15360) ![0, o] ![128, n] inb, w⟩ : View.Piece (Elt Ideal) S128x15360 .bf16) :: L) y = v := by
  have hu : y ∈ (Rect.unit (s := S128x15360) ![0, o] ![128, n] inb).set ↔ ∀ a, (![0, o] : Fin S128x15360.rank → Nat) a ≤ (y a).val
      ∧ (y a).val < (![0, o] : Fin S128x15360.rank → Nat) a + (![128, n] : Fin S128x15360.rank → Nat) a := Rect.mem_set_unit
  refine canon_step _ w L (fun x hx => h₁ x ?_ ?_ (x 1).isLt) fun hm => h₂ fun hy => hm (hu.mpr fun a => ?_)
  · rw [← hx]
    show 0 + 1 * (x 0).val = _
    omega
  · rw [← hx]
    show o + 1 * (x 1).val = _
    omega
  · fin_cases a
    · exact ⟨Nat.zero_le _, (y 0).isLt.trans_eq (Nat.zero_add _).symm⟩
    · exact hy

/-- The columns that no store but the first reaches hold zero. -/
theorem blank {l : Nat} (n0 : ¬(15264 ≤ l ∧ l < 15264 + 16)) (n1 : ¬(15248 ≤ l ∧ l < 15248 + 16)) (n2 : ¬(15232 ≤ l ∧ l < 15232 + 16)) (n3 : ¬(14080 ≤ l ∧ l < 14080 + 1088)) (n4 : ¬(12800 ≤ l ∧ l < 12800 + 1024))
    (n5 : ¬(11776 ≤ l ∧ l < 11776 + 1024)) (n6 : ¬(10752 ≤ l ∧ l < 10752 + 1024)) (n7 : ¬(8192 ≤ l ∧ l < 8192 + 2048)) (n8 : ¬(6144 ≤ l ∧ l < 6144 + 2048)) (n9 : ¬(0 ≤ l ∧ l < 0 + 6144)) : src l = 14416 :=
  src_eq (fun g => absurd ⟨Nat.zero_le _, g⟩ n9) (fun g g' => absurd ⟨g, g'⟩ n8) (fun g g' => absurd ⟨g, g'⟩ n7) (fun _ _ => rfl)
    (fun g g' => absurd ⟨g, g'⟩ n6) (fun g g' => absurd ⟨g, g'⟩ n5) (fun g g' => absurd ⟨g, g'⟩ n4) (fun _ _ => rfl)
    (fun g g' => absurd ⟨g, g'⟩ n3) (fun _ _ => rfl) (fun g g' => absurd ⟨g, g'⟩ n2) (fun g g' => absurd ⟨g, g'⟩ n1) (fun g g' => absurd ⟨g, g'⟩ n0)
    (fun _ => rfl)

/-- A stored column of a block, as a column of the result. -/
theorem blk_piece (x : S1x128x14416.Idx → EReal) (r r' : Fin 128) (k : Fin 14416) (l : Nat) (hr : r'.val = r.val) (h : src l = k.val) :
    x (ix3 (0 : Fin 1) r' k) = colAt (fun k => x (ix3 (0 : Fin 1) r k)) l := by
  rw [show r' = r from Fin.ext hr]
  exact col_piece (fun k => x (ix3 (0 : Fin 1) r k)) l k h

/-- The block that the kernel's body leaves, column by column. -/
theorem body (c : Dev nD) (t : Fin cfg0.N) (y : S128x15360.Idx) :
    outsAt0 m c t y = colAt (fun k => iblk m c 0 t (ix3 (0 : Fin 1) (y 0) k)) (y 1).val := by
  unfold outsAt0
  generalize iblk m c 0 t = x0
  frame_out
  refine store_step _ _ _ _ _ (fun x h0 h1 h2 => ?_) fun n0 => store_step _ _ _ _ _ (fun x h0 h1 h2 => ?_) fun n1 => store_step _ _ _ _ _ (fun x h0 h1 h2 => ?_) fun n2 => store_step _ _ _ _ _ (fun x h0 h1 h2 => ?_) fun n3 => store_step _ _ _ _ _ (fun x h0 h1 h2 => ?_) fun n4 =>
    store_step _ _ _ _ _ (fun x h0 h1 h2 => ?_) fun n5 => store_step _ _ _ _ _ (fun x h0 h1 h2 => ?_) fun n6 => store_step _ _ _ _ _ (fun x h0 h1 h2 => ?_) fun n7 => store_step _ _ _ _ _ (fun x h0 h1 h2 => ?_) fun n8 => store_step _ _ _ _ _ (fun x h0 h1 h2 => ?_) fun n9 =>
    store_step _ _ _ _ _ (fun x h0 h1 h2 => ?_) fun n => absurd ⟨Nat.zero_le _, (y 1).isLt.trans_eq (Nat.zero_add _).symm⟩ n
  case refine_11 =>
    open_payloads
    pointwise
    exact col_zero _ _ (blank n0 n1 n2 n3 n4 n5 n6 n7 n8 n9)
  all_goals
    clear * - h0 h1 h2
    open_payloads
    pointwise
    refine blk_piece x0 (y 0) (x 0) _ _ h0.symm ?_
    apply src_eq <;> intros <;> (try dsimp only) <;> omega

/-- Row `r` of block `t`. -/
theorem row_lt (t : Fin cfg0.N) (r : Fin 128) : t.val * 128 + r.val < 2048 := by
  have ht : t.val < 16 := t.isLt
  omega
def row (t : Fin cfg0.N) (r : Fin 128) : Fin 2048 := ⟨t.val * 128 + r.val, row_lt t r⟩

theorem in_0 (c : Dev nD) (t : Fin cfg0.N) (r : Fin 128) (k : Fin 14416) :
    iblk m c 0 t (ix3 (0 : Fin 1) r k) = m ((c : Thread nD τ).loc main_arg0) (ix3 (0 : Fin 2) (row t r) k) := by
  obtain ⟨i0, i1⟩ := index_eq t
  blk_ext [iblk, V, i0, row]

theorem place_1 (t : Fin cfg0.N) (y : ((cfg0.win 1).xblock (cfg0.grid.coords t)).Idx) :
    ((cfg0.win 1).blk t).view.emb y = ix2 (row t (y 0)) (y 1 : Fin 15360) := by
  obtain ⟨i0, i1⟩ := index_eq t
  blk_ext [i1, row]

/-- The kernel's array is the reference's. -/
theorem out_eq (c : Dev nD) :
    (dats m 0 c).arrAt 1 cfg0.N = val_main_v24 (F := Ideal) (m ((c : Thread nD τ).loc main_arg0)) := by
  refine (dats m 0 c).arrAt_eq_of_covers 1 _ (by decide +kernel) fun t hf y => ?_
  rw [place_1]
  refine Eq.trans ?_ (ref_at _ (row t (y 0)) (y 1)).symm
  blk_simp
  rw [after0_1]
  exact (body m c t y).trans (congrArg (fun f => colAt f (y 1).val) (funext fun k => in_0 m c t (y 0) k))

end Cert.RegroupIdeal.Hand

end
-- ==== Proof.Proj.Cast.lean ====
/- The rounding of the branch weights to bf16: the kernel's array is the reference's. -/
module

public import proofs.«01_k».proof.Proof.Gen.CastIdeal.Value
public import proofs.«01_k».proof.Proof.Gen.CastRefIdeal.Read
public import Idealize.ShloMosaic.Lib.Pipeline.ValueKit
public import Idealize.ShloMosaic.Lib.StableHlo.ReadAt

@[expose] public section

set_option maxRecDepth 16384

noncomputable section

namespace Cert.CastIdeal.Hand

open Cert.CastIdeal Cert.CastIdeal.Gen Cert.CastRefIdeal.Read Idealize.ShloMosaic Idealize.ShloMosaic.TcCoe Idealize.SL.Sem

variable (m : (ℓ : Loc nD τ sig) → Buf (Elt Ideal) ℓ)

theorem index_eq : ∀ t : Fin cfg0.N, (cfg0.win 0).index t = ![t.val, 0] ∧ (cfg0.win 1).index t = ![t.val, 0] := by decide +kernel

/-- The weights laid out in rows, as the kernel reads them, are the reference's. -/
theorem V_rows (c : Dev nD) : V m c main_v0 = val_main_v0 (F := Ideal) (m ((c : Thread nD τ).loc main_arg0)) := by
  unfold V
  after_reads_at
  funext i
  unfold val_main_v0
  pointwise

/-- The kernel's array is the reference's. -/
theorem out_eq (c : Dev nD) :
    (dats m 0 c).arrAt 1 cfg0.N = val_main_v1 (F := Ideal) (m ((c : Thread nD τ).loc main_arg0)) := by
  refine (dats m 0 c).arrAt_eq_of_covers 1 _ (by decide +kernel) fun t hf y => ?_
  obtain ⟨i0, i1⟩ := index_eq t
  blk_simp
  rw [after0_1]
  frame_out
  unfold k0_pay1 val_main_v1
  rw [← V_rows m c]
  pointwise
  blk_point [iblk, i0, i1]

end Cert.CastIdeal.Hand

end
-- ==== Proof.lean ====
/-
  The certificate's claim, from the runs of the programs and the equality of the two attentions.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Attn.Value
public import proofs.«01_k».proof.Proof.Attn.Frame
public import proofs.«01_k».proof.Proof.Attn.Pre
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Norm.Frame
public import proofs.«01_k».proof.Proof.Gen.NormIdeal.Value
public import proofs.«01_k».proof.Proof.Gen.NormRefIdeal.Run
public import proofs.«01_k».proof.Proof.Gen.NormRefIdeal.Read
public import proofs.«01_k».proof.Proof.Gen.Silu.Frame
public import proofs.«01_k».proof.Proof.Gen.SiluIdeal.Value
public import proofs.«01_k».proof.Proof.Gen.SiluRefIdeal.Run
public import proofs.«01_k».proof.Proof.Gen.SiluRefIdeal.Read
public import proofs.«01_k».proof.Proof.Gen.Sgu.Frame
public import proofs.«01_k».proof.Proof.Gen.SguIdeal.Value
public import proofs.«01_k».proof.Proof.Gen.SguRefIdeal.Run
public import proofs.«01_k».proof.Proof.Gen.SguRefIdeal.Read
public import proofs.«01_k».proof.Proof.Gen.GateGla.Frame
public import proofs.«01_k».proof.Proof.Gen.GateGlaIdeal.Value
public import proofs.«01_k».proof.Proof.Gen.Prep.Frame
public import proofs.«01_k».proof.Proof.Gen.PrepIdeal.Value
public import proofs.«01_k».proof.Proof.Gen.PrepRefIdeal.Run
public import proofs.«01_k».proof.Proof.Gen.PrepRefIdeal.Read
public import proofs.«01_k».proof.Proof.Gen.GateRefIdeal.Run
public import proofs.«01_k».proof.Proof.Gen.GateRefIdeal.Read
public import proofs.«01_k».proof.Proof.Proj.Merge
public import proofs.«01_k».proof.Proof.Proj.Out
public import proofs.«01_k».proof.Proof.Proj.Norm
public import proofs.«01_k».proof.Proof.Proj.Silu
public import proofs.«01_k».proof.Proof.Proj.Sgu
public import proofs.«01_k».proof.Proof.Proj.Gate
public import proofs.«01_k».proof.Proof.Proj.PrepEq
public import proofs.«01_k».proof.Proof.Proj.Rope
public import proofs.«01_k».proof.Proof.Proj.Regroup
public import proofs.«01_k».proof.Proof.Proj.Cast
public import proofs.«01_k».proof.Proof.Gen.Rope.Frame
public import proofs.«01_k».proof.Proof.Gen.RopeIdeal.Frame
public import proofs.«01_k».proof.Proof.Gen.RopeRefIdeal.Run
public import proofs.«01_k».proof.Proof.Gen.RopeRefIdeal.Read
public import proofs.«01_k».proof.Proof.Gen.Regroup.Frame
public import proofs.«01_k».proof.Proof.Gen.RegroupIdeal.Value
public import proofs.«01_k».proof.Proof.Gen.RegroupRefIdeal.Run
public import proofs.«01_k».proof.Proof.Gen.RegroupRefIdeal.Read
public import proofs.«01_k».proof.Proof.Gen.Cast.Frame
public import proofs.«01_k».proof.Proof.Gen.CastIdeal.Value
public import proofs.«01_k».proof.Proof.Gen.CastRefIdeal.Run
public import proofs.«01_k».proof.Proof.Gen.CastRefIdeal.Read
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference runs, leaves its arguments unchanged, and it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems rfl r.2⟩) (Cert.ReferenceIdeal.Value.run m g)

/-- Under the precondition the reference's result is the optimised attention's. -/
theorem attention_eq : algebraic_KernelIdeal_ReferenceIdeal_pre_finite_scores := by
  intro m g m' g' hpre harg
  refine ⟨fun c => Cert.KernelIdeal.Hand.result m c, Cert.KernelIdeal.Hand.run_value m g,
    (θ_run _ _ _).mono (fun r h c => ⟨(h c).1.trans ?_, (h c).2⟩) (Cert.ReferenceIdeal.Value.run m' g')⟩
  obtain ⟨hQ, hK, hV⟩ := Cert.Pre_finite_scores.Hand.facts_of _ _ _ _ (hpre c)
  obtain ⟨h0, h1, h2, h3⟩ := harg c
  rw [Cert.ReferenceIdeal.Read.val_main_v37_eq, h0, h1, h2, h3]
  funext y
  obtain ⟨b, e, r', n, rfl⟩ : ∃ (b e : Fin 8) (r' : Fin 512) (n : Fin 1024), y = ix4 b e r' n :=
    ⟨y 0, y 1, y 2, y 3, by
      funext a
      match a with
      | ⟨0, _⟩ => rfl
      | ⟨1, _⟩ => rfl
      | ⟨2, _⟩ => rfl
      | ⟨3, _⟩ => rfl⟩
  exact Cert.ReferenceIdeal.Hand.v37_eq _ _ _ _ hQ hK hV b e r' n

/-- The reference of Merge runs, leaves its arguments unchanged, and it has no semaphore. -/
theorem merge_reference_frame : quiescent_MergeRefIdeal := fun m g _ =>
  (θ_run _ _ _).mono (fun r h => ⟨fun c => (h c).2, sem_eq_zero_of_no_sems rfl r.2⟩) (Cert.MergeRefIdeal.Value.run m g)

/-- The reference of Out runs, leaves its arguments unchanged, and it has no semaphore. -/
theorem out_reference_frame : quiescent_OutRefIdeal := fun m g _ =>
  (θ_run _ _ _).mono (fun r h => ⟨fun c => (h c).2, sem_eq_zero_of_no_sems rfl r.2⟩) (Cert.OutRefIdeal.Value.run m g)

/-- The reference of Norm runs, leaves its arguments unchanged, and it has no semaphore. -/
theorem norm_reference_frame : quiescent_NormRefIdeal := fun m g _ =>
  (θ_run _ _ _).mono (fun r h => ⟨fun c => (h c).2.2, sem_eq_zero_of_no_sems rfl r.2⟩) (Cert.NormRefIdeal.Value.run m g)

/-- The reference of Silu runs, leaves its arguments unchanged, and it has no semaphore. -/
theorem silu_reference_frame : quiescent_SiluRefIdeal := fun m g _ =>
  (θ_run _ _ _).mono (fun r h => ⟨fun c => (h c).2, sem_eq_zero_of_no_sems rfl r.2⟩) (Cert.SiluRefIdeal.Value.run m g)

/-- The reference of Sgu runs, leaves its arguments unchanged, and it has no semaphore. -/
theorem sgu_reference_frame : quiescent_SguRefIdeal := fun m g _ =>
  (θ_run _ _ _).mono (fun r h => ⟨fun c => (h c).2.2, sem_eq_zero_of_no_sems rfl r.2⟩) (Cert.SguRefIdeal.Value.run m g)

/-- The reference of Gate runs, leaves its arguments unchanged, and it has no semaphore. -/
theorem gate_reference_frame : quiescent_GateRefIdeal := fun m g _ =>
  (θ_run _ _ _).mono (fun r h => ⟨fun c => (h c).2.2, sem_eq_zero_of_no_sems rfl r.2⟩) (Cert.GateRefIdeal.Value.run m g)

/-- The reference of Rope runs, leaves its arguments unchanged, and it has no semaphore. -/
theorem rope_reference_frame : quiescent_RopeRefIdeal := fun m g _ =>
  (θ_run _ _ _).mono (fun r h => ⟨fun c => (h c).2.2, sem_eq_zero_of_no_sems rfl r.2⟩) (Cert.RopeRefIdeal.Value.run m g)

/-- The reference of Regroup runs, leaves its arguments unchanged, and it has no semaphore. -/
theorem regroup_reference_frame : quiescent_RegroupRefIdeal := fun m g _ =>
  (θ_run _ _ _).mono (fun r h => ⟨fun c => (h c).2, sem_eq_zero_of_no_sems rfl r.2⟩) (Cert.RegroupRefIdeal.Value.run m g)

/-- The reference of Cast runs, leaves its arguments unchanged, and it has no semaphore. -/
theorem cast_reference_frame : quiescent_CastRefIdeal := fun m g _ =>
  (θ_run _ _ _).mono (fun r h => ⟨fun c => (h c).2, sem_eq_zero_of_no_sems rfl r.2⟩) (Cert.CastRefIdeal.Value.run m g)

/-- The reference of the projection program runs, leaves its arguments unchanged, and it has no semaphore. -/
theorem prep_reference_frame : quiescent_PrepRefIdeal := fun m g _ =>
  (θ_run _ _ _).mono (fun r h => ⟨fun c => (h c).2.2.2, sem_eq_zero_of_no_sems rfl r.2⟩) (Cert.PrepRefIdeal.Value.run m g)

/-- The merge's result is the reference's. -/
theorem merge_eq : algebraic_MergeIdeal_MergeRefIdeal := by
  intro m g m' g' _ harg
  refine ⟨fun c => (Cert.MergeIdeal.Gen.dats m 0 c).arrAt 7 Cert.MergeIdeal.cfg0.N, Cert.MergeIdeal.Value.run_blocks m g,
    (θ_run _ _ _).mono (fun r h c => ⟨(h c).1.trans ?_, (h c).2⟩) (Cert.MergeRefIdeal.Value.run m' g')⟩
  obtain ⟨h0, h1, h2, h3, h4⟩ := harg c
  rw [Cert.MergeRefIdeal.Read.val_main_v28_eq, h0, h1, h2, h3, h4]
  exact (Cert.MergeIdeal.Hand.out_eq m c).symm

/-- The output projection's result is the reference's. -/
theorem out_eq : algebraic_OutIdeal_OutRefIdeal := by
  intro m g m' g' _ harg
  refine ⟨fun c => (Cert.OutIdeal.Gen.dats m 0 c).arrAt 3 Cert.OutIdeal.cfg0.N, Cert.OutIdeal.Value.run_blocks m g,
    (θ_run _ _ _).mono (fun r h c => ⟨(h c).1.trans ?_, (h c).2⟩) (Cert.OutRefIdeal.Value.run m' g')⟩
  obtain ⟨h0, h1, h2⟩ := harg c
  rw [Cert.OutRefIdeal.Read.val_main_v5_eq, h0, h1, h2]
  exact (Cert.OutIdeal.Hand.out_eq m c).symm

/-- The normalised rows and their projection are the reference's. -/
theorem norm_eq : algebraic_NormIdeal_NormRefIdeal := by
  intro m g m' g' _ harg
  refine ⟨fun c => (Cert.NormIdeal.Gen.dats m 0 c).arrAt 3 Cert.NormIdeal.cfg0.N,
    fun c => (Cert.NormIdeal.Gen.dats m 0 c).arrAt 4 Cert.NormIdeal.cfg0.N, Cert.NormIdeal.Value.run_blocks m g,
    (θ_run _ _ _).mono (fun r h c => ⟨(h c).1.trans ?_, (h c).2.1.trans ?_, (h c).2.2⟩) (Cert.NormRefIdeal.Value.run m' g')⟩
  all_goals obtain ⟨h0, h1, h2⟩ := harg c
  · rw [Cert.NormRefIdeal.Read.val_main_v13_eq, h0, h1]
    exact (Cert.NormIdeal.Hand.rows_eq m c).symm
  · rw [Cert.NormRefIdeal.Read.val_main_v16_eq, h0, h1, h2]
    exact (Cert.NormIdeal.Hand.proj_eq m c).symm

/-- The branch gates are the reference's. -/
theorem silu_eq : algebraic_SiluIdeal_SiluRefIdeal := by
  intro m g m' g' _ harg
  refine ⟨fun c => (Cert.SiluIdeal.Gen.dats m 0 c).arrAt 2 Cert.SiluIdeal.cfg0.N, Cert.SiluIdeal.Value.run_blocks m g,
    (θ_run _ _ _).mono (fun r h c => ⟨(h c).1.trans ?_, (h c).2⟩) (Cert.SiluRefIdeal.Value.run m' g')⟩
  obtain ⟨h0, h1⟩ := harg c
  rw [Cert.SiluRefIdeal.Read.val_main_v5_eq, h0, h1]
  exact (Cert.SiluIdeal.Hand.out_eq m c).symm

/-- The projection and the gated mix are the reference's. -/
theorem sgu_eq : algebraic_SguIdeal_SguRefIdeal := by
  intro m g m' g' _ harg
  refine ⟨fun c => (Cert.SguIdeal.Gen.dats m 0 c).arrAt 7 Cert.SguIdeal.cfg0.N,
    fun c => (Cert.SguIdeal.Gen.dats m 0 c).arrAt 8 Cert.SguIdeal.cfg0.N, Cert.SguIdeal.Value.run_blocks m g,
    (θ_run _ _ _).mono (fun r h c => ⟨(h c).1.trans ?_, (h c).2.1.trans ?_, (h c).2.2⟩) (Cert.SguRefIdeal.Value.run m' g')⟩
  all_goals obtain ⟨h0, h1, h2, h3, h4, h5⟩ := harg c
  · rw [Cert.SguRefIdeal.Read.val_main_v58_eq, h0, h1]
    exact (Cert.SguIdeal.Hand.proj_eq m c).symm
  · rw [Cert.SguRefIdeal.Read.val_main_v64_eq, h0, h1, h2, h3, h4, h5]
    exact (Cert.SguIdeal.Hand.mix_eq m c).symm

/-- The merge gates are the reference's; the mask selects no element of the other result. -/
theorem gate_eq : algebraic_GateGlaIdeal_GateRefIdeal_on_merge_gates := by
  intro m g m' g' _ harg
  refine ⟨fun c => Cert.GateRefIdeal.Read.val_main_v10 (F := Ideal) (m (c.tc.loc Cert.GateGlaIdeal.main_arg0))
      (m (c.tc.loc Cert.GateGlaIdeal.main_arg1)), fun c => (Cert.GateGlaIdeal.Gen.dats m 0 c).arrAt 11 Cert.GateGlaIdeal.cfg0.N,
    (θ_run _ _ _).mono (fun r h c => ⟨fun i _ => congrFun ((h c).1.trans (Cert.GateGlaIdeal.Hand.gate_eq m c)) i,
      fun i hi => absurd hi (show ¬(0#1 = 1#1) by decide), (h c).2.2⟩) (Cert.GateGlaIdeal.Value.run_blocks m g),
    (θ_run _ _ _).mono (fun r h c => ⟨fun i _ => congrFun ((h c).1.trans ?_) i,
      fun i hi => absurd hi (show ¬(0#1 = 1#1) by decide), (h c).2.2⟩) (Cert.GateRefIdeal.Value.run m' g')⟩
  obtain ⟨h0, h1, -⟩ := harg c
  rw [Cert.GateRefIdeal.Read.val_main_v10_eq, h0, h1]

/-- The queries, keys and values before the attention are the reference's, if the tables have the form the rotation assumes. -/
theorem prep_eq : algebraic_PrepIdeal_PrepRefIdeal_pre_rotary_tables := by
  intro m g m' g' hpre harg
  refine ⟨fun c => (Cert.PrepIdeal.Gen.dats m 0 c).arrAt 14 Cert.PrepIdeal.cfg0.N,
    fun c => (Cert.PrepIdeal.Gen.dats m 0 c).arrAt 15 Cert.PrepIdeal.cfg0.N,
    fun c => (Cert.PrepIdeal.Gen.dats m 0 c).arrAt 16 Cert.PrepIdeal.cfg0.N, Cert.PrepIdeal.Value.run_blocks m g,
    (θ_run _ _ _).mono (fun r h c => ⟨(h c).1.trans ?_, (h c).2.1.trans ?_, (h c).2.2.1.trans ?_, (h c).2.2.2⟩)
      (Cert.PrepRefIdeal.Value.run m' g')⟩
  all_goals obtain ⟨h0, h1, h2, h3, h4, h5, h6, h7, h8⟩ := harg c
  · rw [Cert.PrepRefIdeal.Read.val_main_v111_eq, h0, h1, h2, h3, h5, h7]
    exact (Cert.PrepIdeal.Hand.q_eq m c (hpre c)).symm
  · rw [Cert.PrepRefIdeal.Read.val_main_v112_eq, h0, h1, h2, h4, h6, h8]
    exact (Cert.PrepIdeal.Hand.k_eq m c (hpre c)).symm
  · rw [Cert.PrepRefIdeal.Read.val_main_v113_eq, h0, h4, h6]
    exact (Cert.PrepIdeal.Hand.v_eq m c).symm

/-- The tables of the rotary embedding are the reference's. -/
theorem rope_eq : algebraic_RopeIdeal_RopeRefIdeal := by
  intro m g m' g' _ harg
  refine ⟨fun c => (Cert.RopeIdeal.Gen.dats m 0 c).arrAt 3 Cert.RopeIdeal.cfg0.N,
    fun c => (Cert.RopeIdeal.Gen.dats m 0 c).arrAt 4 Cert.RopeIdeal.cfg0.N, Cert.RopeIdeal.Hand.run_blocks m g,
    (θ_run _ _ _).mono (fun r h c => ⟨(h c).1.trans ?_, (h c).2.1.trans ?_, (h c).2.2⟩) (Cert.RopeRefIdeal.Value.run m' g')⟩
  all_goals have h0 := harg c
  · rw [Cert.RopeRefIdeal.Read.val_main_v21_eq, h0]
    exact (Cert.RopeIdeal.Hand.cos_eq m c).symm
  · rw [Cert.RopeRefIdeal.Read.val_main_v24_eq, h0]
    exact (Cert.RopeIdeal.Hand.sin_eq m c).symm

/-- The regrouped weights are the reference's. -/
theorem regroup_eq : algebraic_RegroupIdeal_RegroupRefIdeal := by
  intro m g m' g' _ harg
  refine ⟨fun c => (Cert.RegroupIdeal.Gen.dats m 0 c).arrAt 1 Cert.RegroupIdeal.cfg0.N, Cert.RegroupIdeal.Value.run_blocks m g,
    (θ_run _ _ _).mono (fun r h c => ⟨(h c).1.trans ?_, (h c).2⟩) (Cert.RegroupRefIdeal.Value.run m' g')⟩
  have h0 := harg c
  rw [Cert.RegroupRefIdeal.Read.val_main_v24_eq, h0]
  exact (Cert.RegroupIdeal.Hand.out_eq m c).symm

/-- The rounded weights are the reference's. -/
theorem cast_eq : algebraic_CastIdeal_CastRefIdeal := by
  intro m g m' g' _ harg
  refine ⟨fun c => (Cert.CastIdeal.Gen.dats m 0 c).arrAt 1 Cert.CastIdeal.cfg0.N, Cert.CastIdeal.Value.run_blocks m g,
    (θ_run _ _ _).mono (fun r h c => ⟨(h c).1.trans ?_, (h c).2⟩) (Cert.CastRefIdeal.Value.run m' g')⟩
  have h0 := harg c
  rw [Cert.CastRefIdeal.Read.val_main_v1_eq, h0]
  exact (Cert.CastIdeal.Hand.out_eq m c).symm

theorem claim : Cert.Claim :=
  ⟨Cert.Kernel.Gen.facts, Cert.KernelIdeal.Gen.facts, Cert.ReferenceIdeal.Gen.facts, Cert.Merge.Gen.facts, Cert.MergeIdeal.Gen.facts, Cert.MergeRefIdeal.Gen.facts, Cert.Out.Gen.facts, Cert.OutIdeal.Gen.facts, Cert.OutRefIdeal.Gen.facts, Cert.Norm.Gen.facts, Cert.NormIdeal.Gen.facts, Cert.NormRefIdeal.Gen.facts, Cert.Silu.Gen.facts, Cert.SiluIdeal.Gen.facts, Cert.SiluRefIdeal.Gen.facts, Cert.Sgu.Gen.facts, Cert.SguIdeal.Gen.facts, Cert.SguRefIdeal.Gen.facts, Cert.GateGla.Gen.facts, Cert.GateGlaIdeal.Gen.facts, Cert.GateRefIdeal.Gen.facts, Cert.Prep.Gen.facts, Cert.PrepIdeal.Gen.facts, Cert.PrepRefIdeal.Gen.facts, Cert.Rope.Gen.facts, Cert.RopeIdeal.Gen.facts, Cert.RopeRefIdeal.Gen.facts, Cert.Regroup.Gen.facts, Cert.RegroupIdeal.Gen.facts, Cert.RegroupRefIdeal.Gen.facts, Cert.Cast.Gen.facts, Cert.CastIdeal.Gen.facts, Cert.CastRefIdeal.Gen.facts, Cert.Pre_finite_scores.Hand.facts, Cert.Pre_rotary_tables.Hand.facts, Cert.On_merge_gates.Hand.facts,
    fun m g _ => Cert.Kernel.Hand.frame m g,
    fun m g _ => Cert.KernelIdeal.Hand.frame m g,
    fun m g _ => Cert.KernelIdeal.Hand.frame m g,
    fun m g _ => reference_frame m g,
    fun m g _ => reference_frame m g,
    fun m g _ => Cert.Merge.Gen.frame m g,
    fun m g _ => Cert.MergeIdeal.Gen.frame m g,
    merge_reference_frame,
    fun m g _ => Cert.Out.Gen.frame m g,
    fun m g _ => Cert.OutIdeal.Gen.frame m g,
    out_reference_frame,
    fun m g _ => Cert.Norm.Gen.frame m g,
    fun m g _ => Cert.NormIdeal.Gen.frame m g,
    norm_reference_frame,
    fun m g _ => Cert.Silu.Gen.frame m g,
    fun m g _ => Cert.SiluIdeal.Gen.frame m g,
    silu_reference_frame,
    fun m g _ => Cert.Sgu.Gen.frame m g,
    fun m g _ => Cert.SguIdeal.Gen.frame m g,
    sgu_reference_frame,
    fun m g _ => Cert.GateGla.Gen.frame m g,
    fun m g _ => Cert.GateGlaIdeal.Gen.frame m g,
    gate_reference_frame,
    fun m g _ => Cert.Prep.Gen.frame m g,
    fun m g _ => Cert.PrepIdeal.Gen.frame m g,
    fun m g _ => Cert.PrepIdeal.Gen.frame m g,
    prep_reference_frame,
    fun m g _ => prep_reference_frame m g trivial,
    fun m g _ => Cert.Rope.Gen.frame m g,
    fun m g _ => Cert.RopeIdeal.Gen.frame m g,
    rope_reference_frame,
    fun m g _ => Cert.Regroup.Gen.frame m g,
    fun m g _ => Cert.RegroupIdeal.Gen.frame m g,
    regroup_reference_frame,
    fun m g _ => Cert.Cast.Gen.frame m g,
    fun m g _ => Cert.CastIdeal.Gen.frame m g,
    cast_reference_frame,
    IdealRules.named_const.statement Cert.KernelIdeal.κ "mask" .f32 0xF149F2CA#32 ⊥ rfl,
    attention_eq,
    trivial,
    merge_eq,
    trivial,
    out_eq,
    trivial,
    norm_eq,
    trivial,
    silu_eq,
    trivial,
    sgu_eq,
    trivial,
    gate_eq,
    IdealRules.named_const.statement Cert.PrepIdeal.κ "inv_qk" .f32 0x3BAAAAAB#32 ((192⁻¹ : ℝ) : EReal) rfl,
    prep_eq,
    trivial,
    rope_eq,
    trivial,
    regroup_eq,
    trivial,
    cast_eq⟩

end Cert.Proof

end
